-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Reference (m : (ℓ : Loc Cert.Reference.nD Cert.Reference.τ Cert.Reference.sig) → Buf (Elt Bits) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_InReference (m : (ℓ : Loc Cert.InReference.nD Cert.InReference.τ Cert.InReference.sig) → Buf (Elt Bits) ℓ) : Prop :=
  True

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_FwdReference (m : (ℓ : Loc Cert.FwdReference.nD Cert.FwdReference.τ Cert.FwdReference.sig) → Buf (Elt Bits) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutKernelIdeal_finite_out [hPre_finite_out : Cert.Pre_finite_out.Facts] (m : (ℓ : Loc Cert.OutKernelIdeal.nD Cert.OutKernelIdeal.τ Cert.OutKernelIdeal.sig) → Buf (Elt Ideal) ℓ) : Prop :=
  ∀ c : Dev Cert.OutKernelIdeal.nD,
    (Cert.Pre_finite_out.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7))).1 = (fun _ => 1#1)
    ∧ (Cert.Pre_finite_out.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7))).2.1 = (fun _ => 1#1)
    ∧ (Cert.Pre_finite_out.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7))).2.2.1 = (fun _ => 1#1)
    ∧ (Cert.Pre_finite_out.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7))).2.2.2.1 = (fun _ => 1#1)
    ∧ (Cert.Pre_finite_out.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7))).2.2.2.2.1 = (fun _ => 1#1)
    ∧ (Cert.Pre_finite_out.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7))).2.2.2.2.2.1 = (fun _ => 1#1)
    ∧ (Cert.Pre_finite_out.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7))).2.2.2.2.2.2.1 = (fun _ => 1#1)
    ∧ (Cert.Pre_finite_out.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7))).2.2.2.2.2.2.2 = (fun _ => 1#1)

def Pre_OutReferenceIdeal (m : (ℓ : Loc Cert.OutReferenceIdeal.nD Cert.OutReferenceIdeal.τ Cert.OutReferenceIdeal.sig) → Buf (Elt Ideal) ℓ) : Prop :=
  True

def Pre_OutReferenceIdeal_finite_out [hPre_finite_out : Cert.Pre_finite_out.Facts] (m : (ℓ : Loc Cert.OutReferenceIdeal.nD Cert.OutReferenceIdeal.τ Cert.OutReferenceIdeal.sig) → Buf (Elt Ideal) ℓ) : Prop :=
  ∀ c : Dev Cert.OutReferenceIdeal.nD,
    (Cert.Pre_finite_out.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7))).1 = (fun _ => 1#1)
    ∧ (Cert.Pre_finite_out.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7))).2.1 = (fun _ => 1#1)
    ∧ (Cert.Pre_finite_out.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7))).2.2.1 = (fun _ => 1#1)
    ∧ (Cert.Pre_finite_out.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7))).2.2.2.1 = (fun _ => 1#1)
    ∧ (Cert.Pre_finite_out.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7))).2.2.2.2.1 = (fun _ => 1#1)
    ∧ (Cert.Pre_finite_out.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7))).2.2.2.2.2.1 = (fun _ => 1#1)
    ∧ (Cert.Pre_finite_out.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7))).2.2.2.2.2.2.1 = (fun _ => 1#1)
    ∧ (Cert.Pre_finite_out.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7))).2.2.2.2.2.2.2 = (fun _ => 1#1)

def Pre_OutReference (m : (ℓ : Loc Cert.OutReference.nD Cert.OutReference.τ Cert.OutReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_InReference [hInReference : Cert.InReference.Facts] : Prop :=
  ∀ (m : (ℓ : Loc Cert.InReference.nD Cert.InReference.τ Cert.InReference.sig) → Buf (Elt Bits) ℓ) (g : Dev Cert.InReference.nD → PrngReg), Pre_InReference m →
    θ_run (Cert.InReference.defs (F := Bits)) (onTc (τ := Cert.InReference.τ) (Cert.InReference.main (F := Bits))) ⟨m, fun _ => 0, g⟩ (fun r => (∀ c : Dev Cert.InReference.nD,
      r.2.mem ((c.tc : Thread Cert.InReference.nD Cert.InReference.τ).loc Cert.InReference.main_arg0) = m ((c.tc : Thread Cert.InReference.nD Cert.InReference.τ).loc Cert.InReference.main_arg0)
      ∧ r.2.mem ((c.tc : Thread Cert.InReference.nD Cert.InReference.τ).loc Cert.InReference.main_arg1) = m ((c.tc : Thread Cert.InReference.nD Cert.InReference.τ).loc Cert.InReference.main_arg1)
      ∧ r.2.mem ((c.tc : Thread Cert.InReference.nD Cert.InReference.τ).loc Cert.InReference.main_arg2) = m ((c.tc : Thread Cert.InReference.nD Cert.InReference.τ).loc Cert.InReference.main_arg2)
      ∧ r.2.mem ((c.tc : Thread Cert.InReference.nD Cert.InReference.τ).loc Cert.InReference.main_arg3) = m ((c.tc : Thread Cert.InReference.nD Cert.InReference.τ).loc Cert.InReference.main_arg3)
      ∧ r.2.mem ((c.tc : Thread Cert.InReference.nD Cert.InReference.τ).loc Cert.InReference.main_arg4) = m ((c.tc : Thread Cert.InReference.nD Cert.InReference.τ).loc Cert.InReference.main_arg4))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def quiescent_FwdReference [hFwdReference : Cert.FwdReference.Facts] : Prop :=
  ∀ (m : (ℓ : Loc Cert.FwdReference.nD Cert.FwdReference.τ Cert.FwdReference.sig) → Buf (Elt Bits) ℓ) (g : Dev Cert.FwdReference.nD → PrngReg), Pre_FwdReference m →
    θ_run (Cert.FwdReference.defs (F := Bits)) (onTc (τ := Cert.FwdReference.τ) (Cert.FwdReference.main (F := Bits))) ⟨m, fun _ => 0, g⟩ (fun r => (∀ c : Dev Cert.FwdReference.nD,
      r.2.mem ((c.tc : Thread Cert.FwdReference.nD Cert.FwdReference.τ).loc Cert.FwdReference.main_arg0) = m ((c.tc : Thread Cert.FwdReference.nD Cert.FwdReference.τ).loc Cert.FwdReference.main_arg0)
      ∧ r.2.mem ((c.tc : Thread Cert.FwdReference.nD Cert.FwdReference.τ).loc Cert.FwdReference.main_arg1) = m ((c.tc : Thread Cert.FwdReference.nD Cert.FwdReference.τ).loc Cert.FwdReference.main_arg1)
      ∧ r.2.mem ((c.tc : Thread Cert.FwdReference.nD Cert.FwdReference.τ).loc Cert.FwdReference.main_arg2) = m ((c.tc : Thread Cert.FwdReference.nD Cert.FwdReference.τ).loc Cert.FwdReference.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7))
      ∧ r.2.sem = fun _ => 0)

def quiescent_OutKernelIdeal_pre_finite_out [hOutKernelIdeal : Cert.OutKernelIdeal.Facts] [hPre_finite_out : Cert.Pre_finite_out.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal_finite_out m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7))
      ∧ r.2.sem = fun _ => 0)

def quiescent_OutReferenceIdeal_pre_finite_out [hOutReferenceIdeal : Cert.OutReferenceIdeal.Facts] [hPre_finite_out : Cert.Pre_finite_out.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal_finite_out m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7))
      ∧ r.2.sem = fun _ => 0)

def quiescent_OutReference [hOutReference : Cert.OutReference.Facts] : Prop :=
  ∀ (m : (ℓ : Loc Cert.OutReference.nD Cert.OutReference.τ Cert.OutReference.sig) → Buf (Elt Bits) ℓ) (g : Dev Cert.OutReference.nD → PrngReg), Pre_OutReference m →
    θ_run (Cert.OutReference.defs (F := Bits)) (onTc (τ := Cert.OutReference.τ) (Cert.OutReference.main (F := Bits))) ⟨m, fun _ => 0, g⟩ (fun r => (∀ c : Dev Cert.OutReference.nD,
      r.2.mem ((c.tc : Thread Cert.OutReference.nD Cert.OutReference.τ).loc Cert.OutReference.main_arg0) = m ((c.tc : Thread Cert.OutReference.nD Cert.OutReference.τ).loc Cert.OutReference.main_arg0)
      ∧ r.2.mem ((c.tc : Thread Cert.OutReference.nD Cert.OutReference.τ).loc Cert.OutReference.main_arg1) = m ((c.tc : Thread Cert.OutReference.nD Cert.OutReference.τ).loc Cert.OutReference.main_arg1)
      ∧ r.2.mem ((c.tc : Thread Cert.OutReference.nD Cert.OutReference.τ).loc Cert.OutReference.main_arg2) = m ((c.tc : Thread Cert.OutReference.nD Cert.OutReference.τ).loc Cert.OutReference.main_arg2)
      ∧ r.2.mem ((c.tc : Thread Cert.OutReference.nD Cert.OutReference.τ).loc Cert.OutReference.main_arg3) = m ((c.tc : Thread Cert.OutReference.nD Cert.OutReference.τ).loc Cert.OutReference.main_arg3)
      ∧ r.2.mem ((c.tc : Thread Cert.OutReference.nD Cert.OutReference.τ).loc Cert.OutReference.main_arg4) = m ((c.tc : Thread Cert.OutReference.nD Cert.OutReference.τ).loc Cert.OutReference.main_arg4)
      ∧ r.2.mem ((c.tc : Thread Cert.OutReference.nD Cert.OutReference.τ).loc Cert.OutReference.main_arg5) = m ((c.tc : Thread Cert.OutReference.nD Cert.OutReference.τ).loc Cert.OutReference.main_arg5)
      ∧ r.2.mem ((c.tc : Thread Cert.OutReference.nD Cert.OutReference.τ).loc Cert.OutReference.main_arg6) = m ((c.tc : Thread Cert.OutReference.nD Cert.OutReference.τ).loc Cert.OutReference.main_arg6)
      ∧ r.2.mem ((c.tc : Thread Cert.OutReference.nD Cert.OutReference.τ).loc Cert.OutReference.main_arg7) = m ((c.tc : Thread Cert.OutReference.nD Cert.OutReference.τ).loc Cert.OutReference.main_arg7))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)
  ∧ IdealRules.named_const.Statement Cert.KernelIdeal.κ "qs" .f32 0x3E16C740#32 (((3424635 / 33554432) * (Real.log 2)⁻¹ : ℝ) : EReal)

def preserves_Reference_ReferenceIdeal : Prop :=
  True

def algebraic_KernelIdeal_ReferenceIdeal_on_used_lanes_pre_finite [hKernelIdeal : Cert.KernelIdeal.Facts] [hReferenceIdeal : Cert.ReferenceIdeal.Facts] [hPre_finite : Cert.Pre_finite.Facts] [hOn_used_lanes : Cert.On_used_lanes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v86_0)) (v1 : (c : Dev Cert.KernelIdeal.nD) → Buf (Elt Ideal) ((c.tc : Thread Cert.KernelIdeal.nD Cert.KernelIdeal.τ).loc Cert.KernelIdeal.main_v86_1)) (v2 : (c : Dev Cert.KernelIdeal.nD) → Buf (Elt Ideal) ((c.tc : Thread Cert.KernelIdeal.nD Cert.KernelIdeal.τ).loc Cert.KernelIdeal.main_v86_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4352, 1024]⟩ : Shape).Idx, (Cert.On_used_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v86_0) i = v0 c i)
          ∧ (∀ i : (⟨2, ![4352, 1024]⟩ : Shape).Idx, (Cert.On_used_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v86_1) i = v1 c i)
          ∧ (∀ i : (⟨2, ![4352, 512]⟩ : Shape).Idx, (Cert.On_used_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 i = 1#1 → r.2.mem ((c.tc : Thread Cert.KernelIdeal.nD Cert.KernelIdeal.τ).loc Cert.KernelIdeal.main_v86_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4352, 1024]⟩ : Shape).Idx, (Cert.On_used_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v69) i = v0 c i)
          ∧ (∀ i : (⟨2, ![4352, 1024]⟩ : Shape).Idx, (Cert.On_used_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v75) i = v1 c i)
          ∧ (∀ i : (⟨2, ![4352, 512]⟩ : Shape).Idx, (Cert.On_used_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 i = 1#1 → r.2.mem ((c.tc : Thread Cert.ReferenceIdeal.nD Cert.ReferenceIdeal.τ).loc Cert.ReferenceIdeal.main_v80) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InKernel_InKernelIdeal : Prop :=
  True

def preserves_InReference_InReferenceIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v78_0)) (v1 : (c : Dev Cert.InKernelIdeal.nD) → Buf (Elt Ideal) ((c.tc : Thread Cert.InKernelIdeal.nD Cert.InKernelIdeal.τ).loc Cert.InKernelIdeal.main_v78_1)) (v2 : (c : Dev Cert.InKernelIdeal.nD) → Buf (Elt Ideal) ((c.tc : Thread Cert.InKernelIdeal.nD Cert.InKernelIdeal.τ).loc Cert.InKernelIdeal.main_v78_2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v78_0) = v0 c
          ∧ r.2.mem ((c.tc : Thread Cert.InKernelIdeal.nD Cert.InKernelIdeal.τ).loc Cert.InKernelIdeal.main_v78_1) = v1 c
          ∧ r.2.mem ((c.tc : Thread Cert.InKernelIdeal.nD Cert.InKernelIdeal.τ).loc Cert.InKernelIdeal.main_v78_2) = v2 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v45) = v0 c
          ∧ r.2.mem ((c.tc : Thread Cert.InReferenceIdeal.nD Cert.InReferenceIdeal.τ).loc Cert.InReferenceIdeal.main_v61) = v1 c
          ∧ r.2.mem ((c.tc : Thread Cert.InReferenceIdeal.nD Cert.InReferenceIdeal.τ).loc Cert.InReferenceIdeal.main_v62) = v2 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_FwdKernel_FwdKernelIdeal : Prop :=
  IdealRules.named_const.Statement Cert.FwdKernelIdeal.κ "qa" .f32 0x3E38AA3B#32 (((1 / 8) * (Real.log 2)⁻¹ : ℝ) : EReal)

def preserves_FwdReference_FwdReferenceIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)) →
    ∃ (v0 : (c : Dev Cert.FwdKernelIdeal.nD) → Buf (Elt Ideal) ((c.tc : Thread Cert.FwdKernelIdeal.nD Cert.FwdKernelIdeal.τ).loc Cert.FwdKernelIdeal.main_v35_0)) (v1 : (c : Dev Cert.FwdKernelIdeal.nD) → Buf (Elt Ideal) ((c.tc : Thread Cert.FwdKernelIdeal.nD Cert.FwdKernelIdeal.τ).loc Cert.FwdKernelIdeal.main_v35_1)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v35_0) = v0 c
          ∧ r.2.mem ((c.tc : Thread Cert.FwdKernelIdeal.nD Cert.FwdKernelIdeal.τ).loc Cert.FwdKernelIdeal.main_v35_1) = v1 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v36) = v0 c
          ∧ r.2.mem ((c.tc : Thread Cert.FwdReferenceIdeal.nD Cert.FwdReferenceIdeal.τ).loc Cert.FwdReferenceIdeal.main_v41) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2))

def preserves_OutKernel_OutKernelIdeal : Prop :=
  True

def preserves_OutReference_OutReferenceIdeal : Prop :=
  True

def algebraic_OutKernelIdeal_OutReferenceIdeal_pre_finite_out [hOutKernelIdeal : Cert.OutKernelIdeal.Facts] [hOutReferenceIdeal : Cert.OutReferenceIdeal.Facts] [hPre_finite_out : Cert.Pre_finite_out.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal_finite_out m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)) →
    ∃ (v0 : (c : Dev Cert.OutKernelIdeal.nD) → Buf (Elt Ideal) ((c.tc : Thread Cert.OutKernelIdeal.nD Cert.OutKernelIdeal.τ).loc Cert.OutKernelIdeal.main_v69_0)) (v1 : (c : Dev Cert.OutKernelIdeal.nD) → Buf (Elt Ideal) ((c.tc : Thread Cert.OutKernelIdeal.nD Cert.OutKernelIdeal.τ).loc Cert.OutKernelIdeal.main_v69_1)) (v2 : (c : Dev Cert.OutKernelIdeal.nD) → Buf (Elt Ideal) ((c.tc : Thread Cert.OutKernelIdeal.nD Cert.OutKernelIdeal.τ).loc Cert.OutKernelIdeal.main_v69_2)) (v3 : (c : Dev Cert.OutKernelIdeal.nD) → Buf (Elt Ideal) ((c.tc : Thread Cert.OutKernelIdeal.nD Cert.OutKernelIdeal.τ).loc Cert.OutKernelIdeal.main_v69_3)) (v4 : (c : Dev Cert.OutKernelIdeal.nD) → Buf (Elt Ideal) ((c.tc : Thread Cert.OutKernelIdeal.nD Cert.OutKernelIdeal.τ).loc Cert.OutKernelIdeal.main_v69_4)) (v5 : (c : Dev Cert.OutKernelIdeal.nD) → Buf (Elt Ideal) ((c.tc : Thread Cert.OutKernelIdeal.nD Cert.OutKernelIdeal.τ).loc Cert.OutKernelIdeal.main_v69_5)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v69_0) = v0 c
          ∧ r.2.mem ((c.tc : Thread Cert.OutKernelIdeal.nD Cert.OutKernelIdeal.τ).loc Cert.OutKernelIdeal.main_v69_1) = v1 c
          ∧ r.2.mem ((c.tc : Thread Cert.OutKernelIdeal.nD Cert.OutKernelIdeal.τ).loc Cert.OutKernelIdeal.main_v69_2) = v2 c
          ∧ r.2.mem ((c.tc : Thread Cert.OutKernelIdeal.nD Cert.OutKernelIdeal.τ).loc Cert.OutKernelIdeal.main_v69_3) = v3 c
          ∧ r.2.mem ((c.tc : Thread Cert.OutKernelIdeal.nD Cert.OutKernelIdeal.τ).loc Cert.OutKernelIdeal.main_v69_4) = v4 c
          ∧ r.2.mem ((c.tc : Thread Cert.OutKernelIdeal.nD Cert.OutKernelIdeal.τ).loc Cert.OutKernelIdeal.main_v69_5) = v5 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v100) = v0 c
          ∧ r.2.mem ((c.tc : Thread Cert.OutReferenceIdeal.nD Cert.OutReferenceIdeal.τ).loc Cert.OutReferenceIdeal.main_v105) = v1 c
          ∧ r.2.mem ((c.tc : Thread Cert.OutReferenceIdeal.nD Cert.OutReferenceIdeal.τ).loc Cert.OutReferenceIdeal.main_v115) = v2 c
          ∧ r.2.mem ((c.tc : Thread Cert.OutReferenceIdeal.nD Cert.OutReferenceIdeal.τ).loc Cert.OutReferenceIdeal.main_v117) = v3 c
          ∧ r.2.mem ((c.tc : Thread Cert.OutReferenceIdeal.nD Cert.OutReferenceIdeal.τ).loc Cert.OutReferenceIdeal.main_v120) = v4 c
          ∧ r.2.mem ((c.tc : Thread Cert.OutReferenceIdeal.nD Cert.OutReferenceIdeal.τ).loc Cert.OutReferenceIdeal.main_v121) = v5 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7))

def Claim : Prop :=
  ∃ (hKernel : Cert.Kernel.Facts) (hKernelIdeal : Cert.KernelIdeal.Facts) (hReferenceIdeal : Cert.ReferenceIdeal.Facts) (hReference : Cert.Reference.Facts) (hInKernel : Cert.InKernel.Facts) (hInKernelIdeal : Cert.InKernelIdeal.Facts) (hInReferenceIdeal : Cert.InReferenceIdeal.Facts) (hInReference : Cert.InReference.Facts) (hFwdKernel : Cert.FwdKernel.Facts) (hFwdKernelIdeal : Cert.FwdKernelIdeal.Facts) (hFwdReferenceIdeal : Cert.FwdReferenceIdeal.Facts) (hFwdReference : Cert.FwdReference.Facts) (hOutKernel : Cert.OutKernel.Facts) (hOutKernelIdeal : Cert.OutKernelIdeal.Facts) (hOutReferenceIdeal : Cert.OutReferenceIdeal.Facts) (hOutReference : Cert.OutReference.Facts) (hPre_finite : Cert.Pre_finite.Facts) (hPre_finite_out : Cert.Pre_finite_out.Facts) (hOn_used_lanes : Cert.On_used_lanes.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_InKernel (hInKernel := hInKernel)
    ∧ quiescent_InKernelIdeal (hInKernelIdeal := hInKernelIdeal)
    ∧ quiescent_InReferenceIdeal (hInReferenceIdeal := hInReferenceIdeal)
    ∧ quiescent_InReference (hInReference := hInReference)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ quiescent_FwdReference (hFwdReference := hFwdReference)
    ∧ quiescent_OutKernel (hOutKernel := hOutKernel)
    ∧ quiescent_OutKernelIdeal (hOutKernelIdeal := hOutKernelIdeal)
    ∧ quiescent_OutKernelIdeal_pre_finite_out (hOutKernelIdeal := hOutKernelIdeal) (hPre_finite_out := hPre_finite_out)
    ∧ quiescent_OutReferenceIdeal (hOutReferenceIdeal := hOutReferenceIdeal)
    ∧ quiescent_OutReferenceIdeal_pre_finite_out (hOutReferenceIdeal := hOutReferenceIdeal) (hPre_finite_out := hPre_finite_out)
    ∧ quiescent_OutReference (hOutReference := hOutReference)
    ∧ preserves_Kernel_KernelIdeal
    ∧ preserves_Reference_ReferenceIdeal
    ∧ algebraic_KernelIdeal_ReferenceIdeal_on_used_lanes_pre_finite (hKernelIdeal := hKernelIdeal) (hReferenceIdeal := hReferenceIdeal) (hPre_finite := hPre_finite) (hOn_used_lanes := hOn_used_lanes)
    ∧ preserves_InKernel_InKernelIdeal
    ∧ preserves_InReference_InReferenceIdeal
    ∧ algebraic_InKernelIdeal_InReferenceIdeal (hInKernelIdeal := hInKernelIdeal) (hInReferenceIdeal := hInReferenceIdeal)
    ∧ preserves_FwdKernel_FwdKernelIdeal
    ∧ preserves_FwdReference_FwdReferenceIdeal
    ∧ algebraic_FwdKernelIdeal_FwdReferenceIdeal (hFwdKernelIdeal := hFwdKernelIdeal) (hFwdReferenceIdeal := hFwdReferenceIdeal)
    ∧ preserves_OutKernel_OutKernelIdeal
    ∧ preserves_OutReference_OutReferenceIdeal
    ∧ algebraic_OutKernelIdeal_OutReferenceIdeal_pre_finite_out (hOutKernelIdeal := hOutKernelIdeal) (hOutReferenceIdeal := hOutReferenceIdeal) (hPre_finite_out := hPre_finite_out)
-- ==== On_used_lanes.lean ====
abbrev S2x2064x8x64 : Shape := ⟨4, ![2, 2064, 8, 64]⟩
abbrev S2x2064x8x32 : Shape := ⟨4, ![2, 2064, 8, 32]⟩
abbrev S2x2064x32 : Shape := ⟨3, ![2, 2064, 32]⟩
abbrev S4352x1024 : Shape := ⟨2, ![4352, 1024]⟩
abbrev S_ : Shape := ⟨0, ![]⟩
abbrev S4352x512 : Shape := ⟨2, ![4352, 512]⟩

class Facts : Prop where
  bcast_S_S4352x1024 : S_.BroadcastsInDim S4352x1024 (![] : Fin 0 → Fin S4352x1024.rank)
  bcast_S_S4352x512 : S_.BroadcastsInDim S4352x512 (![] : Fin 0 → Fin S4352x512.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S4352x1024 32) (arg1 : IVec S_ 32) : IVec S4352x1024 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S4352x1024 32 := broadcastInDim S4352x1024 ![] bcast_S_S4352x1024 v2
  let v4 : IVec S4352x1024 32 := Host.remsi arg0 v3
  let c_1 : IVec S_ 32 := constantI S_ 32 0#32
  let v5 : IVec S4352x1024 32 := broadcastInDim S4352x1024 ![] bcast_S_S4352x1024 c_1
  let v6 : IVec S4352x1024 1 := cmpi .ne v4 v5
  let c_2 : IVec S_ 32 := constantI S_ 32 0#32
  let v7 : IVec S4352x1024 32 := broadcastInDim S4352x1024 ![] bcast_S_S4352x1024 c_2
  let v8 : IVec S4352x1024 1 := cmpi .slt v4 v7
  let c_3 : IVec S_ 32 := constantI S_ 32 0#32
  let v9 : IVec S_ 1 := cmpi .slt v2 c_3
  let v10 : IVec S4352x1024 1 := broadcastInDim S4352x1024 ![] bcast_S_S4352x1024 v9
  let v11 : IVec S4352x1024 1 := cmpi .ne v8 v10
  let v12 : IVec S4352x1024 1 := andi v11 v6
  let v13 : IVec S4352x1024 32 := broadcastInDim S4352x1024 ![] bcast_S_S4352x1024 v2
  let v14 : IVec S4352x1024 32 := addi v4 v13
  let v15 : IVec S4352x1024 32 := select v12 v14 v4
  v15

def fn {F : FTy → Type} [FloatOps F] (main_arg0 : FVec F S2x2064x8x64 .f32) (main_arg1 : FVec F S2x2064x8x32 .f32) (main_arg2 : FVec F S2x2064x8x64 .f32) (main_arg3 : FVec F S2x2064x32 .f32) (main_arg4 : FVec F S2x2064x8x64 .f32) (main_arg5 : FVec F S2x2064x8x64 .f32) : IVec S4352x1024 1 × IVec S4352x1024 1 × IVec S4352x512 1 :=
  let main_v0 : IVec S4352x1024 32 := iotaInDim S4352x1024 32 1
  let main_c : IVec S_ 32 := constantI S_ 32 128#32
  let main_v1 : IVec S4352x1024 32 := fn_remainder (F := F) main_v0 main_c
  let main_c_0 : IVec S_ 1 := constantI S_ 1 1#1
  let main_v2 : IVec S4352x1024 1 := broadcastInDim S4352x1024 ![] bcast_S_S4352x1024 main_c_0
  let main_c_1 : IVec S_ 32 := constantI S_ 32 96#32
  let main_v3 : IVec S4352x1024 32 := broadcastInDim S4352x1024 ![] bcast_S_S4352x1024 main_c_1
  let main_v4 : IVec S4352x1024 1 := cmpi .ne main_v1 main_v3
  let main_c_2 : IVec S_ 1 := constantI S_ 1 1#1
  let main_v5 : IVec S4352x512 1 := broadcastInDim S4352x512 ![] bcast_S_S4352x512 main_c_2
  (main_v2, main_v4, main_v5)
-- ==== Pre_finite.lean ====
abbrev S2x2064x8x64 : Shape := ⟨4, ![2, 2064, 8, 64]⟩
abbrev S2x2064x8x32 : Shape := ⟨4, ![2, 2064, 8, 32]⟩
abbrev S2x2064x32 : Shape := ⟨3, ![2, 2064, 32]⟩
abbrev S_ : Shape := ⟨0, ![]⟩

class Facts : Prop where
  bcast_S_S2x2064x8x64 : S_.BroadcastsInDim S2x2064x8x64 (![] : Fin 0 → Fin S2x2064x8x64.rank)
  reducesTo_S2x2064x8x64_S_d0_1_2_3 : S2x2064x8x64.ReducesTo [0, 1, 2, 3] S_
  h_S_ : 0 < S_.numel
  bcast_S_S2x2064x8x32 : S_.BroadcastsInDim S2x2064x8x32 (![] : Fin 0 → Fin S2x2064x8x32.rank)
  reducesTo_S2x2064x8x32_S_d0_1_2_3 : S2x2064x8x32.ReducesTo [0, 1, 2, 3] S_
  bcast_S_S2x2064x32 : S_.BroadcastsInDim S2x2064x32 (![] : Fin 0 → Fin S2x2064x32.rank)
  reducesTo_S2x2064x32_S_d0_1_2 : S2x2064x32.ReducesTo [0, 1, 2] S_

variable [Facts]

def fn_part1 {F : FTy → Type} [FloatOps F] (main_arg4 : FVec F S2x2064x8x64 .f32) (main_arg5 : FVec F S2x2064x8x64 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 :=
  let main_v16 : FVec F S2x2064x8x64 .f32 := Host.absf main_arg4
  let main_cst_6 : FVec F S_ .f32 := constant S_ .f32 0x7F800000#32
  let main_v17 : FVec F S2x2064x8x64 .f32 := broadcastInDim S2x2064x8x64 ![] bcast_S_S2x2064x8x64 main_cst_6
  let main_v18 : IVec S2x2064x8x64 1 := cmpf .olt main_v16 main_v17
  let main_c_7 : IVec S_ 1 := constantI S_ 1 1#1
  let main_v19 : IVec S_ 1 := (fun x v => Host.reduce IntOp.andi x v reducesTo_S2x2064x8x64_S_d0_1_2_3 h_S_) main_v18 main_c_7
  let main_v20 : FVec F S2x2064x8x64 .f32 := Host.absf main_arg5
  let main_cst_8 : FVec F S_ .f32 := constant S_ .f32 0x7F800000#32
  let main_v21 : FVec F S2x2064x8x64 .f32 := broadcastInDim S2x2064x8x64 ![] bcast_S_S2x2064x8x64 main_cst_8
  let main_v22 : IVec S2x2064x8x64 1 := cmpf .olt main_v20 main_v21
  let main_c_9 : IVec S_ 1 := constantI S_ 1 1#1
  let main_v23 : IVec S_ 1 := (fun x v => Host.reduce IntOp.andi x v reducesTo_S2x2064x8x64_S_d0_1_2_3 h_S_) main_v22 main_c_9
  (main_v3, main_v7, main_v11, main_v15, main_v19, main_v23)

def fn {F : FTy → Type} [FloatOps F] (main_arg0 : FVec F S2x2064x8x64 .f32) (main_arg1 : FVec F S2x2064x8x32 .f32) (main_arg2 : FVec F S2x2064x8x64 .f32) (main_arg3 : FVec F S2x2064x32 .f32) (main_arg4 : FVec F S2x2064x8x64 .f32) (main_arg5 : FVec F S2x2064x8x64 .f32) : IVec S_ 1 × IVec S_ 1 × IVec S_ 1 × IVec S_ 1 × IVec S_ 1 × IVec S_ 1 :=
  let main_v0 : FVec F S2x2064x8x64 .f32 := Host.absf main_arg0
  let main_cst : FVec F S_ .f32 := constant S_ .f32 0x7F800000#32
  let main_v1 : FVec F S2x2064x8x64 .f32 := broadcastInDim S2x2064x8x64 ![] bcast_S_S2x2064x8x64 main_cst
  let main_v2 : IVec S2x2064x8x64 1 := cmpf .olt main_v0 main_v1
  let main_c : IVec S_ 1 := constantI S_ 1 1#1
  let main_v3 : IVec S_ 1 := (fun x v => Host.reduce IntOp.andi x v reducesTo_S2x2064x8x64_S_d0_1_2_3 h_S_) main_v2 main_c
  let main_v4 : FVec F S2x2064x8x32 .f32 := Host.absf main_arg1
  let main_cst_0 : FVec F S_ .f32 := constant S_ .f32 0x7F800000#32
  let main_v5 : FVec F S2x2064x8x32 .f32 := broadcastInDim S2x2064x8x32 ![] bcast_S_S2x2064x8x32 main_cst_0
  let main_v6 : IVec S2x2064x8x32 1 := cmpf .olt main_v4 main_v5
  let main_c_1 : IVec S_ 1 := constantI S_ 1 1#1
  let main_v7 : IVec S_ 1 := (fun x v => Host.reduce IntOp.andi x v reducesTo_S2x2064x8x32_S_d0_1_2_3 h_S_) main_v6 main_c_1
  let main_v8 : FVec F S2x2064x8x64 .f32 := Host.absf main_arg2
  let main_cst_2 : FVec F S_ .f32 := constant S_ .f32 0x7F800000#32
  let main_v9 : FVec F S2x2064x8x64 .f32 := broadcastInDim S2x2064x8x64 ![] bcast_S_S2x2064x8x64 main_cst_2
  let main_v10 : IVec S2x2064x8x64 1 := cmpf .olt main_v8 main_v9
  let main_c_3 : IVec S_ 1 := constantI S_ 1 1#1
  let main_v11 : IVec S_ 1 := (fun x v => Host.reduce IntOp.andi x v reducesTo_S2x2064x8x64_S_d0_1_2_3 h_S_) main_v10 main_c_3
  let main_v12 : FVec F S2x2064x32 .f32 := Host.absf main_arg3
  let main_cst_4 : FVec F S_ .f32 := constant S_ .f32 0x7F800000#32
  let main_v13 : FVec F S2x2064x32 .f32 := broadcastInDim S2x2064x32 ![] bcast_S_S2x2064x32 main_cst_4
  let main_v14 : IVec S2x2064x32 1 := cmpf .olt main_v12 main_v13
  let main_c_5 : IVec S_ 1 := constantI S_ 1 1#1
  let main_v15 : IVec S_ 1 := (fun x v => Host.reduce IntOp.andi x v reducesTo_S2x2064x32_S_d0_1_2 h_S_) main_v14 main_c_5
  fn_part1 (F := F) main_arg4 main_arg5 main_v3 main_v7 main_v11 main_v15
-- ==== Pre_finite_out.lean ====
abbrev S2x2064x1024 : Shape := ⟨3, ![2, 2064, 1024]⟩
abbrev S2x2064x512 : Shape := ⟨3, ![2, 2064, 512]⟩
abbrev S512 : Shape := ⟨1, ![512]⟩
abbrev S1024x1024 : Shape := ⟨2, ![1024, 1024]⟩
abbrev S_ : Shape := ⟨0, ![]⟩

class Facts : Prop where
  bcast_S_S2x2064x1024 : S_.BroadcastsInDim S2x2064x1024 (![] : Fin 0 → Fin S2x2064x1024.rank)
  reducesTo_S2x2064x1024_S_d0_1_2 : S2x2064x1024.ReducesTo [0, 1, 2] S_
  h_S_ : 0 < S_.numel
  bcast_S_S2x2064x512 : S_.BroadcastsInDim S2x2064x512 (![] : Fin 0 → Fin S2x2064x512.rank)
  reducesTo_S2x2064x512_S_d0_1_2 : S2x2064x512.ReducesTo [0, 1, 2] S_
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S2x2064x512 .f32) (main_arg5 : FVec F S512 .f32) (main_arg6 : FVec F S512 .f32) (main_arg7 : FVec F S1024x1024 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 × IVec S_ 1 :=
  let main_v16 : FVec F S2x2064x512 .f32 := Host.absf main_arg4
  let main_cst_6 : FVec F S_ .f32 := constant S_ .f32 0x7F800000#32
  let main_v17 : FVec F S2x2064x512 .f32 := broadcastInDim S2x2064x512 ![] bcast_S_S2x2064x512 main_cst_6
  let main_v18 : IVec S2x2064x512 1 := cmpf .olt main_v16 main_v17
  let main_c_7 : IVec S_ 1 := constantI S_ 1 1#1
  let main_v19 : IVec S_ 1 := (fun x v => Host.reduce IntOp.andi x v reducesTo_S2x2064x512_S_d0_1_2 h_S_) main_v18 main_c_7
  let main_v20 : FVec F S512 .f32 := Host.absf main_arg5
  let main_cst_8 : FVec F S_ .f32 := constant S_ .f32 0x7F800000#32
  let main_v21 : FVec F S512 .f32 := broadcastInDim S512 ![] bcast_S_S512 main_cst_8
  let main_v22 : IVec S512 1 := cmpf .olt main_v20 main_v21
  let main_c_9 : IVec S_ 1 := constantI S_ 1 1#1
  let main_v23 : IVec S_ 1 := (fun x v => Host.reduce IntOp.andi x v reducesTo_S512_S_d0 h_S_) main_v22 main_c_9
  let main_v24 : FVec F S512 .f32 := Host.absf main_arg6
  let main_cst_10 : FVec F S_ .f32 := constant S_ .f32 0x7F800000#32
  let main_v25 : FVec F S512 .f32 := broadcastInDim S512 ![] bcast_S_S512 main_cst_10
  let main_v26 : IVec S512 1 := cmpf .olt main_v24 main_v25
  let main_c_11 : IVec S_ 1 := constantI S_ 1 1#1
  let main_v27 : IVec S_ 1 := (fun x v => Host.reduce IntOp.andi x v reducesTo_S512_S_d0 h_S_) main_v26 main_c_11
  let main_v28 : FVec F S1024x1024 .f32 := Host.absf main_arg7
  let main_cst_12 : FVec F S_ .f32 := constant S_ .f32 0x7F800000#32
  let main_v29 : FVec F S1024x1024 .f32 := broadcastInDim S1024x1024 ![] bcast_S_S1024x1024 main_cst_12
  let main_v30 : IVec S1024x1024 1 := cmpf .olt main_v28 main_v29
  let main_c_13 : IVec S_ 1 := constantI S_ 1 1#1
  let main_v31 : IVec S_ 1 := (fun x v => Host.reduce IntOp.andi x v reducesTo_S1024x1024_S_d0_1 h_S_) main_v30 main_c_13
  (main_v3, main_v7, main_v11, main_v15, main_v19, main_v23, main_v27, main_v31)

def fn {F : FTy → Type} [FloatOps F] (main_arg0 : FVec F S2x2064x1024 .f32) (main_arg1 : FVec F S2x2064x512 .f32) (main_arg2 : FVec F S2x2064x512 .f32) (main_arg3 : FVec F S2x2064x512 .f32) (main_arg4 : FVec F S2x2064x512 .f32) (main_arg5 : FVec F S512 .f32) (main_arg6 : FVec F S512 .f32) (main_arg7 : FVec F S1024x1024 .f32) : IVec S_ 1 × IVec S_ 1 × IVec S_ 1 × IVec S_ 1 × IVec S_ 1 × IVec S_ 1 × IVec S_ 1 × IVec S_ 1 :=
  let main_v0 : FVec F S2x2064x1024 .f32 := Host.absf main_arg0
  let main_cst : FVec F S_ .f32 := constant S_ .f32 0x7F800000#32
  let main_v1 : FVec F S2x2064x1024 .f32 := broadcastInDim S2x2064x1024 ![] bcast_S_S2x2064x1024 main_cst
  let main_v2 : IVec S2x2064x1024 1 := cmpf .olt main_v0 main_v1
  let main_c : IVec S_ 1 := constantI S_ 1 1#1
  let main_v3 : IVec S_ 1 := (fun x v => Host.reduce IntOp.andi x v reducesTo_S2x2064x1024_S_d0_1_2 h_S_) main_v2 main_c
  let main_v4 : FVec F S2x2064x512 .f32 := Host.absf main_arg1
  let main_cst_0 : FVec F S_ .f32 := constant S_ .f32 0x7F800000#32
  let main_v5 : FVec F S2x2064x512 .f32 := broadcastInDim S2x2064x512 ![] bcast_S_S2x2064x512 main_cst_0
  let main_v6 : IVec S2x2064x512 1 := cmpf .olt main_v4 main_v5
  let main_c_1 : IVec S_ 1 := constantI S_ 1 1#1
  let main_v7 : IVec S_ 1 := (fun x v => Host.reduce IntOp.andi x v reducesTo_S2x2064x512_S_d0_1_2 h_S_) main_v6 main_c_1
  let main_v8 : FVec F S2x2064x512 .f32 := Host.absf main_arg2
  let main_cst_2 : FVec F S_ .f32 := constant S_ .f32 0x7F800000#32
  let main_v9 : FVec F S2x2064x512 .f32 := broadcastInDim S2x2064x512 ![] bcast_S_S2x2064x512 main_cst_2
  let main_v10 : IVec S2x2064x512 1 := cmpf .olt main_v8 main_v9
  let main_c_3 : IVec S_ 1 := constantI S_ 1 1#1
  let main_v11 : IVec S_ 1 := (fun x v => Host.reduce IntOp.andi x v reducesTo_S2x2064x512_S_d0_1_2 h_S_) main_v10 main_c_3
  let main_v12 : FVec F S2x2064x512 .f32 := Host.absf main_arg3
  let main_cst_4 : FVec F S_ .f32 := constant S_ .f32 0x7F800000#32
  let main_v13 : FVec F S2x2064x512 .f32 := broadcastInDim S2x2064x512 ![] bcast_S_S2x2064x512 main_cst_4
  let main_v14 : IVec S2x2064x512 1 := cmpf .olt main_v12 main_v13
  let main_c_5 : IVec S_ 1 := constantI S_ 1 1#1
  let main_v15 : IVec S_ 1 := (fun x v => Host.reduce IntOp.andi x v reducesTo_S2x2064x512_S_d0_1_2 h_S_) main_v14 main_c_5
  fn_part1 (F := F) main_arg4 main_arg5 main_arg6 main_arg7 main_v3 main_v7 main_v11 main_v15
-- ==== Kernel.lean ====
abbrev S2x2064x8x64 : Shape := ⟨4, ![2, 2064, 8, 64]⟩
abbrev S2x2064x8x32 : Shape := ⟨4, ![2, 2064, 8, 32]⟩
abbrev S2x2064x32 : Shape := ⟨3, ![2, 2064, 32]⟩
abbrev S2x8x2064x2064 : Shape := ⟨4, ![2, 8, 2064, 2064]⟩
abbrev S2x2064x2064x8 : Shape := ⟨4, ![2, 2064, 2064, 8]⟩
abbrev S_ : Shape := ⟨0, ![]⟩
abbrev S2x8x2064 : Shape := ⟨3, ![2, 8, 2064]⟩
abbrev S2x8x2064x1 : Shape := ⟨4, ![2, 8, 2064, 1]⟩
abbrev S2x8x64x2064 : Shape := ⟨4, ![2, 8, 64, 2064]⟩
abbrev S2x2064x1x32 : Shape := ⟨4, ![2, 2064, 1, 32]⟩
abbrev S2x2064x8x96 : Shape := ⟨4, ![2, 2064, 8, 96]⟩
abbrev S2x112x8x96 : Shape := ⟨4, ![2, 112, 8, 96]⟩
abbrev S2x16x8x96 : Shape := ⟨4, ![2, 16, 8, 96]⟩
abbrev S2x2048x8x96 : Shape := ⟨4, ![2, 2048, 8, 96]⟩
abbrev S2x2176x8x96 : Shape := ⟨4, ![2, 2176, 8, 96]⟩
abbrev S2x2176x8x1 : Shape := ⟨4, ![2, 2176, 8, 1]⟩
abbrev S2x2176x8x31 : Shape := ⟨4, ![2, 2176, 8, 31]⟩
abbrev S2x2176x8x128 : Shape := ⟨4, ![2, 2176, 8, 128]⟩
abbrev S2x2064x8x1 : Shape := ⟨4, ![2, 2064, 8, 1]⟩
abbrev S2x112x8x1 : Shape := ⟨4, ![2, 112, 8, 1]⟩
abbrev S2x16x8x1 : Shape := ⟨4, ![2, 16, 8, 1]⟩
abbrev S2x2048x8x1 : Shape := ⟨4, ![2, 2048, 8, 1]⟩
abbrev S4352x1024 : Shape := ⟨2, ![4352, 1024]⟩
abbrev S2x2176x1024 : Shape := ⟨3, ![2, 2176, 1024]⟩
abbrev S2x112x8x64 : Shape := ⟨4, ![2, 112, 8, 64]⟩
abbrev S2x16x8x64 : Shape := ⟨4, ![2, 16, 8, 64]⟩
abbrev S2x2048x8x64 : Shape := ⟨4, ![2, 2048, 8, 64]⟩
abbrev S2x2176x8x64 : Shape := ⟨4, ![2, 2176, 8, 64]⟩
abbrev S2x2176x512 : Shape := ⟨3, ![2, 2176, 512]⟩
abbrev S2x512x2176 : Shape := ⟨3, ![2, 512, 2176]⟩
abbrev S1024x2176 : Shape := ⟨2, ![1024, 2176]⟩
abbrev S2x2064x8 : Shape := ⟨3, ![2, 2064, 8]⟩
abbrev S2x112x8 : Shape := ⟨3, ![2, 112, 8]⟩
abbrev S2x16x8 : Shape := ⟨3, ![2, 16, 8]⟩
abbrev S2x2048x8 : Shape := ⟨3, ![2, 2048, 8]⟩
abbrev S2x2176x8 : Shape := ⟨3, ![2, 2176, 8]⟩
abbrev S2x17x128x4x2 : Shape := ⟨5, ![2, 17, 128, 4, 2]⟩
abbrev S4x2x17x2x128 : Shape := ⟨5, ![4, 2, 17, 2, 128]⟩
abbrev S4x8704 : Shape := ⟨2, ![4, 8704]⟩
abbrev S2x1024x2176 : Shape := ⟨3, ![2, 1024, 2176]⟩
abbrev S2048x2176 : Shape := ⟨2, ![2048, 2176]⟩
abbrev S4352x512 : Shape := ⟨2, ![4352, 512]⟩
abbrev S4x8704x1 : Shape := ⟨3, ![4, 8704, 1]⟩
abbrev S4x8704x128 : Shape := ⟨3, ![4, 8704, 128]⟩
abbrev S128x256 : Shape := ⟨2, ![128, 256]⟩
abbrev S2176x256 : Shape := ⟨2, ![2176, 256]⟩
abbrev S256x2176 : Shape := ⟨2, ![256, 2176]⟩
abbrev S128x2176 : Shape := ⟨2, ![128, 2176]⟩
abbrev S128x128 : Shape := ⟨2, ![128, 128]⟩
abbrev S1x256x128 : Shape := ⟨3, ![1, 256, 128]⟩
abbrev S2176x128 : Shape := ⟨2, ![2176, 128]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 112
  | .vmem => 20
  | .smem => 0
  | _ => 0

abbrev bufTy : (tb : Table) → Fin (tcTables nBuf tb) → BufTy
  | .hbm, ⟨0, _⟩ => ⟨S2x2064x8x64, .f32⟩
  | .hbm, ⟨1, _⟩ => ⟨S2x2064x8x32, .f32⟩
  | .hbm, ⟨2, _⟩ => ⟨S2x2064x8x64, .f32⟩
  | .hbm, ⟨3, _⟩ => ⟨S2x2064x32, .f32⟩
  | .hbm, ⟨4, _⟩ => ⟨S2x2064x8x64, .f32⟩
  | .hbm, ⟨5, _⟩ => ⟨S2x2064x8x64, .f32⟩
  | .hbm, ⟨6, _⟩ => ⟨S2x8x2064x2064, .f32⟩
  | .hbm, ⟨7, _⟩ => ⟨S2x2064x2064x8, .f32⟩
  | .hbm, ⟨8, _⟩ => ⟨S2x8x2064x2064, .f32⟩
  | .hbm, ⟨9, _⟩ => ⟨S2x8x2064x2064, .f32⟩
  | .hbm, ⟨10, _⟩ => ⟨S_, .f32⟩
  | .hbm, ⟨11, _⟩ => ⟨S2x8x2064x2064, .f32⟩
  | .hbm, ⟨12, _⟩ => ⟨S2x8x2064x2064, .f32⟩
  | .hbm, ⟨13, _⟩ => ⟨S_, .f32⟩
  | .hbm, ⟨14, _⟩ => ⟨S2x8x2064, .f32⟩
  | .hbm, ⟨15, _⟩ => ⟨S2x8x2064x1, .f32⟩
  | .hbm, ⟨16, _⟩ => ⟨S2x8x2064x2064, .f32⟩
  | .hbm, ⟨17, _⟩ => ⟨S2x8x2064x2064, .f32⟩
  | .hbm, ⟨18, _⟩ => ⟨S2x8x2064x2064, .f32⟩
  | .hbm, ⟨19, _⟩ => ⟨S_, .f32⟩
  | .hbm, ⟨20, _⟩ => ⟨S2x8x2064, .f32⟩
  | .hbm, ⟨21, _⟩ => ⟨S2x8x2064x1, .f32⟩
  | .hbm, ⟨22, _⟩ => ⟨S2x8x2064x2064, .f32⟩
  | .hbm, ⟨23, _⟩ => ⟨S2x8x2064x2064, .f32⟩
  | .hbm, ⟨24, _⟩ => ⟨S2x8x64x2064, .f32⟩
  | .hbm, ⟨25, _⟩ => ⟨S2x2064x8x64, .f32⟩
  | .hbm, ⟨26, _⟩ => ⟨S2x8x2064x1, .f32⟩
  | .hbm, ⟨27, _⟩ => ⟨S2x8x2064x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2x8x2064x1, .f32⟩
  | .hbm, ⟨32, _⟩ => ⟨S2x8x2064x1, .f32⟩
  | .hbm, ⟨33, _⟩ => ⟨S2x2064x1x32, .f32⟩
  | .hbm, ⟨34, _⟩ => ⟨S2x2064x8x32, .f32⟩
  | .hbm, ⟨35, _⟩ => ⟨S2x2064x8x96, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2x2064x8x96, .f32⟩
  | .hbm, ⟨42, _⟩ => ⟨S2x2064x8x96, .f32⟩
  | .hbm, ⟨43, _⟩ => ⟨S_, .f32⟩
  | .hbm, ⟨44, _⟩ => ⟨S2x112x8x96, .f32⟩
  | .hbm, ⟨45, _⟩ => ⟨S2x16x8x96, .f32⟩
  | .hbm, ⟨46, _⟩ => ⟨S2x2048x8x96, .f32⟩
  | .hbm, ⟨47, _⟩ => ⟨S2x2176x8x96, .f32⟩
  | .hbm, ⟨48, _⟩ => ⟨S_, .f32⟩
  | .hbm, ⟨49, _⟩ => ⟨S2x2176x8x1, .f32⟩
  | .hbm, ⟨50, _⟩ => ⟨S_, .f32⟩
  | .hbm, ⟨51, _⟩ => ⟨S2x2176x8x31, .f32⟩
  | .hbm, ⟨52, _⟩ => ⟨S2x2176x8x128, .f32⟩
  | .hbm, ⟨53, _⟩ => ⟨S_, .f32⟩
  | .hbm, ⟨54, _⟩ => ⟨S2x2064x8x1, .f32⟩
  | .hbm, ⟨55, _⟩ => ⟨S_, .f32⟩
  | .hbm, ⟨56, _⟩ => ⟨S2x112x8x1, .f32⟩
  | .hbm, ⟨57, _⟩ => ⟨S2x16x8x1, .f32⟩
  | .hbm, ⟨58, _⟩ => ⟨S2x2048x8x1, .f32⟩
  | .hbm, ⟨59, _⟩ => ⟨S2x2176x8x1, .f32⟩
  | .hbm, ⟨60, _⟩ => ⟨S2x2064x8x96, .f32⟩
  | .hbm, ⟨61, _⟩ => ⟨S_, .f32⟩
  | .hbm, ⟨62, _⟩ => ⟨S2x112x8x96, .f32⟩
  | .hbm, ⟨63, _⟩ => ⟨S2x16x8x96, .f32⟩
  | .hbm, ⟨64, _⟩ => ⟨S2x2048x8x96, .f32⟩
  | .hbm, ⟨65, _⟩ => ⟨S2x2176x8x96, .f32⟩
  | .hbm, ⟨66, _⟩ => ⟨S_, .f32⟩
  | .hbm, ⟨67, _⟩ => ⟨S2x2176x8x31, .f32⟩
  | .hbm, ⟨68, _⟩ => ⟨S2x2176x8x128, .f32⟩
  | .hbm, ⟨69, _⟩ => ⟨S4352x1024, .f32⟩
  | .hbm, ⟨70, _⟩ => ⟨S4352x1024, .bf16⟩
  | .hbm, ⟨71, _⟩ => ⟨S2x2176x1024, .f32⟩
  | .hbm, ⟨72, _⟩ => ⟨S2x2176x1024, .bf16⟩
  | .hbm, ⟨73, _⟩ => ⟨S_, .f32⟩
  | .hbm, ⟨74, _⟩ => ⟨S2x112x8x64, .f32⟩
  | .hbm, ⟨75, _⟩ => ⟨S2x16x8x64, .f32⟩
  | .hbm, ⟨76, _⟩ => ⟨S2x2048x8x64, .f32⟩
  | .hbm, ⟨77, _⟩ => ⟨S2x2176x8x64, .f32⟩
  | .hbm, ⟨78, _⟩ => ⟨S2x2176x512, .f32⟩
  | .hbm, ⟨79, _⟩ => ⟨S2x512x2176, .f32⟩
  | .hbm, ⟨80, _⟩ => ⟨S1024x2176, .f32⟩
  | .hbm, ⟨81, _⟩ => ⟨S1024x2176, .bf16⟩
  | .hbm, ⟨82, _⟩ => ⟨S2x8x2064, .f32⟩
  | .hbm, ⟨83, _⟩ => ⟨S2x2064x8, .f32⟩
  | .hbm, ⟨84, _⟩ => ⟨S_, .f32⟩
  | .hbm, ⟨85, _⟩ => ⟨S2x112x8, .f32⟩
  | .hbm, ⟨86, _⟩ => ⟨S2x16x8, .f32⟩
  | .hbm, ⟨87, _⟩ => ⟨S2x2048x8, .f32⟩
  | .hbm, ⟨88, _⟩ => ⟨S2x2176x8, .f32⟩
  | .hbm, ⟨89, _⟩ => ⟨S2x17x128x4x2, .f32⟩
  | .hbm, ⟨90, _⟩ => ⟨S4x2x17x2x128, .f32⟩
  | .hbm, ⟨91, _⟩ => ⟨S4x8704, .f32⟩
  | .hbm, ⟨92, _⟩ => ⟨S4352x1024, .bf16⟩
  | .hbm, ⟨93, _⟩ => ⟨S2x1024x2176, .bf16⟩
  | .hbm, ⟨94, _⟩ => ⟨S2048x2176, .bf16⟩
  | .hbm, ⟨95, _⟩ => ⟨S_, .f32⟩
  | .hbm, ⟨96, _⟩ => ⟨S2x112x8x64, .f32⟩
  | .hbm, ⟨97, _⟩ => ⟨S2x16x8x64, .f32⟩
  | .hbm, ⟨98, _⟩ => ⟨S2x2048x8x64, .f32⟩
  | .hbm, ⟨99, _⟩ => ⟨S2x2176x8x64, .f32⟩
  | .hbm, ⟨100, _⟩ => ⟨S4352x512, .f32⟩
  | .hbm, ⟨101, _⟩ => ⟨S_, .f32⟩
  | .hbm, ⟨102, _⟩ => ⟨S2x112x8x64, .f32⟩
  | .hbm, ⟨103, _⟩ => ⟨S2x16x8x64, .f32⟩
  | .hbm, ⟨104, _⟩ => ⟨S2x2048x8x64, .f32⟩
  | .hbm, ⟨105, _⟩ => ⟨S2x2176x8x64, .f32⟩
  | .hbm, ⟨106, _⟩ => ⟨S4352x512, .f32⟩
  | .hbm, ⟨107, _⟩ => ⟨S4x8704x1, .f32⟩
  | .hbm, ⟨108, _⟩ => ⟨S4x8704x128, .f32⟩
  | .hbm, ⟨109, _⟩ => ⟨S4352x1024, .f32⟩
  | .hbm, ⟨110, _⟩ => ⟨S4352x1024, .f32⟩
  | .hbm, ⟨111, _⟩ => ⟨S4352x512, .f32⟩
  | .local _ .vmem, ⟨0, _⟩ => ⟨S128x256, .bf16⟩
  | .local _ .vmem, ⟨1, _⟩ => ⟨S128x256, .bf16⟩
  | .local _ .vmem, ⟨2, _⟩ => ⟨S2176x256, .bf16⟩
  | .local _ .vmem, ⟨3, _⟩ => ⟨S2176x256, .bf16⟩
  | .local _ .vmem, ⟨4, _⟩ => ⟨S256x2176, .bf16⟩
  | .local _ .vmem, ⟨5, _⟩ => ⟨S256x2176, .bf16⟩
  | .local _ .vmem, ⟨6, _⟩ => ⟨S128x2176, .bf16⟩
  | .local _ .vmem, ⟨7, _⟩ => ⟨S128x2176, .bf16⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x256x128, .f32⟩
  | .local _ .vmem, ⟨13, _⟩ => ⟨S1x256x128, .f32⟩
  | .local _ .vmem, ⟨14, _⟩ => ⟨S128x256, .f32⟩
  | .local _ .vmem, ⟨15, _⟩ => ⟨S128x256, .f32⟩
  | .local _ .vmem, ⟨16, _⟩ => ⟨S2176x256, .f32⟩
  | .local _ .vmem, ⟨17, _⟩ => ⟨S2176x256, .f32⟩
  | .local _ .vmem, ⟨18, _⟩ => ⟨S2176x128, .f32⟩
  | .local _ .vmem, ⟨19, _⟩ => ⟨S2176x128, .f32⟩
  | _, _ => ⟨S2x2064x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_14 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_15 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86_0 : Ref sig .tc := ⟨.hbm, 109, rfl⟩
abbrev main_v86_1 : Ref sig .tc := ⟨.hbm, 110, rfl⟩
abbrev main_v86_2 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 4, 17], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  ![v1.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  let c0_i32_0 : BitVec 32 := 0#32
  ![arg1.toNat, v1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x2176 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S2176x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2176x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== KernelIdeal.lean ====
variable {F : FTy → Type} [FloatOps F] [Named F]
def κ : String → Option EReal := fun
  | "ln2" => some ((Real.log 2 : ℝ) : EReal)
  | "mask" => some ⊥
  | "qs" => some (((3424635 / 33554432) * (Real.log 2)⁻¹ : ℝ) : EReal)
  | _ => none
-- ==== Reference.lean ====
abbrev S2x2064x8x64 : Shape := ⟨4, ![2, 2064, 8, 64]⟩
abbrev S2x2064x8x32 : Shape := ⟨4, ![2, 2064, 8, 32]⟩
abbrev S2x2064x32 : Shape := ⟨3, ![2, 2064, 32]⟩
abbrev S2x2064x1x32 : Shape := ⟨4, ![2, 2064, 1, 32]⟩
abbrev S2x8x2064x2064 : Shape := ⟨4, ![2, 8, 2064, 2064]⟩
abbrev S_ : Shape := ⟨0, ![]⟩
abbrev S2x8x2064 : Shape := ⟨3, ![2, 8, 2064]⟩
abbrev S2x8x2064x1 : Shape := ⟨4, ![2, 8, 2064, 1]⟩
abbrev S2x8x64x2064 : Shape := ⟨4, ![2, 8, 64, 2064]⟩
abbrev S2x8x2064x32 : Shape := ⟨4, ![2, 8, 2064, 32]⟩
abbrev S2x8x2064x64 : Shape := ⟨4, ![2, 8, 2064, 64]⟩
abbrev S2x2064x8x128 : Shape := ⟨4, ![2, 2064, 8, 128]⟩
abbrev S2x112x8x128 : Shape := ⟨4, ![2, 112, 8, 128]⟩
abbrev S2x16x8x128 : Shape := ⟨4, ![2, 16, 8, 128]⟩
abbrev S2x2048x8x128 : Shape := ⟨4, ![2, 2048, 8, 128]⟩
abbrev S2x2176x8x128 : Shape := ⟨4, ![2, 2176, 8, 128]⟩
abbrev S4352x1024 : Shape := ⟨2, ![4352, 1024]⟩
abbrev S2x112x8x64 : Shape := ⟨4, ![2, 112, 8, 64]⟩
abbrev S2x16x8x64 : Shape := ⟨4, ![2, 16, 8, 64]⟩
abbrev S2x2048x8x64 : Shape := ⟨4, ![2, 2048, 8, 64]⟩
abbrev S2x2176x8x64 : Shape := ⟨4, ![2, 2176, 8, 64]⟩
abbrev S4352x512 : Shape := ⟨2, ![4352, 512]⟩

abbrev nBuf : Space → Nat
  | .hbm => 105
  | .vmem => 0
  | .smem => 0
  | _ => 0

abbrev bufTy : (tb : Table) → Fin (tcTables nBuf tb) → BufTy
  | .hbm, ⟨0, _⟩ => ⟨S2x2064x8x64, .f32⟩
  | .hbm, ⟨1, _⟩ => ⟨S2x2064x8x32, .f32⟩
  | .hbm, ⟨2, _⟩ => ⟨S2x2064x8x64, .f32⟩
  | .hbm, ⟨3, _⟩ => ⟨S2x2064x32, .f32⟩
  | .hbm, ⟨4, _⟩ => ⟨S2x2064x8x64, .f32⟩
  | .hbm, ⟨5, _⟩ => ⟨S2x2064x8x64, .f32⟩
  | .hbm, ⟨6, _⟩ => ⟨S2x2064x1x32, .f32⟩
  | .hbm, ⟨7, _⟩ => ⟨S2x2064x8x32, .f32⟩
  | .hbm, ⟨8, _⟩ => ⟨S2x8x2064x2064, .f32⟩
  | .hbm, ⟨9, _⟩ => ⟨S2x8x2064x2064, .f32⟩
  | .hbm, ⟨10, _⟩ => ⟨S2x8x2064x2064, .f32⟩
  | .hbm, ⟨11, _⟩ => ⟨S_, .f32⟩
  | .hbm, ⟨12, _⟩ => ⟨S2x8x2064x2064, .f32⟩
  | .hbm, ⟨13, _⟩ => ⟨S2x8x2064x2064, .f32⟩
  | .hbm, ⟨14, _⟩ => ⟨S_, .f32⟩
  | .hbm, ⟨15, _⟩ => ⟨S2x8x2064, .f32⟩
  | .hbm, ⟨16, _⟩ => ⟨S2x8x2064x1, .f32⟩
  | .hbm, ⟨17, _⟩ => ⟨S2x8x2064x2064, .f32⟩
  | .hbm, ⟨18, _⟩ => ⟨S2x8x2064x2064, .i1⟩
  | .hbm, ⟨19, _⟩ => ⟨S2x8x2064x2064, .f32⟩
  | .hbm, ⟨20, _⟩ => ⟨S_, .f32⟩
  | .hbm, ⟨21, _⟩ => ⟨S2x8x2064, .f32⟩
  | .hbm, ⟨22, _⟩ => ⟨S_, .f32⟩
  | .hbm, ⟨23, _⟩ => ⟨S2x8x2064, .f32⟩
  | .hbm, ⟨24, _⟩ => ⟨S2x8x2064, .f32⟩
  | .hbm, ⟨25, _⟩ => ⟨S_, .f32⟩
  | .hbm, ⟨26, _⟩ => ⟨S2x8x2064, .f32⟩
  | .hbm, ⟨27, _⟩ => ⟨S2x8x2064, .i1⟩
  | .hbm, ⟨28, _⟩ => ⟨S_, .f32⟩
  | .hbm, ⟨29, _⟩ => ⟨S2x8x2064, .f32⟩
  | .hbm, ⟨30, _⟩ => ⟨S2x8x2064, .i1⟩
  | .hbm, ⟨31, _⟩ => ⟨S_, .f32⟩
  | .hbm, ⟨32, _⟩ => ⟨S2x8x2064, .f32⟩
  | .hbm, ⟨33, _⟩ => ⟨S_, .f32⟩
  | .hbm, ⟨34, _⟩ => ⟨S2x8x2064, .f32⟩
  | .hbm, ⟨35, _⟩ => ⟨S_, .f32⟩
  | .hbm, ⟨36, _⟩ => ⟨S2x8x2064, .f32⟩
  | .hbm, ⟨37, _⟩ => ⟨S2x8x2064, .f32⟩
  | .hbm, ⟨38, _⟩ => ⟨S2x8x2064, .f32⟩
  | .hbm, ⟨39, _⟩ => ⟨S2x8x2064x1, .f32⟩
  | .hbm, ⟨40, _⟩ => ⟨S2x8x2064x2064, .f32⟩
  | .hbm, ⟨41, _⟩ => ⟨S2x8x2064x2064, .f32⟩
  | .hbm, ⟨42, _⟩ => ⟨S2x8x2064x2064, .f32⟩
  | .hbm, ⟨43, _⟩ => ⟨S_, .f32⟩
  | .hbm, ⟨44, _⟩ => ⟨S2x8x2064, .f32⟩
  | .hbm, ⟨45, _⟩ => ⟨S2x8x2064x1, .f32⟩
  | .hbm, ⟨46, _⟩ => ⟨S2x8x2064x2064, .f32⟩
  | .hbm, ⟨47, _⟩ => ⟨S2x8x2064x2064, .f32⟩
  | .hbm, ⟨48, _⟩ => ⟨S2x8x2064x1, .f32⟩
  | .hbm, ⟨49, _⟩ => ⟨S_, .f32⟩
  | .hbm, ⟨50, _⟩ => ⟨S2x8x2064x1, .f32⟩
  | .hbm, ⟨51, _⟩ => ⟨S2x8x2064x1, .f32⟩
  | .hbm, ⟨52, _⟩ => ⟨S2x8x64x2064, .f32⟩
  | .hbm, ⟨53, _⟩ => ⟨S2x2064x8x64, .f32⟩
  | .hbm, ⟨54, _⟩ => ⟨S2x8x64x2064, .f32⟩
  | .hbm, ⟨55, _⟩ => ⟨S2x8x2064x2064, .f32⟩
  | .hbm, ⟨56, _⟩ => ⟨S2x8x64x2064, .f32⟩
  | .hbm, ⟨57, _⟩ => ⟨S2x2064x8x64, .f32⟩
  | .hbm, ⟨58, _⟩ => ⟨S2x8x2064x2064, .f32⟩
  | .hbm, ⟨59, _⟩ => ⟨S2x8x2064x2064, .f32⟩
  | .hbm, ⟨60, _⟩ => ⟨S2x8x2064x2064, .f32⟩
  | .hbm, ⟨61, _⟩ => ⟨S_, .f32⟩
  | .hbm, ⟨62, _⟩ => ⟨S2x8x2064, .f32⟩
  | .hbm, ⟨63, _⟩ => ⟨S2x8x2064x1, .f32⟩
  | .hbm, ⟨64, _⟩ => ⟨S2x8x2064x1, .f32⟩
  | .hbm, ⟨65, _⟩ => ⟨S2x8x2064x2064, .f32⟩
  | .hbm, ⟨66, _⟩ => ⟨S2x8x2064x2064, .f32⟩
  | .hbm, ⟨67, _⟩ => ⟨S_, .f32⟩
  | .hbm, ⟨68, _⟩ => ⟨S2x8x2064, .f32⟩
  | .hbm, ⟨69, _⟩ => ⟨S2x8x2064x2064, .f32⟩
  | .hbm, ⟨70, _⟩ => ⟨S2x8x2064x2064, .f32⟩
  | .hbm, ⟨71, _⟩ => ⟨S2x8x2064x2064, .f32⟩
  | .hbm, ⟨72, _⟩ => ⟨S_, .f32⟩
  | .hbm, ⟨73, _⟩ => ⟨S2x8x2064x2064, .f32⟩
  | .hbm, ⟨74, _⟩ => ⟨S2x8x2064x2064, .f32⟩
  | .hbm, ⟨75, _⟩ => ⟨S2x8x2064x32, .f32⟩
  | .hbm, ⟨76, _⟩ => ⟨S2x2064x8x32, .f32⟩
  | .hbm, ⟨77, _⟩ => ⟨S2x8x2064x32, .f32⟩
  | .hbm, ⟨78, _⟩ => ⟨S2x2064x8x32, .f32⟩
  | .hbm, ⟨79, _⟩ => ⟨S2x8x2064x64, .f32⟩
  | .hbm, ⟨80, _⟩ => ⟨S2x2064x8x64, .f32⟩
  | .hbm, ⟨81, _⟩ => ⟨S2x8x2064x64, .f32⟩
  | .hbm, ⟨82, _⟩ => ⟨S2x2064x8x64, .f32⟩
  | .hbm, ⟨83, _⟩ => ⟨S_, .f32⟩
  | .hbm, ⟨84, _⟩ => ⟨S2x2064x8x32, .f32⟩
  | .hbm, ⟨85, _⟩ => ⟨S2x2064x8x128, .f32⟩
  | .hbm, ⟨86, _⟩ => ⟨S_, .f32⟩
  | .hbm, ⟨87, _⟩ => ⟨S2x112x8x128, .f32⟩
  | .hbm, ⟨88, _⟩ => ⟨S2x16x8x128, .f32⟩
  | .hbm, ⟨89, _⟩ => ⟨S2x2048x8x128, .f32⟩
  | .hbm, ⟨90, _⟩ => ⟨S2x2176x8x128, .f32⟩
  | .hbm, ⟨91, _⟩ => ⟨S4352x1024, .f32⟩
  | .hbm, ⟨92, _⟩ => ⟨S2x2064x8x128, .f32⟩
  | .hbm, ⟨93, _⟩ => ⟨S_, .f32⟩
  | .hbm, ⟨94, _⟩ => ⟨S2x112x8x128, .f32⟩
  | .hbm, ⟨95, _⟩ => ⟨S2x16x8x128, .f32⟩
  | .hbm, ⟨96, _⟩ => ⟨S2x2048x8x128, .f32⟩
  | .hbm, ⟨97, _⟩ => ⟨S2x2176x8x128, .f32⟩
  | .hbm, ⟨98, _⟩ => ⟨S4352x1024, .f32⟩
  | .hbm, ⟨99, _⟩ => ⟨S_, .f32⟩
  | .hbm, ⟨100, _⟩ => ⟨S2x112x8x64, .f32⟩
  | .hbm, ⟨101, _⟩ => ⟨S2x16x8x64, .f32⟩
  | .hbm, ⟨102, _⟩ => ⟨S2x2048x8x64, .f32⟩
  | .hbm, ⟨103, _⟩ => ⟨S2x2176x8x64, .f32⟩
  | .hbm, ⟨104, _⟩ => ⟨S4352x512, .f32⟩
  | _, _ => ⟨S2x2064x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_16 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== InKernel.lean ====
abbrev S2x2064x1024 : Shape := ⟨3, ![2, 2064, 1024]⟩
abbrev S1024 : Shape := ⟨1, ![1024]⟩
abbrev S1024x2208 : Shape := ⟨2, ![1024, 2208]⟩
abbrev S2x2064x2208 : Shape := ⟨3, ![2, 2064, 2208]⟩
abbrev S_ : Shape := ⟨0, ![]⟩
abbrev S2x112x2208 : Shape := ⟨3, ![2, 112, 2208]⟩
abbrev S2x16x2208 : Shape := ⟨3, ![2, 16, 2208]⟩
abbrev S2x2048x2208 : Shape := ⟨3, ![2, 2048, 2208]⟩
abbrev S2x2176x2208 : Shape := ⟨3, ![2, 2176, 2208]⟩
abbrev S4352x2208 : Shape := ⟨2, ![4352, 2208]⟩
abbrev S4352x512 : Shape := ⟨2, ![4352, 512]⟩
abbrev S4352x64 : Shape := ⟨2, ![4352, 64]⟩
abbrev S4352x256 : Shape := ⟨2, ![4352, 256]⟩
abbrev S4352x128 : Shape := ⟨2, ![4352, 128]⟩
abbrev S4352x32 : Shape := ⟨2, ![4352, 32]⟩
abbrev S4352x2304 : Shape := ⟨2, ![4352, 2304]⟩
abbrev S2x112x1024 : Shape := ⟨3, ![2, 112, 1024]⟩
abbrev S2x16x1024 : Shape := ⟨3, ![2, 16, 1024]⟩
abbrev S2x2048x1024 : Shape := ⟨3, ![2, 2048, 1024]⟩
abbrev S2x2176x1024 : Shape := ⟨3, ![2, 2176, 1024]⟩
abbrev S4352x1024 : Shape := ⟨2, ![4352, 1024]⟩
abbrev S1x1024 : Shape := ⟨2, ![1, 1024]⟩
abbrev S1024x512 : Shape := ⟨2, ![1024, 512]⟩
abbrev S1024x64 : Shape := ⟨2, ![1024, 64]⟩
abbrev S1024x256 : Shape := ⟨2, ![1024, 256]⟩
abbrev S1024x128 : Shape := ⟨2, ![1024, 128]⟩
abbrev S1024x32 : Shape := ⟨2, ![1024, 32]⟩
abbrev S1024x2304 : Shape := ⟨2, ![1024, 2304]⟩
abbrev S256x1024 : Shape := ⟨2, ![256, 1024]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S256x2304 : Shape := ⟨2, ![256, 2304]⟩

abbrev nBuf : Space → Nat
  | .hbm => 93
  | .vmem => 18
  | .smem => 0
  | _ => 0

abbrev bufTy : (tb : Table) → Fin (tcTables nBuf tb) → BufTy
  | .hbm, ⟨0, _⟩ => ⟨S2x2064x1024, .f32⟩
  | .hbm, ⟨1, _⟩ => ⟨S1024, .f32⟩
  | .hbm, ⟨2, _⟩ => ⟨S1024x2208, .f32⟩
  | .hbm, ⟨3, _⟩ => ⟨S2x2064x2208, .f32⟩
  | .hbm, ⟨4, _⟩ => ⟨S2x2064x1024, .f32⟩
  | .hbm, ⟨5, _⟩ => ⟨S_, .f32⟩
  | .hbm, ⟨6, _⟩ => ⟨S2x112x2208, .f32⟩
  | .hbm, ⟨7, _⟩ => ⟨S2x16x2208, .f32⟩
  | .hbm, ⟨8, _⟩ => ⟨S2x2048x2208, .f32⟩
  | .hbm, ⟨9, _⟩ => ⟨S2x2176x2208, .f32⟩
  | .hbm, ⟨10, _⟩ => ⟨S4352x2208, .f32⟩
  | .hbm, ⟨11, _⟩ => ⟨S4352x512, .f32⟩
  | .hbm, ⟨12, _⟩ => ⟨S4352x64, .f32⟩
  | .hbm, ⟨13, _⟩ => ⟨S4352x64, .f32⟩
  | .hbm, ⟨14, _⟩ => ⟨S4352x64, .f32⟩
  | .hbm, ⟨15, _⟩ => ⟨S4352x64, .f32⟩
  | .hbm, ⟨16, _⟩ => ⟨S4352x64, .f32⟩
  | .hbm, ⟨17, _⟩ => ⟨S4352x64, .f32⟩
  | .hbm, ⟨18, _⟩ => ⟨S4352x64, .f32⟩
  | .hbm, ⟨19, _⟩ => ⟨S4352x64, .f32⟩
  | .hbm, ⟨20, _⟩ => ⟨S4352x512, .f32⟩
  | .hbm, ⟨21, _⟩ => ⟨S4352x256, .f32⟩
  | .hbm, ⟨22, _⟩ => ⟨S4352x512, .f32⟩
  | .hbm, ⟨23, _⟩ => ⟨S4352x64, .f32⟩
  | .hbm, ⟨24, _⟩ => ⟨S4352x64, .f32⟩
  | .hbm, ⟨25, _⟩ => ⟨S4352x64, .f32⟩
  | .hbm, ⟨26, _⟩ => ⟨S4352x64, .f32⟩
  | .hbm, ⟨27, _⟩ => ⟨S4352x64, .f32⟩
  | .hbm, ⟨28, _⟩ => ⟨S4352x64, .f32⟩
  | .hbm, ⟨29, _⟩ => ⟨S4352x64, .f32⟩
  | .hbm, ⟨30, _⟩ => ⟨S4352x64, .f32⟩
  | .hbm, ⟨31, _⟩ => ⟨S4352x512, .f32⟩
  | .hbm, ⟨32, _⟩ => ⟨S4352x512, .f32⟩
  | .hbm, ⟨33, _⟩ => ⟨S4352x256, .f32⟩
  | .hbm, ⟨34, _⟩ => ⟨S4352x128, .f32⟩
  | .hbm, ⟨35, _⟩ => ⟨S_, .f32⟩
  | .hbm, ⟨36, _⟩ => ⟨S4352x64, .f32⟩
  | .hbm, ⟨37, _⟩ => ⟨S4352x32, .f32⟩
  | .hbm, ⟨38, _⟩ => ⟨S_, .f32⟩
  | .hbm, ⟨39, _⟩ => ⟨S4352x32, .f32⟩
  | .hbm, ⟨40, _⟩ => ⟨S4352x2304, .f32⟩
  | .hbm, ⟨41, _⟩ => ⟨S4352x2304, .bf16⟩
  | .hbm, ⟨42, _⟩ => ⟨S_, .f32⟩
  | .hbm, ⟨43, _⟩ => ⟨S2x112x1024, .f32⟩
  | .hbm, ⟨44, _⟩ => ⟨S2x16x1024, .f32⟩
  | .hbm, ⟨45, _⟩ => ⟨S2x2048x1024, .f32⟩
  | .hbm, ⟨46, _⟩ => ⟨S2x2176x1024, .f32⟩
  | .hbm, ⟨47, _⟩ => ⟨S4352x1024, .f32⟩
  | .hbm, ⟨48, _⟩ => ⟨S1x1024, .f32⟩
  | .hbm, ⟨49, _⟩ => ⟨S1024x512, .f32⟩
  | .hbm, ⟨50, _⟩ => ⟨S1024x64, .f32⟩
  | .hbm, ⟨51, _⟩ => ⟨S1024x64, .f32⟩
  | .hbm, ⟨52, _⟩ => ⟨S1024x64, .f32⟩
  | .hbm, ⟨53, _⟩ => ⟨S1024x64, .f32⟩
  | .hbm, ⟨54, _⟩ => ⟨S1024x64, .f32⟩
  | .hbm, ⟨55, _⟩ => ⟨S1024x64, .f32⟩
  | .hbm, ⟨56, _⟩ => ⟨S1024x64, .f32⟩
  | .hbm, ⟨57, _⟩ => ⟨S1024x64, .f32⟩
  | .hbm, ⟨58, _⟩ => ⟨S1024x512, .f32⟩
  | .hbm, ⟨59, _⟩ => ⟨S1024x256, .f32⟩
  | .hbm, ⟨60, _⟩ => ⟨S1024x512, .f32⟩
  | .hbm, ⟨61, _⟩ => ⟨S1024x64, .f32⟩
  | .hbm, ⟨62, _⟩ => ⟨S1024x64, .f32⟩
  | .hbm, ⟨63, _⟩ => ⟨S1024x64, .f32⟩
  | .hbm, ⟨64, _⟩ => ⟨S1024x64, .f32⟩
  | .hbm, ⟨65, _⟩ => ⟨S1024x64, .f32⟩
  | .hbm, ⟨66, _⟩ => ⟨S1024x64, .f32⟩
  | .hbm, ⟨67, _⟩ => ⟨S1024x64, .f32⟩
  | .hbm, ⟨68, _⟩ => ⟨S1024x64, .f32⟩
  | .hbm, ⟨69, _⟩ => ⟨S1024x512, .f32⟩
  | .hbm, ⟨70, _⟩ => ⟨S1024x512, .f32⟩
  | .hbm, ⟨71, _⟩ => ⟨S1024x256, .f32⟩
  | .hbm, ⟨72, _⟩ => ⟨S1024x128, .f32⟩
  | .hbm, ⟨73, _⟩ => ⟨S_, .f32⟩
  | .hbm, ⟨74, _⟩ => ⟨S1024x64, .f32⟩
  | .hbm, ⟨75, _⟩ => ⟨S1024x32, .f32⟩
  | .hbm, ⟨76, _⟩ => ⟨S_, .f32⟩
  | .hbm, ⟨77, _⟩ => ⟨S1024x32, .f32⟩
  | .hbm, ⟨78, _⟩ => ⟨S1024x2304, .f32⟩
  | .hbm, ⟨79, _⟩ => ⟨S1024x2304, .bf16⟩
  | .hbm, ⟨80, _⟩ => ⟨S4352x512, .bf16⟩
  | .hbm, ⟨81, _⟩ => ⟨S4352x256, .bf16⟩
  | .hbm, ⟨82, _⟩ => ⟨S4352x1024, .bf16⟩
  | .hbm, ⟨83, _⟩ => ⟨S4352x512, .bf16⟩
  | .hbm, ⟨84, _⟩ => ⟨S_, .f32⟩
  | .hbm, ⟨85, _⟩ => ⟨S2x112x1024, .f32⟩
  | .hbm, ⟨86, _⟩ => ⟨S2x16x1024, .f32⟩
  | .hbm, ⟨87, _⟩ => ⟨S2x2048x1024, .f32⟩
  | .hbm, ⟨88, _⟩ => ⟨S2x2176x1024, .f32⟩
  | .hbm, ⟨89, _⟩ => ⟨S4352x1024, .f32⟩
  | .hbm, ⟨90, _⟩ => ⟨S4352x1024, .f32⟩
  | .hbm, ⟨91, _⟩ => ⟨S1024x2304, .f32⟩
  | .hbm, ⟨92, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2304, .bf16⟩
  | .local _ .vmem, ⟨4, _⟩ => ⟨S256x512, .bf16⟩
  | .local _ .vmem, ⟨5, _⟩ => ⟨S256x512, .bf16⟩
  | .local _ .vmem, ⟨6, _⟩ => ⟨S256x256, .bf16⟩
  | .local _ .vmem, ⟨7, _⟩ => ⟨S256x256, .bf16⟩
  | .local _ .vmem, ⟨8, _⟩ => ⟨S256x1024, .bf16⟩
  | .local _ .vmem, ⟨9, _⟩ => ⟨S256x1024, .bf16⟩
  | .local _ .vmem, ⟨10, _⟩ => ⟨S256x512, .bf16⟩
  | .local _ .vmem, ⟨11, _⟩ => ⟨S256x512, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1024x2304, .f32⟩
  | .local _ .vmem, ⟨17, _⟩ => ⟨S1x1024, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_3 : Ref sig .tc := ⟨.hbm, 73, rfl⟩
abbrev main_v64 : Ref sig .tc := ⟨.hbm, 74, rfl⟩
abbrev main_v65 : Ref sig .tc := ⟨.hbm, 75, rfl⟩
abbrev main_cst_4 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_5 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78_0 : Ref sig .tc := ⟨.hbm, 90, rfl⟩
abbrev main_v78_1 : Ref sig .tc := ⟨.hbm, 91, rfl⟩
abbrev main_v78_2 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2304 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InReference.lean ====
abbrev S2x2064x1024 : Shape := ⟨3, ![2, 2064, 1024]⟩
abbrev S1024 : Shape := ⟨1, ![1024]⟩
abbrev S1024x2208 : Shape := ⟨2, ![1024, 2208]⟩
abbrev S2x2064x2208 : Shape := ⟨3, ![2, 2064, 2208]⟩
abbrev S_ : Shape := ⟨0, ![]⟩
abbrev S2x2064 : Shape := ⟨2, ![2, 2064]⟩
abbrev S2x2064x1 : Shape := ⟨3, ![2, 2064, 1]⟩
abbrev S1x1x1024 : Shape := ⟨3, ![1, 1, 1024]⟩
abbrev S2208x1024 : Shape := ⟨2, ![2208, 1024]⟩
abbrev S2x112x1024 : Shape := ⟨3, ![2, 112, 1024]⟩
abbrev S2x16x1024 : Shape := ⟨3, ![2, 16, 1024]⟩
abbrev S2x2048x1024 : Shape := ⟨3, ![2, 2048, 1024]⟩
abbrev S2x2176x1024 : Shape := ⟨3, ![2, 2176, 1024]⟩
abbrev S4352x1024 : Shape := ⟨2, ![4352, 1024]⟩
abbrev S1024x512 : Shape := ⟨2, ![1024, 512]⟩
abbrev S1024x256 : Shape := ⟨2, ![1024, 256]⟩
abbrev S1024x128 : Shape := ⟨2, ![1024, 128]⟩
abbrev S1024x32 : Shape := ⟨2, ![1024, 32]⟩
abbrev S1024x64 : Shape := ⟨2, ![1024, 64]⟩
abbrev S1024x2x4x64 : Shape := ⟨4, ![1024, 2, 4, 64]⟩
abbrev S1024x4x2x64 : Shape := ⟨4, ![1024, 4, 2, 64]⟩
abbrev S1024x2304 : Shape := ⟨2, ![1024, 2304]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S2x2064x1024, .f32⟩
  | .hbm, ⟨1, _⟩ => ⟨S1024, .f32⟩
  | .hbm, ⟨2, _⟩ => ⟨S1024x2208, .f32⟩
  | .hbm, ⟨3, _⟩ => ⟨S2x2064x2208, .f32⟩
  | .hbm, ⟨4, _⟩ => ⟨S2x2064x1024, .f32⟩
  | .hbm, ⟨5, _⟩ => ⟨S2x2064x1024, .f32⟩
  | .hbm, ⟨6, _⟩ => ⟨S_, .f32⟩
  | .hbm, ⟨7, _⟩ => ⟨S2x2064, .f32⟩
  | .hbm, ⟨8, _⟩ => ⟨S2x2064x1, .f32⟩
  | .hbm, ⟨9, _⟩ => ⟨S_, .f32⟩
  | .hbm, ⟨10, _⟩ => ⟨S2x2064x1, .f32⟩
  | .hbm, ⟨11, _⟩ => ⟨S2x2064x1, .f32⟩
  | .hbm, ⟨12, _⟩ => ⟨S_, .f32⟩
  | .hbm, ⟨13, _⟩ => ⟨S2x2064x1, .f32⟩
  | .hbm, ⟨14, _⟩ => ⟨S2x2064x1, .f32⟩
  | .hbm, ⟨15, _⟩ => ⟨S2x2064x1, .f32⟩
  | .hbm, ⟨16, _⟩ => ⟨S2x2064x1, .f32⟩
  | .hbm, ⟨17, _⟩ => ⟨S_, .f32⟩
  | .hbm, ⟨18, _⟩ => ⟨S2x2064x1, .f32⟩
  | .hbm, ⟨19, _⟩ => ⟨S2x2064x1, .f32⟩
  | .hbm, ⟨20, _⟩ => ⟨S2x2064x1024, .f32⟩
  | .hbm, ⟨21, _⟩ => ⟨S2x2064x1024, .f32⟩
  | .hbm, ⟨22, _⟩ => ⟨S1x1x1024, .f32⟩
  | .hbm, ⟨23, _⟩ => ⟨S2x2064x1024, .f32⟩
  | .hbm, ⟨24, _⟩ => ⟨S2x2064x1024, .f32⟩
  | .hbm, ⟨25, _⟩ => ⟨S2x2064x2208, .f32⟩
  | .hbm, ⟨26, _⟩ => ⟨S2208x1024, .f32⟩
  | .hbm, ⟨27, _⟩ => ⟨S1024x2208, .f32⟩
  | .hbm, ⟨28, _⟩ => ⟨S2x2064x1024, .f32⟩
  | .hbm, ⟨29, _⟩ => ⟨S2x2064x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x2064x1024, .f32⟩
  | .hbm, ⟨34, _⟩ => ⟨S2x2064x1024, .f32⟩
  | .hbm, ⟨35, _⟩ => ⟨S_, .f32⟩
  | .hbm, ⟨36, _⟩ => ⟨S1024, .f32⟩
  | .hbm, ⟨37, _⟩ => ⟨S2x2064x1024, .f32⟩
  | .hbm, ⟨38, _⟩ => ⟨S_, .f32⟩
  | .hbm, ⟨39, _⟩ => ⟨S2x2064, .f32⟩
  | .hbm, ⟨40, _⟩ => ⟨S2x2064x1, .f32⟩
  | .hbm, ⟨41, _⟩ => ⟨S2x2064x1024, .f32⟩
  | .hbm, ⟨42, _⟩ => ⟨S2x2064x1024, .f32⟩
  | .hbm, ⟨43, _⟩ => ⟨S2x2064x1024, .f32⟩
  | .hbm, ⟨44, _⟩ => ⟨S2x2064x1, .f32⟩
  | .hbm, ⟨45, _⟩ => ⟨S_, .f32⟩
  | .hbm, ⟨46, _⟩ => ⟨S2x2064x1, .f32⟩
  | .hbm, ⟨47, _⟩ => ⟨S2x2064x1, .f32⟩
  | .hbm, ⟨48, _⟩ => ⟨S_, .f32⟩
  | .hbm, ⟨49, _⟩ => ⟨S2x2064, .f32⟩
  | .hbm, ⟨50, _⟩ => ⟨S2x2064x1024, .f32⟩
  | .hbm, ⟨51, _⟩ => ⟨S2x2064x1024, .f32⟩
  | .hbm, ⟨52, _⟩ => ⟨S2x2064x1024, .f32⟩
  | .hbm, ⟨53, _⟩ => ⟨S2x2064x1024, .f32⟩
  | .hbm, ⟨54, _⟩ => ⟨S2x2064x1024, .f32⟩
  | .hbm, ⟨55, _⟩ => ⟨S_, .f32⟩
  | .hbm, ⟨56, _⟩ => ⟨S2x112x1024, .f32⟩
  | .hbm, ⟨57, _⟩ => ⟨S2x16x1024, .f32⟩
  | .hbm, ⟨58, _⟩ => ⟨S2x2048x1024, .f32⟩
  | .hbm, ⟨59, _⟩ => ⟨S2x2176x1024, .f32⟩
  | .hbm, ⟨60, _⟩ => ⟨S4352x1024, .f32⟩
  | .hbm, ⟨61, _⟩ => ⟨S1024x512, .f32⟩
  | .hbm, ⟨62, _⟩ => ⟨S1024x256, .f32⟩
  | .hbm, ⟨63, _⟩ => ⟨S1024x512, .f32⟩
  | .hbm, ⟨64, _⟩ => ⟨S1024x256, .f32⟩
  | .hbm, ⟨65, _⟩ => ⟨S1024x128, .f32⟩
  | .hbm, ⟨66, _⟩ => ⟨S1024x32, .f32⟩
  | .hbm, ⟨67, _⟩ => ⟨S1024x512, .f32⟩
  | .hbm, ⟨68, _⟩ => ⟨S_, .f32⟩
  | .hbm, ⟨69, _⟩ => ⟨S1024x64, .f32⟩
  | .hbm, ⟨70, _⟩ => ⟨S1024x2x4x64, .f32⟩
  | .hbm, ⟨71, _⟩ => ⟨S1024x4x2x64, .f32⟩
  | .hbm, ⟨72, _⟩ => ⟨S1024x512, .f32⟩
  | .hbm, ⟨73, _⟩ => ⟨S1024x2x4x64, .f32⟩
  | .hbm, ⟨74, _⟩ => ⟨S1024x4x2x64, .f32⟩
  | .hbm, ⟨75, _⟩ => ⟨S1024x512, .f32⟩
  | .hbm, ⟨76, _⟩ => ⟨S1024x32, .f32⟩
  | .hbm, ⟨77, _⟩ => ⟨S1024x2304, .f32⟩
  | .hbm, ⟨78, _⟩ => ⟨S1x1024, .f32⟩
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩

abbrev nD : Nat := 1
abbrev τ : Topo := Topo.v7x

variable {F : FTy → Type} [FloatOps F]
-- ==== FwdKernel.lean ====
abbrev S2x2064x1024 : Shape := ⟨3, ![2, 2064, 1024]⟩
abbrev S1024 : Shape := ⟨1, ![1024]⟩
abbrev S1024x2208 : Shape := ⟨2, ![1024, 2208]⟩
abbrev S_ : Shape := ⟨0, ![]⟩
abbrev S2x112x1024 : Shape := ⟨3, ![2, 112, 1024]⟩
abbrev S2x16x1024 : Shape := ⟨3, ![2, 16, 1024]⟩
abbrev S2x2048x1024 : Shape := ⟨3, ![2, 2048, 1024]⟩
abbrev S2x2176x1024 : Shape := ⟨3, ![2, 2176, 1024]⟩
abbrev S4352x1024 : Shape := ⟨2, ![4352, 1024]⟩
abbrev S1x1024 : Shape := ⟨2, ![1, 1024]⟩
abbrev S1024x512 : Shape := ⟨2, ![1024, 512]⟩
abbrev S1024x64 : Shape := ⟨2, ![1024, 64]⟩
abbrev S1024x256 : Shape := ⟨2, ![1024, 256]⟩
abbrev S1024x128 : Shape := ⟨2, ![1024, 128]⟩
abbrev S1024x32 : Shape := ⟨2, ![1024, 32]⟩
abbrev S1024x2304 : Shape := ⟨2, ![1024, 2304]⟩
abbrev S4352x768 : Shape := ⟨2, ![4352, 768]⟩
abbrev S4352x1536 : Shape := ⟨2, ![4352, 1536]⟩
abbrev S256x1024 : Shape := ⟨2, ![256, 1024]⟩
abbrev S256x768 : Shape := ⟨2, ![256, 768]⟩
abbrev S256x1536 : Shape := ⟨2, ![256, 1536]⟩
abbrev S256 : Shape := ⟨1, ![256]⟩
abbrev S256x1 : Shape := ⟨2, ![256, 1]⟩
abbrev S256x2304 : Shape := ⟨2, ![256, 2304]⟩
abbrev S256x512 : Shape := ⟨2, ![256, 512]⟩
abbrev S256x256 : Shape := ⟨2, ![256, 256]⟩

abbrev nBuf : Space → Nat
  | .hbm => 43
  | .vmem => 8
  | .smem => 0
  | _ => 0

abbrev bufTy : (tb : Table) → Fin (tcTables nBuf tb) → BufTy
  | .hbm, ⟨0, _⟩ => ⟨S2x2064x1024, .f32⟩
  | .hbm, ⟨1, _⟩ => ⟨S1024, .f32⟩
  | .hbm, ⟨2, _⟩ => ⟨S1024x2208, .f32⟩
  | .hbm, ⟨3, _⟩ => ⟨S_, .f32⟩
  | .hbm, ⟨4, _⟩ => ⟨S2x112x1024, .f32⟩
  | .hbm, ⟨5, _⟩ => ⟨S2x16x1024, .f32⟩
  | .hbm, ⟨6, _⟩ => ⟨S2x2048x1024, .f32⟩
  | .hbm, ⟨7, _⟩ => ⟨S2x2176x1024, .f32⟩
  | .hbm, ⟨8, _⟩ => ⟨S4352x1024, .f32⟩
  | .hbm, ⟨9, _⟩ => ⟨S1x1024, .f32⟩
  | .hbm, ⟨10, _⟩ => ⟨S1024x512, .f32⟩
  | .hbm, ⟨11, _⟩ => ⟨S1024x64, .f32⟩
  | .hbm, ⟨12, _⟩ => ⟨S1024x64, .f32⟩
  | .hbm, ⟨13, _⟩ => ⟨S1024x64, .f32⟩
  | .hbm, ⟨14, _⟩ => ⟨S1024x64, .f32⟩
  | .hbm, ⟨15, _⟩ => ⟨S1024x64, .f32⟩
  | .hbm, ⟨16, _⟩ => ⟨S1024x64, .f32⟩
  | .hbm, ⟨17, _⟩ => ⟨S1024x64, .f32⟩
  | .hbm, ⟨18, _⟩ => ⟨S1024x64, .f32⟩
  | .hbm, ⟨19, _⟩ => ⟨S1024x512, .f32⟩
  | .hbm, ⟨20, _⟩ => ⟨S1024x256, .f32⟩
  | .hbm, ⟨21, _⟩ => ⟨S1024x512, .f32⟩
  | .hbm, ⟨22, _⟩ => ⟨S1024x64, .f32⟩
  | .hbm, ⟨23, _⟩ => ⟨S1024x64, .f32⟩
  | .hbm, ⟨24, _⟩ => ⟨S1024x64, .f32⟩
  | .hbm, ⟨25, _⟩ => ⟨S1024x64, .f32⟩
  | .hbm, ⟨26, _⟩ => ⟨S1024x64, .f32⟩
  | .hbm, ⟨27, _⟩ => ⟨S1024x64, .f32⟩
  | .hbm, ⟨28, _⟩ => ⟨S1024x64, .f32⟩
  | .hbm, ⟨29, _⟩ => ⟨S1024x64, .f32⟩
  | .hbm, ⟨30, _⟩ => ⟨S1024x512, .f32⟩
  | .hbm, ⟨31, _⟩ => ⟨S1024x512, .f32⟩
  | .hbm, ⟨32, _⟩ => ⟨S1024x256, .f32⟩
  | .hbm, ⟨33, _⟩ => ⟨S1024x128, .f32⟩
  | .hbm, ⟨34, _⟩ => ⟨S_, .f32⟩
  | .hbm, ⟨35, _⟩ => ⟨S1024x64, .f32⟩
  | .hbm, ⟨36, _⟩ => ⟨S1024x32, .f32⟩
  | .hbm, ⟨37, _⟩ => ⟨S_, .f32⟩
  | .hbm, ⟨38, _⟩ => ⟨S1024x32, .f32⟩
  | .hbm, ⟨39, _⟩ => ⟨S1024x2304, .f32⟩
  | .hbm, ⟨40, _⟩ => ⟨S1024x2304, .bf16⟩
  | .hbm, ⟨41, _⟩ => ⟨S4352x768, .bf16⟩
  | .hbm, ⟨42, _⟩ => ⟨S4352x1536, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2304, .bf16⟩
  | .local _ .vmem, ⟨4, _⟩ => ⟨S256x768, .bf16⟩
  | .local _ .vmem, ⟨5, _⟩ => ⟨S256x768, .bf16⟩
  | .local _ .vmem, ⟨6, _⟩ => ⟨S256x1536, .f32⟩
  | .local _ .vmem, ⟨7, _⟩ => ⟨S256x1536, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_0 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35_0 : Ref sig .tc := ⟨.hbm, 41, rfl⟩
abbrev main_v35_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwdKernelIdeal.lean ====
variable {F : FTy → Type} [FloatOps F] [Named F]
def κ : String → Option EReal := fun
  | "qa" => some (((1 / 8) * (Real.log 2)⁻¹ : ℝ) : EReal)
  | _ => none
-- ==== FwdReference.lean ====
abbrev S2x2064x1024 : Shape := ⟨3, ![2, 2064, 1024]⟩
abbrev S1024 : Shape := ⟨1, ![1024]⟩
abbrev S1024x2208 : Shape := ⟨2, ![1024, 2208]⟩
abbrev S_ : Shape := ⟨0, ![]⟩
abbrev S2x2064 : Shape := ⟨2, ![2, 2064]⟩
abbrev S2x2064x1 : Shape := ⟨3, ![2, 2064, 1]⟩
abbrev S1x1x1024 : Shape := ⟨3, ![1, 1, 1024]⟩
abbrev S2x2064x2208 : Shape := ⟨3, ![2, 2064, 2208]⟩
abbrev S2x112x2208 : Shape := ⟨3, ![2, 112, 2208]⟩
abbrev S2x16x2208 : Shape := ⟨3, ![2, 16, 2208]⟩
abbrev S2x2048x2208 : Shape := ⟨3, ![2, 2048, 2208]⟩
abbrev S2x2176x2208 : Shape := ⟨3, ![2, 2176, 2208]⟩
abbrev S4352x2208 : Shape := ⟨2, ![4352, 2208]⟩
abbrev S4352x512 : Shape := ⟨2, ![4352, 512]⟩
abbrev S4352x256 : Shape := ⟨2, ![4352, 256]⟩
abbrev S4352x128 : Shape := ⟨2, ![4352, 128]⟩
abbrev S4352x32 : Shape := ⟨2, ![4352, 32]⟩
abbrev S4352x64 : Shape := ⟨2, ![4352, 64]⟩
abbrev S4352x2x4x64 : Shape := ⟨4, ![4352, 2, 4, 64]⟩
abbrev S4352x4x2x64 : Shape := ⟨4, ![4352, 4, 2, 64]⟩
abbrev S4352x768 : Shape := ⟨2, ![4352, 768]⟩
abbrev S4352x1536 : Shape := ⟨2, ![4352, 1536]⟩

abbrev nBuf : Space → Nat
  | .hbm => 52
  | .vmem => 0
  | .smem => 0
  | _ => 0

abbrev bufTy : (tb : Table) → Fin (tcTables nBuf tb) → BufTy
  | .hbm, ⟨0, _⟩ => ⟨S2x2064x1024, .f32⟩
  | .hbm, ⟨1, _⟩ => ⟨S1024, .f32⟩
  | .hbm, ⟨2, _⟩ => ⟨S1024x2208, .f32⟩
  | .hbm, ⟨3, _⟩ => ⟨S2x2064x1024, .f32⟩
  | .hbm, ⟨4, _⟩ => ⟨S_, .f32⟩
  | .hbm, ⟨5, _⟩ => ⟨S2x2064, .f32⟩
  | .hbm, ⟨6, _⟩ => ⟨S2x2064x1, .f32⟩
  | .hbm, ⟨7, _⟩ => ⟨S_, .f32⟩
  | .hbm, ⟨8, _⟩ => ⟨S2x2064x1, .f32⟩
  | .hbm, ⟨9, _⟩ => ⟨S2x2064x1, .f32⟩
  | .hbm, ⟨10, _⟩ => ⟨S_, .f32⟩
  | .hbm, ⟨11, _⟩ => ⟨S2x2064x1, .f32⟩
  | .hbm, ⟨12, _⟩ => ⟨S2x2064x1, .f32⟩
  | .hbm, ⟨13, _⟩ => ⟨S2x2064x1, .f32⟩
  | .hbm, ⟨14, _⟩ => ⟨S2x2064x1024, .f32⟩
  | .hbm, ⟨15, _⟩ => ⟨S2x2064x1024, .f32⟩
  | .hbm, ⟨16, _⟩ => ⟨S1x1x1024, .f32⟩
  | .hbm, ⟨17, _⟩ => ⟨S2x2064x1024, .f32⟩
  | .hbm, ⟨18, _⟩ => ⟨S2x2064x1024, .f32⟩
  | .hbm, ⟨19, _⟩ => ⟨S2x2064x2208, .f32⟩
  | .hbm, ⟨20, _⟩ => ⟨S_, .f32⟩
  | .hbm, ⟨21, _⟩ => ⟨S2x112x2208, .f32⟩
  | .hbm, ⟨22, _⟩ => ⟨S2x16x2208, .f32⟩
  | .hbm, ⟨23, _⟩ => ⟨S2x2048x2208, .f32⟩
  | .hbm, ⟨24, _⟩ => ⟨S2x2176x2208, .f32⟩
  | .hbm, ⟨25, _⟩ => ⟨S4352x2208, .f32⟩
  | .hbm, ⟨26, _⟩ => ⟨S4352x512, .f32⟩
  | .hbm, ⟨27, _⟩ => ⟨S4352x256, .f32⟩
  | .hbm, ⟨28, _⟩ => ⟨S4352x512, .f32⟩
  | .hbm, ⟨29, _⟩ => ⟨S4352x256, .f32⟩
  | .hbm, ⟨30, _⟩ => ⟨S4352x128, .f32⟩
  | .hbm, ⟨31, _⟩ => ⟨S4352x32, .f32⟩
  | .hbm, ⟨32, _⟩ => ⟨S4352x512, .f32⟩
  | .hbm, ⟨33, _⟩ => ⟨S_, .f32⟩
  | .hbm, ⟨34, _⟩ => ⟨S4352x64, .f32⟩
  | .hbm, ⟨35, _⟩ => ⟨S4352x2x4x64, .f32⟩
  | .hbm, ⟨36, _⟩ => ⟨S4352x4x2x64, .f32⟩
  | .hbm, ⟨37, _⟩ => ⟨S4352x512, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4352x512, .f32⟩
  | .hbm, ⟨44, _⟩ => ⟨S4352x512, .f32⟩
  | .hbm, ⟨45, _⟩ => ⟨S4352x768, .f32⟩
  | .hbm, ⟨46, _⟩ => ⟨S4352x768, .bf16⟩
  | .hbm, ⟨47, _⟩ => ⟨S4352x2x4x64, .f32⟩
  | .hbm, ⟨48, _⟩ => ⟨S4352x4x2x64, .f32⟩
  | .hbm, ⟨49, _⟩ => ⟨S4352x512, .f32⟩
  | .hbm, ⟨50, _⟩ => ⟨S4352x32, .f32⟩
  | .hbm, ⟨51, _⟩ => ⟨S4352x1536, .f32⟩
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== OutKernel.lean ====
abbrev S2x2064x1024 : Shape := ⟨3, ![2, 2064, 1024]⟩
abbrev S2x2064x512 : Shape := ⟨3, ![2, 2064, 512]⟩
abbrev S512 : Shape := ⟨1, ![512]⟩
abbrev S1024x1024 : Shape := ⟨2, ![1024, 1024]⟩
abbrev S_ : Shape := ⟨0, ![]⟩
abbrev S2x112x512 : Shape := ⟨3, ![2, 112, 512]⟩
abbrev S2x16x512 : Shape := ⟨3, ![2, 16, 512]⟩
abbrev S2x2048x512 : Shape := ⟨3, ![2, 2048, 512]⟩
abbrev S2x2176x512 : Shape := ⟨3, ![2, 2176, 512]⟩
abbrev S4352x512 : Shape := ⟨2, ![4352, 512]⟩
abbrev S4352x64 : Shape := ⟨2, ![4352, 64]⟩
abbrev S4352x1536 : Shape := ⟨2, ![4352, 1536]⟩
abbrev S2x112x1024 : Shape := ⟨3, ![2, 112, 1024]⟩
abbrev S2x16x1024 : Shape := ⟨3, ![2, 16, 1024]⟩
abbrev S2x2048x1024 : Shape := ⟨3, ![2, 2048, 1024]⟩
abbrev S2x2176x1024 : Shape := ⟨3, ![2, 2176, 1024]⟩
abbrev S4352x1024 : Shape := ⟨2, ![4352, 1024]⟩
abbrev S64 : Shape := ⟨1, ![64]⟩
abbrev S1x512 : Shape := ⟨2, ![1, 512]⟩
abbrev S512x1024 : Shape := ⟨2, ![512, 1024]⟩
abbrev S64x1024 : Shape := ⟨2, ![64, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 89
  | .vmem => 22
  | .smem => 0
  | _ => 0

abbrev bufTy : (tb : Table) → Fin (tcTables nBuf tb) → BufTy
  | .hbm, ⟨0, _⟩ => ⟨S2x2064x1024, .f32⟩
  | .hbm, ⟨1, _⟩ => ⟨S2x2064x512, .f32⟩
  | .hbm, ⟨2, _⟩ => ⟨S2x2064x512, .f32⟩
  | .hbm, ⟨3, _⟩ => ⟨S2x2064x512, .f32⟩
  | .hbm, ⟨4, _⟩ => ⟨S2x2064x512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S_, .f32⟩
  | .hbm, ⟨9, _⟩ => ⟨S2x112x512, .f32⟩
  | .hbm, ⟨10, _⟩ => ⟨S2x16x512, .f32⟩
  | .hbm, ⟨11, _⟩ => ⟨S2x2048x512, .f32⟩
  | .hbm, ⟨12, _⟩ => ⟨S2x2176x512, .f32⟩
  | .hbm, ⟨13, _⟩ => ⟨S4352x512, .f32⟩
  | .hbm, ⟨14, _⟩ => ⟨S4352x64, .f32⟩
  | .hbm, ⟨15, _⟩ => ⟨S4352x64, .f32⟩
  | .hbm, ⟨16, _⟩ => ⟨S4352x64, .f32⟩
  | .hbm, ⟨17, _⟩ => ⟨S4352x64, .f32⟩
  | .hbm, ⟨18, _⟩ => ⟨S4352x64, .f32⟩
  | .hbm, ⟨19, _⟩ => ⟨S4352x64, .f32⟩
  | .hbm, ⟨20, _⟩ => ⟨S4352x64, .f32⟩
  | .hbm, ⟨21, _⟩ => ⟨S4352x64, .f32⟩
  | .hbm, ⟨22, _⟩ => ⟨S4352x512, .f32⟩
  | .hbm, ⟨23, _⟩ => ⟨S_, .f32⟩
  | .hbm, ⟨24, _⟩ => ⟨S2x112x512, .f32⟩
  | .hbm, ⟨25, _⟩ => ⟨S2x16x512, .f32⟩
  | .hbm, ⟨26, _⟩ => ⟨S2x2048x512, .f32⟩
  | .hbm, ⟨27, _⟩ => ⟨S2x2176x512, .f32⟩
  | .hbm, ⟨28, _⟩ => ⟨S4352x512, .f32⟩
  | .hbm, ⟨29, _⟩ => ⟨S_, .f32⟩
  | .hbm, ⟨30, _⟩ => ⟨S4352x512, .f32⟩
  | .hbm, ⟨31, _⟩ => ⟨S4352x1536, .f32⟩
  | .hbm, ⟨32, _⟩ => ⟨S_, .f32⟩
  | .hbm, ⟨33, _⟩ => ⟨S2x112x1024, .f32⟩
  | .hbm, ⟨34, _⟩ => ⟨S2x16x1024, .f32⟩
  | .hbm, ⟨35, _⟩ => ⟨S2x2048x1024, .f32⟩
  | .hbm, ⟨36, _⟩ => ⟨S2x2176x1024, .f32⟩
  | .hbm, ⟨37, _⟩ => ⟨S4352x1024, .f32⟩
  | .hbm, ⟨38, _⟩ => ⟨S_, .f32⟩
  | .hbm, ⟨39, _⟩ => ⟨S2x112x512, .f32⟩
  | .hbm, ⟨40, _⟩ => ⟨S2x16x512, .f32⟩
  | .hbm, ⟨41, _⟩ => ⟨S2x2048x512, .f32⟩
  | .hbm, ⟨42, _⟩ => ⟨S2x2176x512, .f32⟩
  | .hbm, ⟨43, _⟩ => ⟨S4352x512, .f32⟩
  | .hbm, ⟨44, _⟩ => ⟨S4352x64, .f32⟩
  | .hbm, ⟨45, _⟩ => ⟨S4352x64, .f32⟩
  | .hbm, ⟨46, _⟩ => ⟨S4352x64, .f32⟩
  | .hbm, ⟨47, _⟩ => ⟨S4352x64, .f32⟩
  | .hbm, ⟨48, _⟩ => ⟨S4352x64, .f32⟩
  | .hbm, ⟨49, _⟩ => ⟨S4352x64, .f32⟩
  | .hbm, ⟨50, _⟩ => ⟨S4352x64, .f32⟩
  | .hbm, ⟨51, _⟩ => ⟨S4352x64, .f32⟩
  | .hbm, ⟨52, _⟩ => ⟨S4352x512, .f32⟩
  | .hbm, ⟨53, _⟩ => ⟨S_, .f32⟩
  | .hbm, ⟨54, _⟩ => ⟨S2x112x512, .f32⟩
  | .hbm, ⟨55, _⟩ => ⟨S2x16x512, .f32⟩
  | .hbm, ⟨56, _⟩ => ⟨S2x2048x512, .f32⟩
  | .hbm, ⟨57, _⟩ => ⟨S2x2176x512, .f32⟩
  | .hbm, ⟨58, _⟩ => ⟨S4352x512, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S512, .f32⟩
  | .hbm, ⟨68, _⟩ => ⟨S1x512, .f32⟩
  | .hbm, ⟨69, _⟩ => ⟨S1x512, .f32⟩
  | .hbm, ⟨70, _⟩ => ⟨S512x1024, .f32⟩
  | .hbm, ⟨71, _⟩ => ⟨S64x1024, .f32⟩
  | .hbm, ⟨72, _⟩ => ⟨S64x1024, .f32⟩
  | .hbm, ⟨73, _⟩ => ⟨S64x1024, .f32⟩
  | .hbm, ⟨74, _⟩ => ⟨S64x1024, .f32⟩
  | .hbm, ⟨75, _⟩ => ⟨S64x1024, .f32⟩
  | .hbm, ⟨76, _⟩ => ⟨S64x1024, .f32⟩
  | .hbm, ⟨77, _⟩ => ⟨S64x1024, .f32⟩
  | .hbm, ⟨78, _⟩ => ⟨S64x1024, .f32⟩
  | .hbm, ⟨79, _⟩ => ⟨S512x1024, .f32⟩
  | .hbm, ⟨80, _⟩ => ⟨S512x1024, .f32⟩
  | .hbm, ⟨81, _⟩ => ⟨S1024x1024, .f32⟩
  | .hbm, ⟨82, _⟩ => ⟨S1024x1024, .bf16⟩
  | .hbm, ⟨83, _⟩ => ⟨S4352x512, .f32⟩
  | .hbm, ⟨84, _⟩ => ⟨S4352x512, .f32⟩
  | .hbm, ⟨85, _⟩ => ⟨S4352x1024, .bf16⟩
  | .hbm, ⟨86, _⟩ => ⟨S1024x1024, .f32⟩
  | .hbm, ⟨87, _⟩ => ⟨S1x512, .f32⟩
  | .hbm, ⟨88, _⟩ => ⟨S1x512, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x1024, .bf16⟩
  | .local _ .vmem, ⟨18, _⟩ => ⟨S256x1024, .bf16⟩
  | .local _ .vmem, ⟨19, _⟩ => ⟨S1024x1024, .f32⟩
  | .local _ .vmem, ⟨20, _⟩ => ⟨S1x512, .f32⟩
  | .local _ .vmem, ⟨21, _⟩ => ⟨S1x512, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69_0 : Ref sig .tc := ⟨.hbm, 83, rfl⟩
abbrev main_v69_1 : Ref sig .tc := ⟨.hbm, 84, rfl⟩
abbrev main_v69_2 : Ref sig .tc := ⟨.hbm, 85, rfl⟩
abbrev main_v69_3 : Ref sig .tc := ⟨.hbm, 86, rfl⟩
abbrev main_v69_4 : Ref sig .tc := ⟨.hbm, 87, rfl⟩
abbrev main_v69_5 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OutReference.lean ====
abbrev S2x2064x1024 : Shape := ⟨3, ![2, 2064, 1024]⟩
abbrev S2x2064x512 : Shape := ⟨3, ![2, 2064, 512]⟩
abbrev S512 : Shape := ⟨1, ![512]⟩
abbrev S1024x1024 : Shape := ⟨2, ![1024, 1024]⟩
abbrev S_ : Shape := ⟨0, ![]⟩
abbrev S2x2064 : Shape := ⟨2, ![2, 2064]⟩
abbrev S2x2064x1 : Shape := ⟨3, ![2, 2064, 1]⟩
abbrev S1x1x512 : Shape := ⟨3, ![1, 1, 512]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S2x2064x2x4x64 : Shape := ⟨5, ![2, 2064, 2, 4, 64]⟩
abbrev S2x2064x4x2x64 : Shape := ⟨5, ![2, 2064, 4, 2, 64]⟩
abbrev S2x16x512 : Shape := ⟨3, ![2, 16, 512]⟩
abbrev S2x112x512 : Shape := ⟨3, ![2, 112, 512]⟩
abbrev S2x2048x512 : Shape := ⟨3, ![2, 2048, 512]⟩
abbrev S2x2176x512 : Shape := ⟨3, ![2, 2176, 512]⟩
abbrev S4352x512 : Shape := ⟨2, ![4352, 512]⟩
abbrev S2x16x1024 : Shape := ⟨3, ![2, 16, 1024]⟩
abbrev S2x112x1024 : Shape := ⟨3, ![2, 112, 1024]⟩
abbrev S2x2048x1024 : Shape := ⟨3, ![2, 2048, 1024]⟩
abbrev S2x2176x1024 : Shape := ⟨3, ![2, 2176, 1024]⟩
abbrev S4352x1024 : Shape := ⟨2, ![4352, 1024]⟩
abbrev S2x4x64 : Shape := ⟨3, ![2, 4, 64]⟩
abbrev S4x2x64 : Shape := ⟨3, ![4, 2, 64]⟩
abbrev S1x512 : Shape := ⟨2, ![1, 512]⟩

abbrev nBuf : Space → Nat
  | .hbm => 181
  | .vmem => 0
  | .smem => 0
  | _ => 0

abbrev hbmTy0_0 (i : Nat) : BufTy := match i % 128 with
  | 0 => ⟨S2x2064x1024, .f32⟩
  | 1 => ⟨S2x2064x512, .f32⟩
  | 2 => ⟨S2x2064x512, .f32⟩
  | 3 => ⟨S2x2064x512, .f32⟩
  | 4 => ⟨S2x2064x512, .f32⟩
  | 5 => ⟨S512, .f32⟩
  | 6 => ⟨S512, .f32⟩
  | 7 => ⟨S1024x1024, .f32⟩
  | 8 => ⟨S2x2064x512, .f32⟩
  | 9 => ⟨S_, .f32⟩
  | 10 => ⟨S2x2064, .f32⟩
  | 11 => ⟨S2x2064x1, .f32⟩
  | 12 => ⟨S_, .f32⟩
  | 13 => ⟨S2x2064x1, .f32⟩
  | 14 => ⟨S2x2064x1, .f32⟩
  | 15 => ⟨S_, .f32⟩
  | 16 => ⟨S2x2064x1, .f32⟩
  | 17 => ⟨S2x2064x1, .f32⟩
  | 18 => ⟨S2x2064x1, .f32⟩
  | 19 => ⟨S2x2064x1, .f32⟩
  | 20 => ⟨S_, .f32⟩
  | 21 => ⟨S2x2064x1, .f32⟩
  | 22 => ⟨S2x2064x1, .f32⟩
  | 23 => ⟨S2x2064x512, .f32⟩
  | 24 => ⟨S2x2064x512, .f32⟩
  | 25 => ⟨S1x1x512, .f32⟩
  | 26 => ⟨S2x2064x512, .f32⟩
  | 27 => ⟨S2x2064x512, .f32⟩
  | 28 => ⟨S2x2064x512, .f32⟩
  | 29 => ⟨S2x2064x512, .f32⟩
  | 30 => ⟨S_, .f32⟩
  | 31 => ⟨S2x2064x512, .f32⟩
  | 32 => ⟨S2x2064x512, .f32⟩
  | 33 => ⟨S_, .f32⟩
  | 34 => ⟨S2x2064x512, .f32⟩
  | 35 => ⟨S2x2064x512, .f32⟩
  | 36 => ⟨S_, .f32⟩
  | 37 => ⟨S2x2064x512, .f32⟩
  | 38 => ⟨S2x2064x512, .f32⟩
  | 39 => ⟨S2x2064x512, .f32⟩
  | 40 => ⟨S2x2064x512, .f32⟩
  | 41 => ⟨S2x2064x512, .f32⟩
  | 42 => ⟨S2x2064x512, .f32⟩
  | 43 => ⟨S_, .f32⟩
  | 44 => ⟨S2x2064, .f32⟩
  | 45 => ⟨S2x2064x1, .f32⟩
  | 46 => ⟨S_, .f32⟩
  | 47 => ⟨S2x2064x1, .f32⟩
  | 48 => ⟨S2x2064x1, .f32⟩
  | 49 => ⟨S_, .f32⟩
  | 50 => ⟨S2x2064x1, .f32⟩
  | 51 => ⟨S2x2064x1, .f32⟩
  | 52 => ⟨S2x2064x1, .f32⟩
  | 53 => ⟨S2x2064x1, .f32⟩
  | 54 => ⟨S_, .f32⟩
  | 55 => ⟨S2x2064x1, .f32⟩
  | 56 => ⟨S2x2064x1, .f32⟩
  | 57 => ⟨S2x2064x512, .f32⟩
  | 58 => ⟨S2x2064x512, .f32⟩
  | 59 => ⟨S1x1x512, .f32⟩
  | 60 => ⟨S2x2064x512, .f32⟩
  | 61 => ⟨S2x2064x512, .f32⟩
  | 62 => ⟨S2x2064x512, .f32⟩
  | 63 => ⟨S2x2064x512, .f32⟩
  | 64 => ⟨S_, .f32⟩
  | 65 => ⟨S2x2064x512, .f32⟩
  | 66 => ⟨S2x2064x512, .f32⟩
  | 67 => ⟨S_, .f32⟩
  | 68 => ⟨S2x2064x512, .f32⟩
  | 69 => ⟨S2x2064x512, .f32⟩
  | 70 => ⟨S_, .f32⟩
  | 71 => ⟨S2x2064x512, .f32⟩
  | 72 => ⟨S2x2064x512, .f32⟩
  | 73 => ⟨S2x2064x512, .f32⟩
  | 74 => ⟨S2x2064x512, .f32⟩
  | 75 => ⟨S2x2064x512, .f32⟩
  | 76 => ⟨S2x2064x1024, .f32⟩
  | 77 => ⟨S2x2064x1024, .f32⟩
  | 78 => ⟨S1024x1024, .f32⟩
  | 79 => ⟨S1024x1024, .f32⟩
  | 80 => ⟨S2x2064x1024, .f32⟩
  | 81 => ⟨S2x2064x512, .f32⟩
  | 82 => ⟨S2x2064x512, .f32⟩
  | 83 => ⟨S2x2064x512, .f32⟩
  | 84 => ⟨S2x2064x512, .f32⟩
  | 85 => ⟨S2x2064x512, .f32⟩
  | 86 => ⟨S2x2064x512, .f32⟩
  | 87 => ⟨S2x2064x512, .f32⟩
  | 88 => ⟨S2x2064x512, .f32⟩
  | 89 => ⟨S2x2064x512, .f32⟩
  | 90 => ⟨S_, .f32⟩
  | 91 => ⟨S512, .f32⟩
  | 92 => ⟨S1x1x512, .f32⟩
  | 93 => ⟨S2x2064x512, .f32⟩
  | 94 => ⟨S2x2064x512, .f32⟩
  | 95 => ⟨S_, .f32⟩
  | 96 => ⟨S512, .f32⟩
  | 97 => ⟨S2x2064x512, .f32⟩
  | 98 => ⟨S_, .f32⟩
  | 99 => ⟨S2x2064, .f32⟩
  | 100 => ⟨S2x2064x1, .f32⟩
  | 101 => ⟨S2x2064x512, .f32⟩
  | 102 => ⟨S2x2064x512, .f32⟩
  | 103 => ⟨S2x2064x1, .f32⟩
  | 104 => ⟨S_, .f32⟩
  | 105 => ⟨S2x2064x1, .f32⟩
  | 106 => ⟨S2x2064x1, .f32⟩
  | 107 => ⟨S_, .f32⟩
  | 108 => ⟨S2x2064, .f32⟩
  | 109 => ⟨S2x2064x512, .f32⟩
  | 110 => ⟨S2x2064x512, .f32⟩
  | 111 => ⟨S2x2064x512, .f32⟩
  | 112 => ⟨S2x2064x512, .f32⟩
  | 113 => ⟨S2x2064x512, .f32⟩
  | 114 => ⟨S2x2064x512, .f32⟩
  | 115 => ⟨S2x2064x512, .f32⟩
  | 116 => ⟨S2x2064x512, .f32⟩
  | 117 => ⟨S2x2064x512, .f32⟩
  | 118 => ⟨S2x2064x512, .f32⟩
  | 119 => ⟨S2x2064x512, .f32⟩
  | 120 => ⟨S2x2064x512, .f32⟩
  | 121 => ⟨S_, .f32⟩
  | 122 => ⟨S512, .f32⟩
  | 123 => ⟨S1x1x512, .f32⟩
  | 124 => ⟨S2x2064x512, .f32⟩
  | 125 => ⟨S2x2064x512, .f32⟩
  | 126 => ⟨S_, .f32⟩
  | 127 => ⟨S512, .f32⟩
  | _ => ⟨S2x2064x1024, .f32⟩

abbrev hbmTy0_1 (i : Nat) : BufTy := match i % 128 with
  | 0 => ⟨S2x2064x512, .f32⟩
  | 1 => ⟨S_, .f32⟩
  | 2 => ⟨S2x2064, .f32⟩
  | 3 => ⟨S2x2064x1, .f32⟩
  | 4 => ⟨S2x2064x512, .f32⟩
  | 5 => ⟨S2x2064x512, .f32⟩
  | 6 => ⟨S2x2064x1, .f32⟩
  | 7 => ⟨S_, .f32⟩
  | 8 => ⟨S2x2064x1, .f32⟩
  | 9 => ⟨S2x2064x1, .f32⟩
  | 10 => ⟨S_, .f32⟩
  | 11 => ⟨S2x2064, .f32⟩
  | 12 => ⟨S2x2064x512, .f32⟩
  | 13 => ⟨S2x2064x512, .f32⟩
  | 14 => ⟨S2x2064x512, .f32⟩
  | 15 => ⟨S2x2064x512, .f32⟩
  | 16 => ⟨S2x2064x512, .f32⟩
  | 17 => ⟨S512x1024, .f32⟩
  | 18 => ⟨S2x4x64x1024, .f32⟩
  | 19 => ⟨S4x2x64x1024, .f32⟩
  | 20 => ⟨S512x1024, .f32⟩
  | 21 => ⟨S2x2064x2x4x64, .f32⟩
  | 22 => ⟨S2x2064x4x2x64, .f32⟩
  | 23 => ⟨S2x2064x512, .f32⟩
  | 24 => ⟨S2x16x512, .f32⟩
  | 25 => ⟨S_, .f32⟩
  | 26 => ⟨S2x112x512, .f32⟩
  | 27 => ⟨S2x2048x512, .f32⟩
  | 28 => ⟨S2x2176x512, .f32⟩
  | 29 => ⟨S4352x512, .f32⟩
  | 30 => ⟨S2x16x512, .f32⟩
  | 31 => ⟨S_, .f32⟩
  | 32 => ⟨S2x112x512, .f32⟩
  | 33 => ⟨S2x2048x512, .f32⟩
  | 34 => ⟨S2x2176x512, .f32⟩
  | 35 => ⟨S4352x512, .f32⟩
  | 36 => ⟨S2x2064x2x4x64, .f32⟩
  | 37 => ⟨S2x2064x4x2x64, .f32⟩
  | 38 => ⟨S2x2064x512, .f32⟩
  | 39 => ⟨S2x2064x1024, .f32⟩
  | 40 => ⟨S2x16x1024, .f32⟩
  | 41 => ⟨S_, .f32⟩
  | 42 => ⟨S2x112x1024, .f32⟩
  | 43 => ⟨S2x2048x1024, .f32⟩
  | 44 => ⟨S2x2176x1024, .f32⟩
  | 45 => ⟨S4352x1024, .f32⟩
  | 46 => ⟨S4352x1024, .bf16⟩
  | 47 => ⟨S512x1024, .f32⟩
  | 48 => ⟨S1024x1024, .f32⟩
  | 49 => ⟨S2x4x64, .f32⟩
  | 50 => ⟨S4x2x64, .f32⟩
  | 51 => ⟨S1x512, .f32⟩
  | 52 => ⟨S1x512, .f32⟩
  | _ => ⟨S2x2064x1024, .f32⟩

abbrev hbmTy (i : Nat) : BufTy := match i / 128 with
  | 0 => hbmTy0_0 i
  | 1 => hbmTy0_1 i
  | _ => ⟨S2x2064x1024, .f32⟩

abbrev bufTy : (tb : Table) → Fin (tcTables nBuf tb) → BufTy
  | .hbm, ⟨i, _⟩ => hbmTy i
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v16_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v16_1 : Ref sig .tc := ⟨.hbm, 39, rfl⟩
abbrev main_v16_0 : Ref sig .tc := ⟨.hbm, 40, rfl⟩
abbrev main_v17 : Ref sig .tc := ⟨.hbm, 41, rfl⟩
abbrev main_v18 : Ref sig .tc := ⟨.hbm, 42, rfl⟩
abbrev main_cst_3 : Ref sig .tc := ⟨.hbm, 43, rfl⟩
abbrev main_v19 : Ref sig .tc := ⟨.hbm, 44, rfl⟩
abbrev main_v20 : Ref sig .tc := ⟨.hbm, 45, rfl⟩
abbrev main_cst_4 : Ref sig .tc := ⟨.hbm, 46, rfl⟩
abbrev main_v21 : Ref sig .tc := ⟨.hbm, 47, rfl⟩
abbrev main_v22 : Ref sig .tc := ⟨.hbm, 48, rfl⟩
abbrev main_cst_5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_6 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_v34_2 : Ref sig .tc := ⟨.hbm, 69, rfl⟩
abbrev main_call1_cst_1 : Ref sig .tc := ⟨.hbm, 70, rfl⟩
abbrev main_call1_v6 : Ref sig .tc := ⟨.hbm, 71, rfl⟩
abbrev main_call1_v7 : Ref sig .tc := ⟨.hbm, 72, rfl⟩
abbrev main_v34_1 : Ref sig .tc := ⟨.hbm, 73, rfl⟩
abbrev main_v34_0 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v45 : Ref sig .tc := ⟨.hbm, 88, rfl⟩
abbrev main_v46 : Ref sig .tc := ⟨.hbm, 89, rfl⟩
abbrev main_cst_7 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_8 : Ref sig .tc := ⟨.hbm, 95, rfl⟩
abbrev main_v51 : Ref sig .tc := ⟨.hbm, 96, rfl⟩
abbrev main_v52 : Ref sig .tc := ⟨.hbm, 97, rfl⟩
abbrev main_cst_9 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_10 : Ref sig .tc := ⟨.hbm, 104, rfl⟩
abbrev main_v58 : Ref sig .tc := ⟨.hbm, 105, rfl⟩
abbrev main_v59 : Ref sig .tc := ⟨.hbm, 106, rfl⟩
abbrev main_cst_11 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_v68 : Ref sig .tc := ⟨.hbm, 119, rfl⟩
abbrev main_v69 : Ref sig .tc := ⟨.hbm, 120, rfl⟩
abbrev main_cst_12 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_13 : Ref sig .tc := ⟨.hbm, 126, rfl⟩
abbrev main_v74 : Ref sig .tc := ⟨.hbm, 127, rfl⟩
abbrev main_v75 : Ref sig .tc := ⟨.hbm, 128, rfl⟩
abbrev main_cst_14 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_cst_15 : Ref sig .tc := ⟨.hbm, 135, rfl⟩
abbrev main_v81 : Ref sig .tc := ⟨.hbm, 136, rfl⟩
abbrev main_v82 : Ref sig .tc := ⟨.hbm, 137, rfl⟩
abbrev main_cst_16 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_cst_17 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_cst_18 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_cst_19 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩

abbrev nD : Nat := 1
abbrev τ : Topo := Topo.v7x

variable {F : FTy → Type} [FloatOps F]
-- ==== Proof.MlaOuts.lean ====
/-
  What one grid point of `mla_bwd` leaves in its three staging buffers, as terms over its input blocks: the gradient
  of a block of queries, and the two running sums with this point's part added.
-/
module

public import proofs.«01_k».proof.Proof.Gen.KernelIdeal.Value
public import Idealize.ShloMosaic.Lib.Tactic

@[expose] public section

set_option maxRecDepth 16384

noncomputable section

namespace Cert.KernelIdeal.Mla

open Cert.KernelIdeal Cert.KernelIdeal.Gen Idealize.ShloMosaic Idealize.ShloMosaic.TcCoe Idealize.SL.Sem
open Idealize.ShloMosaic.Pipeline (Dat)

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The queries of two heads above each other, each in its own lanes, the mask factor on lane 96. -/
abbrev bodyQ (x0 : Vec F S128x256 .bf16) : FVec F S256x256 .bf16 := k0_pay5 x0

/-- The output's gradient of two heads above each other, each in its own lanes. -/
abbrev bodyDo (x4 : Vec F S128x128 .f32) : FVec F S256x128 .bf16 := k0_pay11 (k0_pay6 x4) (k0_pay8 x4) k0_pay9

/-- The attention weights of one block of queries. -/
abbrev bodyP (x0 : Vec F S128x256 .bf16) (x2 : Vec F S256x2176 .bf16) (x6 : Vec F S1x256x128 .f32) : FVec F S256x2176 .f32 :=
  k0_pay12 (bodyQ x0) x2 x6

/-- The gradient of the scores of one block of queries. -/
abbrev bodyDs (x0 : Vec F S128x256 .bf16) (x2 : Vec F S256x2176 .bf16) (x3 : Vec F S128x2176 .bf16)
    (x4 x5 : Vec F S128x128 .f32) (x6 : Vec F S1x256x128 .f32) : FVec F S256x2176 .bf16 :=
  k0_pay13 (bodyQ x0) (k0_pay6 x4) (k0_pay7 x5) (k0_pay8 x4) k0_pay9 x2 x6 x3

/-- The gradient of one block of queries of two heads. -/
def bodyDq (x0 : Vec F S128x256 .bf16) (x1 : Vec F S2176x256 .bf16) (x2 : Vec F S256x2176 .bf16) (x3 : Vec F S128x2176 .bf16)
    (x4 x5 : Vec F S128x128 .f32) (x6 : Vec F S1x256x128 .f32) : Vec F S128x256 .f32 :=
  k0_pay14 (bodyQ x0) (k0_pay6 x4) (k0_pay7 x5) (k0_pay8 x4) k0_pay9 x2 x6 x3 x1

/-- A running sum of keys' gradients with one block of queries' part added. -/
def bodyDk (x0 : Vec F S128x256 .bf16) (x2 : Vec F S256x2176 .bf16) (x3 : Vec F S128x2176 .bf16)
    (x4 x5 : Vec F S128x128 .f32) (x6 : Vec F S1x256x128 .f32) (xo : Vec F S2176x256 .f32) : Vec F S2176x256 .f32 :=
  k0_pay1 (bodyQ x0) (bodyDs x0 x2 x3 x4 x5 x6) xo

/-- A running sum of values' gradients with one block of queries' part added. -/
def bodyDv (x0 : Vec F S128x256 .bf16) (x2 : Vec F S256x2176 .bf16) (x4 : Vec F S128x128 .f32) (x6 : Vec F S1x256x128 .f32)
    (xo : Vec F S2176x128 .f32) : Vec F S2176x128 .f32 :=
  k0_pay2 (bodyDo x4) (bodyP x0 x2 x6) xo

section
variable (c : Dev nD) (i : grid0.Coords) (arg3 : Memref sig .tc .vmem S128x256 .bf16) (harg3 : arg3.IsWhole) (arg4 : Memref sig .tc .vmem S2176x256 .bf16) (harg4 : arg4.IsWhole) (arg5 : Memref sig .tc .vmem S256x2176 .bf16) (harg5 : arg5.IsWhole) (arg6 : Memref sig .tc .vmem S128x2176 .bf16) (harg6 : arg6.IsWhole) (arg7 : Memref sig .tc .vmem S128x128 .f32) (harg7 : arg7.IsWhole) (arg8 : Memref sig .tc .vmem S128x128 .f32) (harg8 : arg8.IsWhole) (arg9 : Memref sig .tc .vmem S1x256x128 .f32) (harg9 : arg9.IsWhole) (arg10 : Memref sig .tc .vmem S128x256 .f32) (harg10 : arg10.IsWhole) (arg11 : Memref sig .tc .vmem S2176x256 .f32) (harg11 : arg11.IsWhole) (arg12 : Memref sig .tc .vmem S2176x128 .f32) (harg12 : arg12.IsWhole)
  (x0 : Vec F S128x256 .bf16) (x1 : Vec F S2176x256 .bf16) (x2 : Vec F S256x2176 .bf16) (x3 : Vec F S128x2176 .bf16) (x4 : Vec F S128x128 .f32) (x5 : Vec F S128x128 .f32) (x6 : Vec F S1x256x128 .f32) (xo8 : Vec F S2176x256 .f32) (xo9 : Vec F S2176x128 .f32)

theorem out_B7 (hc : ¬cond0_0 i) : out0_B_7 c i arg3 harg3 arg4 harg4 arg5 harg5 arg6 harg6 arg7 harg7 arg8 harg8 arg9 harg9 arg10 harg10 arg11 harg11 arg12 harg12 hc x0 x1 x2 x3 x4 x5 x6 xo8 xo9 = bodyDq x0 x1 x2 x3 x4 x5 x6 := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc x0 x1 x2 x3 x4 x5 x6 xo8 xo9)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, View.ld_unit_zero (S := S128x256) hz2, View.ld_unit_zero (S := S2176x256) hz2, View.ld_unit_zero (S := S256x2176) hz2, View.ld_unit_zero (S := S128x2176) hz2, View.ld_unit_zero (S := S128x128) hz2, View.ld_unit_zero (S := S2176x128) hz2, View.ld_unit_zero (S := S1x256x128) hz3]
  rfl

theorem out_B8 (hc : ¬cond0_0 i) : out0_B_8 c i arg3 harg3 arg4 harg4 arg5 harg5 arg6 harg6 arg7 harg7 arg8 harg8 arg9 harg9 arg10 harg10 arg11 harg11 arg12 harg12 hc x0 x1 x2 x3 x4 x5 x6 xo8 xo9 = bodyDk x0 x2 x3 x4 x5 x6 xo8 := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 hc x0 x1 x2 x3 x4 x5 x6 xo8 xo9)]
  unfold kernelRun0_B
  dsimp only
  sl_unfold_words
  rw [View.canon_unit_zero hz2]
  simp only [View.readAt_eq_ld, harg3.read_unread, harg5.read_unread, harg6.read_unread, harg7.read_unread, harg8.read_unread, harg9.read_unread, harg11.read_unread, View.ld_unit_zero (S := S128x256) hz2, View.ld_unit_zero (S := S2176x256) hz2, View.ld_unit_zero (S := S256x2176) hz2, View.ld_unit_zero (S := S128x2176) hz2, View.ld_unit_zero (S := S128x128) hz2, View.ld_unit_zero (S := S2176x128) hz2, View.ld_unit_zero (S := S1x256x128) hz3]
  rfl

theorem out_B9 (hc : ¬cond0_0 i) : out0_B_9 c i arg3 harg3 arg4 harg4 arg5 harg5 arg6 harg6 arg7 harg7 arg8 harg8 arg9 harg9 arg10 harg10 arg11 harg11 arg12 harg12 hc x0 x1 x2 x3 x4 x5 x6 xo8 xo9 = bodyDv x0 x2 x4 x6 xo9 := by
  unfold out0_B_9
  rw [View.read_writes_eq_canon _ _ _ (cover0_B_9 c i arg3 harg3 arg4 harg4 arg5 harg5 arg6 harg6 arg7 harg7 arg8 harg8 arg9 harg9 arg10 harg10 arg11 harg11 arg12 harg12 hc x0 x1 x2 x3 x4 x5 x6 xo8 xo9)]
  unfold kernelRun0_B
  dsimp only
  sl_unfold_words
  rw [View.canon_unit_zero hz2]
  simp only [View.readAt_eq_ld, harg3.read_unread, harg5.read_unread, harg7.read_unread, harg9.read_unread, harg12.read_unread, View.ld_unit_zero (S := S128x256) hz2, View.ld_unit_zero (S := S2176x256) hz2, View.ld_unit_zero (S := S256x2176) hz2, View.ld_unit_zero (S := S128x2176) hz2, View.ld_unit_zero (S := S128x128) hz2, View.ld_unit_zero (S := S2176x128) hz2, View.ld_unit_zero (S := S1x256x128) hz3]
  rfl

theorem out_A7 (hc : cond0_0 i) : out0_A_7 c i arg3 harg3 arg4 harg4 arg5 harg5 arg6 harg6 arg7 harg7 arg8 harg8 arg9 harg9 arg10 harg10 arg11 harg11 arg12 harg12 hc x0 x1 x2 x3 x4 x5 x6 = bodyDq x0 x1 x2 x3 x4 x5 x6 := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 hc x0 x1 x2 x3 x4 x5 x6)]
  unfold kernelRun0_A
  dsimp only
  sl_unfold_words
  rw [View.canon_unit_zero hz2]
  simp only [View.readAt_eq_ld, harg3.read_unread, harg4.read_unread, harg5.read_unread, harg6.read_unread, harg7.read_unread, harg8.read_unread, harg9.read_unread, View.ld_unit_zero (S := S128x256) hz2, View.ld_unit_zero (S := S2176x256) hz2, View.ld_unit_zero (S := S256x2176) hz2, View.ld_unit_zero (S := S128x2176) hz2, View.ld_unit_zero (S := S128x128) hz2, View.ld_unit_zero (S := S2176x128) hz2, View.ld_unit_zero (S := S1x256x128) hz3]
  rfl

theorem out_A8 (hc : cond0_0 i) : out0_A_8 c i arg3 harg3 arg4 harg4 arg5 harg5 arg6 harg6 arg7 harg7 arg8 harg8 arg9 harg9 arg10 harg10 arg11 harg11 arg12 harg12 hc x0 x1 x2 x3 x4 x5 x6 = bodyDk x0 x2 x3 x4 x5 x6 k0_pay3 := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 hc x0 x1 x2 x3 x4 x5 x6)]
  unfold kernelRun0_A
  dsimp only
  sl_unfold_words
  rw [View.canon_cons_unit_zero (S := S2176x256) hz2, View.readCov_unit_zero (S := S2176x256) _ hz2]
  simp only [View.readAt_eq_ld, harg3.read_unread, harg5.read_unread, harg6.read_unread, harg7.read_unread, harg8.read_unread, harg9.read_unread, View.ld_unit_zero (S := S128x256) hz2, View.ld_unit_zero (S := S2176x256) hz2, View.ld_unit_zero (S := S256x2176) hz2, View.ld_unit_zero (S := S128x2176) hz2, View.ld_unit_zero (S := S128x128) hz2, View.ld_unit_zero (S := S2176x128) hz2, View.ld_unit_zero (S := S1x256x128) hz3]
  rfl

theorem out_A9 (hc : cond0_0 i) : out0_A_9 c i arg3 harg3 arg4 harg4 arg5 harg5 arg6 harg6 arg7 harg7 arg8 harg8 arg9 harg9 arg10 harg10 arg11 harg11 arg12 harg12 hc x0 x1 x2 x3 x4 x5 x6 = bodyDv x0 x2 x4 x6 k0_pay4 := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 hc x0 x1 x2 x3 x4 x5 x6)]
  unfold kernelRun0_A
  dsimp only
  sl_unfold_words
  rw [View.canon_cons_unit_zero (S := S2176x128) hz2, View.readCov_unit_zero (S := S2176x128) _ hz2]
  simp only [View.readAt_eq_ld, harg3.read_unread, harg5.read_unread, harg7.read_unread, harg9.read_unread, View.ld_unit_zero (S := S128x256) hz2, View.ld_unit_zero (S := S2176x256) hz2, View.ld_unit_zero (S := S256x2176) hz2, View.ld_unit_zero (S := S128x2176) hz2, View.ld_unit_zero (S := S128x128) hz2, View.ld_unit_zero (S := S2176x128) hz2, View.ld_unit_zero (S := S1x256x128) hz3]
  rfl
end

variable (m : (ℓ : Loc nD τ sig) → Buf (Elt F) ℓ)

/-- What point `t` leaves of the queries' gradients. -/
theorem outs_dq (c : Dev nD) (t : Fin cfg0.N) : (outsAt0 m c t.val t.isLt).1 =
    bodyDq (iblk m c 0 t) (iblk m c 1 t) (iblk m c 2 t) (iblk m c 3 t) (iblk m c 4 t) (iblk m c 5 t) (iblk m c 6 t) := by
  by_cases h0 : t.val % 17 = 0
  · rw [outsAt0_A m c t h0]; dsimp only; rw [out_A7]
  · rw [outsAt0_B m c t h0]; dsimp only; rw [out_B7]

/-- The keys' running sum at the first point of a run of seventeen. -/
theorem outs_dk_first (c : Dev nD) (t : Fin cfg0.N) (h0 : t.val % 17 = 0) : (outsAt0 m c t.val t.isLt).2.1 =
    bodyDk (iblk m c 0 t) (iblk m c 2 t) (iblk m c 3 t) (iblk m c 4 t) (iblk m c 5 t) (iblk m c 6 t) k0_pay3 := by
  rw [outsAt0_A m c t h0]; dsimp only; rw [out_A8]

/-- The keys' running sum at a later point. -/
theorem outs_dk_next (c : Dev nD) (t : Fin cfg0.N) (h0 : ¬t.val % 17 = 0) : (outsAt0 m c t.val t.isLt).2.1 =
    bodyDk (iblk m c 0 t) (iblk m c 2 t) (iblk m c 3 t) (iblk m c 4 t) (iblk m c 5 t) (iblk m c 6 t)
      (outsAt0 m c (t.val - 1) (Nat.lt_of_le_of_lt (Nat.sub_le _ _) t.isLt)).2.1 := by
  rw [outsAt0_B m c t h0]; dsimp only; rw [out_B8]

/-- The values' running sum at the first point of a run of seventeen. -/
theorem outs_dv_first (c : Dev nD) (t : Fin cfg0.N) (h0 : t.val % 17 = 0) : (outsAt0 m c t.val t.isLt).2.2 =
    bodyDv (iblk m c 0 t) (iblk m c 2 t) (iblk m c 4 t) (iblk m c 6 t) k0_pay4 := by
  rw [outsAt0_A m c t h0]; dsimp only; rw [out_A9]

/-- The values' running sum at a later point. -/
theorem outs_dv_next (c : Dev nD) (t : Fin cfg0.N) (h0 : ¬t.val % 17 = 0) : (outsAt0 m c t.val t.isLt).2.2 =
    bodyDv (iblk m c 0 t) (iblk m c 2 t) (iblk m c 4 t) (iblk m c 6 t)
      (outsAt0 m c (t.val - 1) (Nat.lt_of_le_of_lt (Nat.sub_le _ _) t.isLt)).2.2 := by
  rw [outsAt0_B m c t h0]; dsimp only; rw [out_B9]

end Cert.KernelIdeal.Mla

end
-- ==== Proof.MlaReal.lean ====
/-
  The call's quantities over the reals, for one sequence of the batch: `q`, `k`, `v`, `w` (the output's gradient), `y`
  (the output) by head, padded row and lane, and `L` the rows' log-sums to base two.
-/
module

public import Idealize.ShloMosaic.Lib.Pointwise

@[expose] public section

noncomputable section

namespace Cert.KernelIdeal.Mla

/-- The padded rows that hold no token. -/
def pad (x : ℕ) : Prop := 16 ≤ x ∧ x < 128

instance (x : ℕ) : Decidable (pad x) := inferInstanceAs (Decidable (_ ∧ _))

/-- The factor that the gradient of the queries carries. -/
def qs : ℝ := (3424635 / 33554432) * (Real.log 2)⁻¹

section
variable (q k v w y : ℕ → ℕ → ℕ → ℝ) (L : ℕ → ℕ → ℝ)

/-- The score of a query row and a key row, to base two. -/
def sc (h r c : ℕ) : ℝ := ∑ l : Fin 128, if l.val = 96 then 0 else q h r l * k h c l

/-- The attention weight. -/
def pw (h r c : ℕ) : ℝ := if pad c then 0 else Real.rpow 2 (sc q k h r c - L h r)

/-- The row's sum of the output times its gradient. -/
def dl (h r : ℕ) : ℝ := ∑ l : Fin 64, w h r l * y h r l

/-- The gradient of a score. -/
def dsr (h r c : ℕ) : ℝ := pw q k L h r c * ((∑ l : Fin 64, w h r l * v h c l) - dl w y h r) * Real.log 2

/-- The gradients of the queries, the keys and the values, by head, row and lane. -/
def DQ (h r l : ℕ) : ℝ := (∑ x : Fin 2176, dsr q k v w y L h r x.val * k h x.val l) * qs

@[inherit_doc DQ] def DK (h c l : ℕ) : ℝ := ∑ x : Fin 2176, dsr q k v w y L h x.val c * q h x.val l

@[inherit_doc DQ] def DV (h c l : ℕ) : ℝ := ∑ x : Fin 2176, pw q k L h x.val c * w h x.val l
end

/-! ### Sums of reals as extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_eq_bot {ι : Type} (s : Finset ι) (f : ι → EReal) (a : ι) (ha : a ∈ s) (h : f a = ⊥) : ∑ i ∈ s, f i = ⊥ := by
  classical
  rw [← Finset.add_sum_erase s f ha, h, EReal.bot_add]

/-- A sum over two heads' lanes, head by head. -/
theorem sum_two {M : Type} [AddCommMonoid M] (n : ℕ) (f : Fin (n + n) → M) :
    ∑ x : Fin (n + n), f x = (∑ x : Fin n, f ⟨x.val, by omega⟩) + ∑ x : Fin n, f ⟨n + x.val, by omega⟩ := by
  rw [Fin.sum_univ_add]; rfl

end Cert.KernelIdeal.Mla

end
-- ==== Proof.MlaBlock.lean ====
/-
  One grid point's parts at an index, as real numbers.
-/
module

public import proofs.«01_k».proof.Proof.MlaOuts
public import proofs.«01_k».proof.Proof.MlaReal
public import Idealize.ShloMosaic.Lib.Pointwise

@[expose] public section

set_option maxRecDepth 16384

noncomputable section

namespace Cert.KernelIdeal.Mla

open Cert.KernelIdeal Cert.KernelIdeal.Gen Idealize.ShloMosaic Idealize.ShloMosaic.TcCoe Idealize.SL.Sem

theorem mask_val : (Named.named κ "mask" 0xF149F2CA#32 : Ideal .f32) = (⊥ : EReal) :=
  IdealRules.named_const.ideal_named_scalar _ _ _ _ rfl

theorem ln2_val : (Named.named κ "ln2" 0x3F317218#32 : Ideal .f32) = ((Real.log 2 : ℝ) : EReal) :=
  IdealRules.named_const.ideal_named_scalar _ _ _ _ rfl

theorem qs_val : (Named.named κ "qs" 0x3E16C740#32 : Ideal .f32) = ((qs : ℝ) : EReal) :=
  IdealRules.named_const.ideal_named_scalar _ _ _ _ rfl

theorem sel_slt {α : Type} (n k : ℕ) (hn : n < 256) (hk : k < 256) (a b : α) :
    Scalar.select (IntOp.cmpi .slt (BitVec.ofNat 32 n) (BitVec.ofNat 32 k)) a b = if n < k then a else b := by
  rw [WordCmp.cmpi_slt_ofNat (by omega) (by omega)]
  by_cases h : n < k <;> simp [h, Scalar.select]

theorem sel_sge {α : Type} (n k : ℕ) (hn : n < 256) (hk : k < 256) (a b : α) :
    Scalar.select (IntOp.cmpi .sge (BitVec.ofNat 32 n) (BitVec.ofNat 32 k)) a b = if k ≤ n then a else b := by
  rw [WordCmp.cmpi_sge_ofNat (by omega) (by omega)]
  by_cases h : k ≤ n <;> simp [h, Scalar.select]

theorem sel_two {α : Type} (n : ℕ) (hn : n < 256) (a b : α) :
    Scalar.select (IntOp.ori (IntOp.cmpi .eq (BitVec.ofNat 32 n) 96#32) (IntOp.cmpi .eq (BitVec.ofNat 32 n) 224#32)) a b
      = if n % 128 = 96 then a else b := by
  have h1 : IntOp.cmpi .eq (BitVec.ofNat 32 n) 96#32 = BitVec.ofBool (decide (n = 96)) := WordCmp.cmpi_eq_ofNat (by omega) (by omega)
  have h2 : IntOp.cmpi .eq (BitVec.ofNat 32 n) 224#32 = BitVec.ofBool (decide (n = 224)) := WordCmp.cmpi_eq_ofNat (by omega) (by omega)
  rw [h1, h2, WordCmp.ori_ofBool]
  by_cases h : n % 128 = 96
  · have : n = 96 ∨ n = 224 := by omega
    rcases this with rfl | rfl <;> simp [Scalar.select]
  · have h3 : n ≠ 96 := by rintro rfl; simp at h
    have h4 : n ≠ 224 := by rintro rfl; simp at h
    simp [Scalar.select, h3, h4, h]

section
variable (q k v w y : ℕ → ℕ → ℕ → ℝ) (L : ℕ → ℕ → ℝ) (h0 r0 : ℕ)
variable {x0 : Vec Ideal S128x256 .bf16} {x1 : Vec Ideal S2176x256 .bf16} {x2 : Vec Ideal S256x2176 .bf16}
  {x3 : Vec Ideal S128x2176 .bf16} {x4 x5 : Vec Ideal S128x128 .f32} {x6 : Vec Ideal S1x256x128 .f32}

/-- A block's queries stacked: each head in its own rows and lanes, `-∞` on lane 96. -/
theorem bodyQ_apply (hx0 : ∀ (r : Fin 128) (l : Fin 256), x0 (ix2 r l) = ((q (h0 + l.val / 128) (r0 + r.val) (l.val % 128) : ℝ) : EReal))
    (hq : ∀ h r, q h r 96 = 1) (R l : Fin 256) :
    bodyQ x0 (ix2 R l) = (if R.val / 128 = l.val / 128 then
      (if l.val % 128 = 96 then (⊥ : EReal) else ((q (h0 + l.val / 128) (r0 + R.val % 128) (l.val % 128) : ℝ) : EReal)) else 0) := by
  pointwise [bodyQ, k0_pay5]
  have hl := l.isLt
  have hR := R.isLt
  rw [sel_two _ hl, mask_val]
  by_cases hr : R.val < 128
  · have a1 : R.val / 128 = 0 := by omega
    have a2 : R.val % 128 = R.val := by omega
    rw [dif_pos hr, hx0, sel_slt _ 128 hl (by omega)]
    dsimp only
    rw [a1, a2]
    by_cases h : l.val < 128
    · have a3 : l.val / 128 = 0 := by omega
      rw [if_pos h, a3, if_pos rfl]
      by_cases h9 : l.val % 128 = 96
      · rw [if_pos h9, if_pos h9, h9, hq, EReal.coe_one, one_mul]
      · rw [if_neg h9, if_neg h9, mul_one]
    · rw [if_neg h, if_neg (by omega)]
  · have a1 : R.val / 128 = 1 := by omega
    have a2 : R.val % 128 = R.val - 128 := by omega
    rw [dif_neg hr, hx0, sel_sge _ 128 hl (by omega)]
    dsimp only
    rw [a1, a2]
    by_cases h : 128 ≤ l.val
    · have a3 : l.val / 128 = 1 := by omega
      rw [if_pos h, a3, if_pos rfl]
      by_cases h9 : l.val % 128 = 96
      · rw [if_pos h9, if_pos h9, h9, hq, EReal.coe_one, one_mul]
      · rw [if_neg h9, if_neg h9, mul_one]
    · rw [if_neg h, if_neg (by omega)]

/-- A block's gradients of the output stacked: each head in its own rows and lanes. -/
theorem bodyDo_apply (hx4 : ∀ (r : Fin 128) (l : Fin 128), x4 (ix2 r l) = ((w (h0 + l.val / 64) (r0 + r.val) (l.val % 64) : ℝ) : EReal))
    (R : Fin 256) (l : Fin 128) :
    bodyDo x4 (ix2 R l) = ((if R.val / 128 = l.val / 64 then w (h0 + l.val / 64) (r0 + R.val % 128) (l.val % 64) else 0 : ℝ) : EReal) := by
  pointwise [k0_pay11, k0_pay10, k0_pay6, k0_pay8, k0_pay9]
  have hl := l.isLt
  have hR := R.isLt
  by_cases hr : R.val < 128
  · have a1 : R.val / 128 = 0 := by omega
    have a2 : R.val % 128 = R.val := by omega
    rw [dif_pos hr, hx4, sel_slt _ 64 (by omega) (by omega)]
    dsimp only
    rw [a1, a2]
    by_cases h : l.val < 64
    · rw [if_pos h, if_pos (by omega)]
    · rw [if_neg h, if_neg (by omega), EReal.coe_zero]
  · have a1 : R.val / 128 = 1 := by omega
    have a2 : R.val % 128 = R.val - 128 := by omega
    rw [dif_neg hr, hx4, sel_sge _ 64 (by omega) (by omega)]
    dsimp only
    rw [a1, a2]
    by_cases h : 64 ≤ l.val
    · rw [if_pos h, if_pos (by omega)]
    · rw [if_neg h, if_neg (by omega), EReal.coe_zero]

/-- A sum over the lanes of two heads of terms that vanish off one of them. -/
theorem sum_half (n e : ℕ) (he : e < 2) {M : Type} [AddCommMonoid M] (f : ℕ → ℕ → M) :
    (∑ x : Fin (n + n), if e = x.val / n then f (x.val / n) (x.val % n) else 0) = ∑ x : Fin n, f e x := by
  rw [sum_two]
  have d1 : ∀ x : Fin n, x.val / n = 0 := fun x => Nat.div_eq_of_lt x.isLt
  have m1 : ∀ x : Fin n, x.val % n = x.val := fun x => Nat.mod_eq_of_lt x.isLt
  have d2 : ∀ x : Fin n, (n + x.val) / n = 1 := fun x => by
    rw [Nat.add_div_left _ (by have := x.isLt; omega), d1]
  have m2 : ∀ x : Fin n, (n + x.val) % n = x.val := fun x => by rw [Nat.add_mod_left, m1]
  simp only [d1, m1, d2, m2]
  interval_cases e <;> simp

theorem exp2_bot : (FloatOps.exp2 (⊥ : EReal) : Ideal .f32) = (0 : EReal) := rfl

theorem exp2_coe (r : ℝ) : (FloatOps.exp2 ((r : ℝ) : EReal) : Ideal .f32) = ((Real.rpow 2 r : ℝ) : EReal) := rfl

/-- A block's attention weights. -/
theorem bodyP_apply (hx0 : ∀ (r : Fin 128) (l : Fin 256), x0 (ix2 r l) = ((q (h0 + l.val / 128) (r0 + r.val) (l.val % 128) : ℝ) : EReal))
    (hx2 : ∀ (l : Fin 256) (c : Fin 2176), x2 (ix2 l c) = ((k (h0 + l.val / 128) c.val (l.val % 128) : ℝ) : EReal))
    (hx6 : ∀ R : Fin 256, x6 (ix3 0 R 0) = ((L (h0 + R.val / 128) (r0 + R.val % 128) : ℝ) : EReal))
    (hq : ∀ h r, q h r 96 = 1) (hk : ∀ h c, k h c 96 = if pad c then 1 else 0) (R : Fin 256) (c : Fin 2176) :
    bodyP x0 x2 x6 (ix2 R c) = ((pw q k L (h0 + R.val / 128) (r0 + R.val % 128) c.val : ℝ) : EReal) := by
  pointwise [bodyP, k0_pay12]
  have hR := R.isLt
  rw [hx6]
  have hs : (∑ x : Fin 256, bodyQ x0 (ix2 R x) * x2 (ix2 x c)) = ∑ x : Fin 128,
      (if x.val = 96 then (⊥ : EReal) else ((q (h0 + R.val / 128) (r0 + R.val % 128) x.val : ℝ) : EReal)) *
        ((k (h0 + R.val / 128) c.val x.val : ℝ) : EReal) := by
    rw [← sum_half 128 (R.val / 128) (by omega) (fun a b => (if b = 96 then (⊥ : EReal) else
      ((q (h0 + a) (r0 + R.val % 128) b : ℝ) : EReal)) * ((k (h0 + a) c.val b : ℝ) : EReal))]
    refine Finset.sum_congr rfl fun x _ => ?_
    rw [bodyQ_apply q h0 r0 hx0 hq, hx2, ite_mul, zero_mul]
  rw [hs]
  by_cases hp : pad c.val
  · rw [sum_eq_bot _ _ (⟨96, by omega⟩ : Fin 128) (Finset.mem_univ _) (by
      dsimp only; rw [if_pos rfl, hk, if_pos hp, EReal.coe_one, mul_one]), EReal.bot_sub, exp2_bot]
    rw [pw, if_pos hp, EReal.coe_zero]
  · have ht : ∀ x : Fin 128, (if x.val = 96 then (⊥ : EReal) else ((q (h0 + R.val / 128) (r0 + R.val % 128) x.val : ℝ) : EReal)) *
        ((k (h0 + R.val / 128) c.val x.val : ℝ) : EReal) = ((if x.val = 96 then 0 else
        q (h0 + R.val / 128) (r0 + R.val % 128) x.val * k (h0 + R.val / 128) c.val x.val : ℝ) : EReal) := fun x => by
      by_cases h : x.val = 96
      · rw [if_pos h, if_pos h, h, hk, if_neg hp, EReal.coe_zero, mul_zero]
      · rw [if_neg h, if_neg h, EReal.coe_mul]
    rw [Finset.sum_congr rfl fun x _ => ht x, ← coe_sum, ← EReal.coe_sub, exp2_coe, pw, if_neg hp]
    rfl

/-- A block's gradients of the scores. -/
theorem bodyDs_apply (hx0 : ∀ (r : Fin 128) (l : Fin 256), x0 (ix2 r l) = ((q (h0 + l.val / 128) (r0 + r.val) (l.val % 128) : ℝ) : EReal))
    (hx2 : ∀ (l : Fin 256) (c : Fin 2176), x2 (ix2 l c) = ((k (h0 + l.val / 128) c.val (l.val % 128) : ℝ) : EReal))
    (hx3 : ∀ (l : Fin 128) (c : Fin 2176), x3 (ix2 l c) = ((v (h0 + l.val / 64) c.val (l.val % 64) : ℝ) : EReal))
    (hx4 : ∀ (r : Fin 128) (l : Fin 128), x4 (ix2 r l) = ((w (h0 + l.val / 64) (r0 + r.val) (l.val % 64) : ℝ) : EReal))
    (hx5 : ∀ (r : Fin 128) (l : Fin 128), x5 (ix2 r l) = ((y (h0 + l.val / 64) (r0 + r.val) (l.val % 64) : ℝ) : EReal))
    (hx6 : ∀ R : Fin 256, x6 (ix3 0 R 0) = ((L (h0 + R.val / 128) (r0 + R.val % 128) : ℝ) : EReal))
    (hq : ∀ h r, q h r 96 = 1) (hk : ∀ h c, k h c 96 = if pad c then 1 else 0) (R : Fin 256) (c : Fin 2176) :
    bodyDs x0 x2 x3 x4 x5 x6 (ix2 R c) = ((dsr q k v w y L (h0 + R.val / 128) (r0 + R.val % 128) c.val : ℝ) : EReal) := by
  pointwise [bodyDs, k0_pay13]
  have hR := R.isLt
  have hP : k0_pay12 (bodyQ x0) x2 x6 (ix2 R c) = _ := bodyP_apply q k L h0 r0 hx0 hx2 hx6 hq hk R c
  have hD : ∀ x : Fin 128, k0_pay11 (k0_pay6 x4) (k0_pay8 x4) k0_pay9 (ix2 R x) = _ := fun x => bodyDo_apply w h0 r0 hx4 R x
  have hD' : ∀ x : Fin 128, k0_pay10 (k0_pay6 x4) (k0_pay8 x4) k0_pay9 (ix2 R x) = _ := fun x => bodyDo_apply w h0 r0 hx4 R x
  have hv : (∑ x : Fin 128, k0_pay11 (k0_pay6 x4) (k0_pay8 x4) k0_pay9 (ix2 R x) * x3 (ix2 x c)) =
      ((∑ l : Fin 64, w (h0 + R.val / 128) (r0 + R.val % 128) l * v (h0 + R.val / 128) c.val l : ℝ) : EReal) := by
    rw [← sum_half 64 (R.val / 128) (by omega) (fun a b => w (h0 + a) (r0 + R.val % 128) b * v (h0 + a) c.val b), coe_sum]
    refine Finset.sum_congr rfl fun x _ => ?_
    rw [hD, hx3, ← EReal.coe_mul, ite_mul, zero_mul]
  have hy : ∀ x : Fin 128, (if h : R.val < 128 then k0_pay7 x5 (ix2 ⟨R.val, h⟩ x) else k0_pay7 x5 (ix2 ⟨R.val - 128, by omega⟩ x)) =
      ((y (h0 + x.val / 64) (r0 + R.val % 128) (x.val % 64) : ℝ) : EReal) := fun x => by
    have h7 : k0_pay7 x5 = x5 := by funext i; simp only [k0_pay7]; exact congrFun (shapeCast_id _ _) i
    rw [h7]
    by_cases h : R.val < 128
    · rw [dif_pos h, hx5]; dsimp only; rw [show R.val % 128 = R.val by omega]
    · rw [dif_neg h, hx5]; dsimp only; rw [show R.val % 128 = R.val - 128 by omega]
  have hd : (∑ x : Fin 128, k0_pay10 (k0_pay6 x4) (k0_pay8 x4) k0_pay9 (ix2 R x) *
      (if h : R.val < 128 then k0_pay7 x5 (ix2 ⟨R.val, h⟩ x) else k0_pay7 x5 (ix2 ⟨R.val - 128, by omega⟩ x))) =
      ((dl w y (h0 + R.val / 128) (r0 + R.val % 128) : ℝ) : EReal) := by
    rw [dl, ← sum_half 64 (R.val / 128) (by omega) (fun a b => w (h0 + a) (r0 + R.val % 128) b * y (h0 + a) (r0 + R.val % 128) b), coe_sum]
    refine Finset.sum_congr rfl fun x _ => ?_
    rw [hD', hy, ← EReal.coe_mul, ite_mul, zero_mul]
  refine (congrArg₂ (· * ·) (congrArg₂ (· * ·) hP (congrArg₂ (· - ·) hv hd)) ln2_val).trans ?_
  rw [← EReal.coe_sub, ← EReal.coe_mul, ← EReal.coe_mul]
  rfl

/-- A block's gradients of the queries. -/
theorem bodyDq_apply (hx0 : ∀ (r : Fin 128) (l : Fin 256), x0 (ix2 r l) = ((q (h0 + l.val / 128) (r0 + r.val) (l.val % 128) : ℝ) : EReal))
    (hx1 : ∀ (c : Fin 2176) (l : Fin 256), x1 (ix2 c l) = ((k (h0 + l.val / 128) c.val (l.val % 128) : ℝ) : EReal))
    (hx2 : ∀ (l : Fin 256) (c : Fin 2176), x2 (ix2 l c) = ((k (h0 + l.val / 128) c.val (l.val % 128) : ℝ) : EReal))
    (hx3 : ∀ (l : Fin 128) (c : Fin 2176), x3 (ix2 l c) = ((v (h0 + l.val / 64) c.val (l.val % 64) : ℝ) : EReal))
    (hx4 : ∀ (r : Fin 128) (l : Fin 128), x4 (ix2 r l) = ((w (h0 + l.val / 64) (r0 + r.val) (l.val % 64) : ℝ) : EReal))
    (hx5 : ∀ (r : Fin 128) (l : Fin 128), x5 (ix2 r l) = ((y (h0 + l.val / 64) (r0 + r.val) (l.val % 64) : ℝ) : EReal))
    (hx6 : ∀ R : Fin 256, x6 (ix3 0 R 0) = ((L (h0 + R.val / 128) (r0 + R.val % 128) : ℝ) : EReal))
    (hq : ∀ h r, q h r 96 = 1) (hk : ∀ h c, k h c 96 = if pad c then 1 else 0) (r : Fin 128) (l : Fin 256) :
    bodyDq x0 x1 x2 x3 x4 x5 x6 (ix2 r l) = (((∑ c : Fin 2176, dsr q k v w y L (h0 + l.val / 128) (r0 + r.val) c.val *
      k (h0 + l.val / 128) c.val (l.val % 128)) * qs : ℝ) : EReal) := by
  unfold bodyDq
  pointwise [k0_pay14]
  have hl := l.isLt
  have hr := r.isLt
  have hs : ∀ R : Fin 256, (∑ x : Fin 2176, k0_pay13 (bodyQ x0) (k0_pay6 x4) (k0_pay7 x5) (k0_pay8 x4) k0_pay9 x2 x6 x3 (ix2 R x) * x1 (ix2 x l)) =
      ((∑ c : Fin 2176, dsr q k v w y L (h0 + R.val / 128) (r0 + R.val % 128) c.val * k (h0 + l.val / 128) c.val (l.val % 128) : ℝ) : EReal) := by
    intro R
    rw [coe_sum]
    refine Finset.sum_congr rfl fun x _ => ?_
    have h1 : k0_pay13 (bodyQ x0) (k0_pay6 x4) (k0_pay7 x5) (k0_pay8 x4) k0_pay9 x2 x6 x3 (ix2 R x) = _ :=
      bodyDs_apply q k v w y L h0 r0 hx0 hx2 hx3 hx4 hx5 hx6 hq hk R x
    rw [h1, hx1, ← EReal.coe_mul]
  rw [sel_slt _ 128 hl (by omega), qs_val, EReal.coe_mul]
  congr 1
  by_cases h : l.val < 128
  · rw [if_pos h, hs]
    dsimp only
    rw [show l.val / 128 = 0 by omega, show r.val / 128 = 0 by omega, show r.val % 128 = r.val by omega]
  · rw [if_neg h, hs]
    dsimp only
    rw [show l.val / 128 = 1 by omega, show (128 + r.val) / 128 = 1 by omega, show (128 + r.val) % 128 = r.val by omega]

/-- A sum over the stacked rows of two heads of terms that vanish off one of them. -/
theorem sum_half' (n e : ℕ) (he : e < 2) (f : ℕ → ℕ → ℝ) :
    (∑ x : Fin (n + n), if x.val / n = e then f (x.val / n) (x.val % n) else 0) = ∑ x : Fin n, f e x := by
  rw [← sum_half n e he f]
  exact Finset.sum_congr rfl fun x _ => by simp only [eq_comm]

/-- A running sum of the keys' gradients. -/
theorem bodyDk_apply (hx0 : ∀ (r : Fin 128) (l : Fin 256), x0 (ix2 r l) = ((q (h0 + l.val / 128) (r0 + r.val) (l.val % 128) : ℝ) : EReal))
    (hx2 : ∀ (l : Fin 256) (c : Fin 2176), x2 (ix2 l c) = ((k (h0 + l.val / 128) c.val (l.val % 128) : ℝ) : EReal))
    (hx3 : ∀ (l : Fin 128) (c : Fin 2176), x3 (ix2 l c) = ((v (h0 + l.val / 64) c.val (l.val % 64) : ℝ) : EReal))
    (hx4 : ∀ (r : Fin 128) (l : Fin 128), x4 (ix2 r l) = ((w (h0 + l.val / 64) (r0 + r.val) (l.val % 64) : ℝ) : EReal))
    (hx5 : ∀ (r : Fin 128) (l : Fin 128), x5 (ix2 r l) = ((y (h0 + l.val / 64) (r0 + r.val) (l.val % 64) : ℝ) : EReal))
    (hx6 : ∀ R : Fin 256, x6 (ix3 0 R 0) = ((L (h0 + R.val / 128) (r0 + R.val % 128) : ℝ) : EReal))
    (hq : ∀ h r, q h r 96 = 1) (hk : ∀ h c, k h c 96 = if pad c then 1 else 0)
    (xo : Vec Ideal S2176x256 .f32) (c : Fin 2176) (l : Fin 256) (hl9 : l.val % 128 ≠ 96) :
    bodyDk x0 x2 x3 x4 x5 x6 xo (ix2 c l) = xo (ix2 c l) + ((∑ r : Fin 128, dsr q k v w y L (h0 + l.val / 128) (r0 + r.val) c.val *
      q (h0 + l.val / 128) (r0 + r.val) (l.val % 128) : ℝ) : EReal) := by
  unfold bodyDk
  pointwise [k0_pay1]
  have hl := l.isLt
  congr 1
  rw [← sum_half' 128 (l.val / 128) (by omega) (fun a b => dsr q k v w y L (h0 + a) (r0 + b) c.val * q (h0 + a) (r0 + b) (l.val % 128)), coe_sum]
  refine Finset.sum_congr rfl fun x _ => ?_
  rw [bodyDs_apply q k v w y L h0 r0 hx0 hx2 hx3 hx4 hx5 hx6 hq hk, bodyQ_apply q h0 r0 hx0 hq, if_neg hl9]
  by_cases h : x.val / 128 = l.val / 128
  · rw [if_pos h, if_pos h, ← EReal.coe_mul, h]
  · rw [if_neg h, if_neg h, mul_zero, EReal.coe_zero]

/-- A running sum of the values' gradients. -/
theorem bodyDv_apply (hx0 : ∀ (r : Fin 128) (l : Fin 256), x0 (ix2 r l) = ((q (h0 + l.val / 128) (r0 + r.val) (l.val % 128) : ℝ) : EReal))
    (hx2 : ∀ (l : Fin 256) (c : Fin 2176), x2 (ix2 l c) = ((k (h0 + l.val / 128) c.val (l.val % 128) : ℝ) : EReal))
    (hx4 : ∀ (r : Fin 128) (l : Fin 128), x4 (ix2 r l) = ((w (h0 + l.val / 64) (r0 + r.val) (l.val % 64) : ℝ) : EReal))
    (hx6 : ∀ R : Fin 256, x6 (ix3 0 R 0) = ((L (h0 + R.val / 128) (r0 + R.val % 128) : ℝ) : EReal))
    (hq : ∀ h r, q h r 96 = 1) (hk : ∀ h c, k h c 96 = if pad c then 1 else 0)
    (xo : Vec Ideal S2176x128 .f32) (c : Fin 2176) (l : Fin 128) :
    bodyDv x0 x2 x4 x6 xo (ix2 c l) = xo (ix2 c l) + ((∑ r : Fin 128, pw q k L (h0 + l.val / 64) (r0 + r.val) c.val *
      w (h0 + l.val / 64) (r0 + r.val) (l.val % 64) : ℝ) : EReal) := by
  unfold bodyDv
  pointwise [k0_pay2]
  have hl := l.isLt
  congr 1
  rw [← sum_half' 128 (l.val / 64) (by omega) (fun a b => pw q k L (h0 + a) (r0 + b) c.val * w (h0 + a) (r0 + b) (l.val % 64)), coe_sum]
  refine Finset.sum_congr rfl fun x _ => ?_
  rw [bodyP_apply q k L h0 r0 hx0 hx2 hx6 hq hk, bodyDo_apply w h0 r0 hx4, ← EReal.coe_mul]
  by_cases h : x.val / 128 = l.val / 64
  · rw [if_pos h, if_pos h, h]
  · rw [if_neg h, if_neg h, mul_zero]

theorem zeroDk (j : S2176x256.Idx) : (k0_pay3 (F := Ideal)) j = (0 : EReal) := by
  idx_vars j
  pointwise [k0_pay3]

theorem zeroDv (j : S2176x128.Idx) : (k0_pay4 (F := Ideal)) j = (0 : EReal) := by
  idx_vars j
  pointwise [k0_pay4]

end
end Cert.KernelIdeal.Mla

end
-- ==== Proof.MlaIblk.lean ====
/-
  Each operand's block at a grid point, as entries of the operand.
-/
module

public import proofs.«01_k».proof.Proof.MlaBlock
public import Idealize.ShloMosaic.Lib.Pipeline.ValueKit

@[expose] public section

set_option maxRecDepth 16384

noncomputable section

namespace Cert.KernelIdeal.Mla

open Cert.KernelIdeal Cert.KernelIdeal.Gen Idealize.ShloMosaic Idealize.ShloMosaic.TcCoe Idealize.SL.Sem
open Idealize.ShloMosaic.Pipeline (Dat)

/-- Which block of each operand a grid point reads: sequence `t / 68`, pair of heads `t / 17 % 4`, query block `t % 17`. -/
theorem idx : ∀ t : Fin cfg0.N,
    (win0_0.index t = ![t.val / 68 * 17 + t.val % 17, t.val / 17 % 4] ∧ win0_1.index t = ![t.val / 68, t.val / 17 % 4] ∧
    win0_2.index t = ![t.val / 17, 0] ∧ win0_3.index t = ![t.val / 17, 0] ∧
    win0_4.index t = ![t.val / 68 * 17 + t.val % 17, t.val / 17 % 4]) ∧
    (win0_5.index t = ![t.val / 68 * 17 + t.val % 17, t.val / 17 % 4] ∧
    win0_6.index t = ![t.val / 17 % 4, t.val / 68 * 17 + t.val % 17, 0] ∧
    win0_7.index t = ![t.val / 68 * 17 + t.val % 17, t.val / 17 % 4] ∧ win0_8.index t = ![t.val / 68, t.val / 17 % 4] ∧
    win0_9.index t = ![t.val / 68, t.val / 17 % 4]) := by
  decide +kernel

theorem lt136 (t : Fin cfg0.N) : t.val < 136 := lt_of_lt_of_eq t.isLt N_0

theorem blk0 (c : Dev nD) (A : Buf (Elt Ideal) ((c : Thread nD τ).loc main_v51)) (t : Fin cfg0.N) (r : Fin 128) (l : Fin 256) :
    ((cfg0.win 0).blk t).view.read (Elt Ideal) A (ix2 r l) = A (ix2 ⟨(t.val / 68 * 17 + t.val % 17) * 128 + r.val, by have := lt136 t; omega⟩ ⟨t.val / 17 % 4 * 256 + l.val, by have := lt136 t; omega⟩) := by
  have hr := r.isLt
  have hl := l.isLt
  blk_ext [idx t]

theorem blk1 (c : Dev nD) (A : Buf (Elt Ideal) ((c : Thread nD τ).loc main_v71)) (t : Fin cfg0.N) (r : Fin 2176) (l : Fin 256) :
    ((cfg0.win 1).blk t).view.read (Elt Ideal) A (ix2 r l) = A (ix2 ⟨t.val / 68 * 2176 + r.val, by have := lt136 t; omega⟩ ⟨t.val / 17 % 4 * 256 + l.val, by have := lt136 t; omega⟩) := by
  have hr := r.isLt
  have hl := l.isLt
  blk_ext [idx t]

theorem blk2 (c : Dev nD) (A : Buf (Elt Ideal) ((c : Thread nD τ).loc main_v73)) (t : Fin cfg0.N) (l : Fin 256) (r : Fin 2176) :
    ((cfg0.win 2).blk t).view.read (Elt Ideal) A (ix2 l r) = A (ix2 ⟨t.val / 17 * 256 + l.val, by have := lt136 t; omega⟩ r) := by
  have hr := r.isLt
  have hl := l.isLt
  blk_ext [idx t]

theorem blk3 (c : Dev nD) (A : Buf (Elt Ideal) ((c : Thread nD τ).loc main_v61)) (t : Fin cfg0.N) (l : Fin 128) (r : Fin 2176) :
    ((cfg0.win 3).blk t).view.read (Elt Ideal) A (ix2 l r) = A (ix2 ⟨t.val / 17 * 128 + l.val, by have := lt136 t; omega⟩ r) := by
  have hr := r.isLt
  have hl := l.isLt
  blk_ext [idx t]

theorem blk4 (c : Dev nD) (A : Buf (Elt Ideal) ((c : Thread nD τ).loc main_v78)) (t : Fin cfg0.N) (r : Fin 128) (l : Fin 128) :
    ((cfg0.win 4).blk t).view.read (Elt Ideal) A (ix2 r l) = A (ix2 ⟨(t.val / 68 * 17 + t.val % 17) * 128 + r.val, by have := lt136 t; omega⟩ ⟨t.val / 17 % 4 * 128 + l.val, by have := lt136 t; omega⟩) := by
  have hr := r.isLt
  have hl := l.isLt
  blk_ext [idx t]

theorem blk5 (c : Dev nD) (A : Buf (Elt Ideal) ((c : Thread nD τ).loc main_v83)) (t : Fin cfg0.N) (r : Fin 128) (l : Fin 128) :
    ((cfg0.win 5).blk t).view.read (Elt Ideal) A (ix2 r l) = A (ix2 ⟨(t.val / 68 * 17 + t.val % 17) * 128 + r.val, by have := lt136 t; omega⟩ ⟨t.val / 17 % 4 * 128 + l.val, by have := lt136 t; omega⟩) := by
  have hr := r.isLt
  have hl := l.isLt
  blk_ext [idx t]

theorem blk6 (c : Dev nD) (A : Buf (Elt Ideal) ((c : Thread nD τ).loc main_v85)) (t : Fin cfg0.N) (r : Fin 256) :
    ((cfg0.win 6).blk t).view.read (Elt Ideal) A (ix3 0 r 0) = A (ix3 ⟨t.val / 17 % 4, by have := lt136 t; omega⟩ ⟨(t.val / 68 * 17 + t.val % 17) * 256 + r.val, by have := lt136 t; omega⟩ 0) := by
  have hr := r.isLt
  blk_ext [idx t]

end Cert.KernelIdeal.Mla

end
-- ==== Proof.MlaArrays.lean ====
/-
  The call's three result arrays at an index, from its seven operands at an index.
-/
module

public import proofs.«01_k».proof.Proof.MlaIblk
public import Idealize.ShloMosaic.Lib.Pipeline.ValueKit

@[expose] public section

set_option maxRecDepth 16384

noncomputable section

namespace Cert.KernelIdeal.Mla

open Cert.KernelIdeal Cert.KernelIdeal.Gen Idealize.ShloMosaic Idealize.ShloMosaic.TcCoe Idealize.SL.Sem
open Idealize.ShloMosaic.Pipeline (Dat)

section
variable (m : (ℓ : Loc nD τ sig) → Buf (Elt Ideal) ℓ) (c : Dev nD)
variable (q k v w y : ℕ → ℕ → ℕ → ℕ → ℝ) (L : ℕ → ℕ → ℕ → ℝ)

/-- The call's operands, read as real numbers by sequence, head, padded row and lane. -/
structure Operands : Prop where
  hq : ∀ (R : Fin 4352) (l : Fin 1024), V m c main_v51 (ix2 R l) = ((q (R.val / 2176) (l.val / 128) (R.val % 2176) (l.val % 128) : ℝ) : EReal)
  hk : ∀ (R : Fin 4352) (l : Fin 1024), V m c main_v71 (ix2 R l) = ((k (R.val / 2176) (l.val / 128) (R.val % 2176) (l.val % 128) : ℝ) : EReal)
  hkt : ∀ (R : Fin 2048) (x : Fin 2176), V m c main_v73 (ix2 R x) = ((k (R.val / 1024) (R.val % 1024 / 128) x.val (R.val % 128) : ℝ) : EReal)
  hvt : ∀ (R : Fin 1024) (x : Fin 2176), V m c main_v61 (ix2 R x) = ((v (R.val / 512) (R.val % 512 / 64) x.val (R.val % 64) : ℝ) : EReal)
  hw : ∀ (R : Fin 4352) (l : Fin 512), V m c main_v78 (ix2 R l) = ((w (R.val / 2176) (l.val / 64) (R.val % 2176) (l.val % 64) : ℝ) : EReal)
  hy : ∀ (R : Fin 4352) (l : Fin 512), V m c main_v83 (ix2 R l) = ((y (R.val / 2176) (l.val / 64) (R.val % 2176) (l.val % 64) : ℝ) : EReal)
  hL : ∀ (p : Fin 4) (R : Fin 8704) (z : Fin 128), V m c main_v85 (ix3 p R z) =
    ((L (R.val / 4352) (2 * p.val + R.val % 256 / 128) (R.val % 4352 / 256 * 128 + R.val % 128) : ℝ) : EReal)
  one : ∀ b h r, q b h r 96 = 1
  mask : ∀ b h x, k b h x 96 = if pad x then 1 else 0

variable {m c q k v w y L}
variable (H : Operands m c q k v w y L)
include H

theorem iblk0 (t : Fin cfg0.N) (r : Fin 128) (l : Fin 256) : iblk m c 0 t (ix2 r l) =
    ((q (t.val / 68) (2 * (t.val / 17 % 4) + l.val / 128) (t.val % 17 * 128 + r.val) (l.val % 128) : ℝ) : EReal) := by
  have ht := lt136 t
  have hr := r.isLt
  have hl := l.isLt
  unfold iblk
  refine (blk0 c (V m c main_v51) t r l).trans ?_
  rw [H.hq]
  dsimp only
  rw [show ((t.val / 68 * 17 + t.val % 17) * 128 + r.val) / 2176 = t.val / 68 by omega, show (t.val / 17 % 4 * 256 + l.val) / 128 = 2 * (t.val / 17 % 4) + l.val / 128 by omega, show ((t.val / 68 * 17 + t.val % 17) * 128 + r.val) % 2176 = t.val % 17 * 128 + r.val by omega, show (t.val / 17 % 4 * 256 + l.val) % 128 = l.val % 128 by omega]

theorem iblk1 (t : Fin cfg0.N) (r : Fin 2176) (l : Fin 256) : iblk m c 1 t (ix2 r l) =
    ((k (t.val / 68) (2 * (t.val / 17 % 4) + l.val / 128) r.val (l.val % 128) : ℝ) : EReal) := by
  have ht := lt136 t
  have hr := r.isLt
  have hl := l.isLt
  unfold iblk
  refine (blk1 c (V m c main_v71) t r l).trans ?_
  rw [H.hk]
  dsimp only
  rw [show (t.val / 68 * 2176 + r.val) / 2176 = t.val / 68 by omega, show (t.val / 17 % 4 * 256 + l.val) / 128 = 2 * (t.val / 17 % 4) + l.val / 128 by omega, show (t.val / 68 * 2176 + r.val) % 2176 = r.val by omega, show (t.val / 17 % 4 * 256 + l.val) % 128 = l.val % 128 by omega]

theorem iblk2 (t : Fin cfg0.N) (l : Fin 256) (r : Fin 2176) : iblk m c 2 t (ix2 l r) =
    ((k (t.val / 68) (2 * (t.val / 17 % 4) + l.val / 128) r.val (l.val % 128) : ℝ) : EReal) := by
  have ht := lt136 t
  have hr := r.isLt
  have hl := l.isLt
  unfold iblk
  refine (blk2 c (V m c main_v73) t l r).trans ?_
  rw [H.hkt]
  dsimp only
  rw [show (t.val / 17 * 256 + l.val) / 1024 = t.val / 68 by omega, show (t.val / 17 * 256 + l.val) % 1024 / 128 = 2 * (t.val / 17 % 4) + l.val / 128 by omega, show (t.val / 17 * 256 + l.val) % 128 = l.val % 128 by omega]

theorem iblk3 (t : Fin cfg0.N) (l : Fin 128) (r : Fin 2176) : iblk m c 3 t (ix2 l r) =
    ((v (t.val / 68) (2 * (t.val / 17 % 4) + l.val / 64) r.val (l.val % 64) : ℝ) : EReal) := by
  have ht := lt136 t
  have hr := r.isLt
  have hl := l.isLt
  unfold iblk
  refine (blk3 c (V m c main_v61) t l r).trans ?_
  rw [H.hvt]
  dsimp only
  rw [show (t.val / 17 * 128 + l.val) / 512 = t.val / 68 by omega, show (t.val / 17 * 128 + l.val) % 512 / 64 = 2 * (t.val / 17 % 4) + l.val / 64 by omega, show (t.val / 17 * 128 + l.val) % 64 = l.val % 64 by omega]

theorem iblk4 (t : Fin cfg0.N) (r : Fin 128) (l : Fin 128) : iblk m c 4 t (ix2 r l) =
    ((w (t.val / 68) (2 * (t.val / 17 % 4) + l.val / 64) (t.val % 17 * 128 + r.val) (l.val % 64) : ℝ) : EReal) := by
  have ht := lt136 t
  have hr := r.isLt
  have hl := l.isLt
  unfold iblk
  refine (blk4 c (V m c main_v78) t r l).trans ?_
  rw [H.hw]
  dsimp only
  rw [show ((t.val / 68 * 17 + t.val % 17) * 128 + r.val) / 2176 = t.val / 68 by omega, show (t.val / 17 % 4 * 128 + l.val) / 64 = 2 * (t.val / 17 % 4) + l.val / 64 by omega, show ((t.val / 68 * 17 + t.val % 17) * 128 + r.val) % 2176 = t.val % 17 * 128 + r.val by omega, show (t.val / 17 % 4 * 128 + l.val) % 64 = l.val % 64 by omega]

theorem iblk5 (t : Fin cfg0.N) (r : Fin 128) (l : Fin 128) : iblk m c 5 t (ix2 r l) =
    ((y (t.val / 68) (2 * (t.val / 17 % 4) + l.val / 64) (t.val % 17 * 128 + r.val) (l.val % 64) : ℝ) : EReal) := by
  have ht := lt136 t
  have hr := r.isLt
  have hl := l.isLt
  unfold iblk
  refine (blk5 c (V m c main_v83) t r l).trans ?_
  rw [H.hy]
  dsimp only
  rw [show ((t.val / 68 * 17 + t.val % 17) * 128 + r.val) / 2176 = t.val / 68 by omega, show (t.val / 17 % 4 * 128 + l.val) / 64 = 2 * (t.val / 17 % 4) + l.val / 64 by omega, show ((t.val / 68 * 17 + t.val % 17) * 128 + r.val) % 2176 = t.val % 17 * 128 + r.val by omega, show (t.val / 17 % 4 * 128 + l.val) % 64 = l.val % 64 by omega]

theorem iblk6 (t : Fin cfg0.N) (r : Fin 256) : iblk m c 6 t (ix3 0 r 0) =
    ((L (t.val / 68) (2 * (t.val / 17 % 4) + r.val / 128) (t.val % 17 * 128 + r.val % 128) : ℝ) : EReal) := by
  have ht := lt136 t
  have hr := r.isLt
  unfold iblk
  refine (blk6 c (V m c main_v85) t r).trans ?_
  rw [H.hL]
  dsimp only
  rw [show ((t.val / 68 * 17 + t.val % 17) * 256 + r.val) / 4352 = t.val / 68 by omega, show ((t.val / 68 * 17 + t.val % 17) * 256 + r.val) % 256 / 128 = r.val / 128 by omega, show ((t.val / 68 * 17 + t.val % 17) * 256 + r.val) % 4352 / 256 * 128 + ((t.val / 68 * 17 + t.val % 17) * 256 + r.val) % 128 = t.val % 17 * 128 + r.val % 128 by omega]

/-- What point `t` leaves of the queries' gradients. -/
theorem dq_point (t : Fin cfg0.N) (r : Fin 128) (l : Fin 256) : (outsAt0 m c t.val t.isLt).1 (ix2 r l) =
    (((∑ x : Fin 2176, dsr (q (t.val / 68)) (k (t.val / 68)) (v (t.val / 68)) (w (t.val / 68)) (y (t.val / 68)) (L (t.val / 68))
      (2 * (t.val / 17 % 4) + l.val / 128) (t.val % 17 * 128 + r.val) x.val *
      k (t.val / 68) (2 * (t.val / 17 % 4) + l.val / 128) x.val (l.val % 128)) * qs : ℝ) : EReal) := by
  rw [outs_dq]
  exact bodyDq_apply (q (t.val / 68)) (k (t.val / 68)) (v (t.val / 68)) (w (t.val / 68)) (y (t.val / 68)) (L (t.val / 68)) _ _
    (iblk0 H t) (iblk1 H t) (iblk2 H t) (iblk3 H t) (iblk4 H t) (iblk5 H t) (iblk6 H t) (H.one _) (H.mask _) r l

/-- The part of point `t` in the keys' gradients. -/
def dkTerm (t : Fin cfg0.N) (j : { j : S2176x256.Idx // (j 1).val % 128 ≠ 96 }) : EReal :=
  ((∑ r : Fin 128, dsr (q (t.val / 68)) (k (t.val / 68)) (v (t.val / 68)) (w (t.val / 68)) (y (t.val / 68)) (L (t.val / 68))
      (2 * (t.val / 17 % 4) + (j.1 1).val / 128) (t.val % 17 * 128 + r.val) (j.1 0).val *
      q (t.val / 68) (2 * (t.val / 17 % 4) + (j.1 1).val / 128) (t.val % 17 * 128 + r.val) ((j.1 1).val % 128) : ℝ) : EReal)

/-- The part of point `t` in the values' gradients. -/
def dvTerm (t : Fin cfg0.N) (j : S2176x128.Idx) : EReal :=
  ((∑ r : Fin 128, pw (q (t.val / 68)) (k (t.val / 68)) (L (t.val / 68))
      (2 * (t.val / 17 % 4) + (j 1).val / 64) (t.val % 17 * 128 + r.val) (j 0).val *
      w (t.val / 68) (2 * (t.val / 17 % 4) + (j 1).val / 64) (t.val % 17 * 128 + r.val) ((j 1).val % 64) : ℝ) : EReal)

theorem dk_step (t : Fin cfg0.N) (xo : Vec Ideal S2176x256 .f32) (j : { j : S2176x256.Idx // (j 1).val % 128 ≠ 96 }) :
    bodyDk (iblk m c 0 t) (iblk m c 2 t) (iblk m c 3 t) (iblk m c 4 t) (iblk m c 5 t) (iblk m c 6 t) xo j.1 =
      xo j.1 + dkTerm (q := q) (k := k) (v := v) (w := w) (y := y) (L := L) t j := by
  obtain ⟨j, hj⟩ := j
  idx_vars j
  exact bodyDk_apply (q (t.val / 68)) (k (t.val / 68)) (v (t.val / 68)) (w (t.val / 68)) (y (t.val / 68)) (L (t.val / 68)) _ _
    (iblk0 H t) (iblk2 H t) (iblk3 H t) (iblk4 H t) (iblk5 H t) (iblk6 H t) (H.one _) (H.mask _) xo _ _ hj

theorem dv_step (t : Fin cfg0.N) (xo : Vec Ideal S2176x128 .f32) (j : S2176x128.Idx) :
    bodyDv (iblk m c 0 t) (iblk m c 2 t) (iblk m c 4 t) (iblk m c 6 t) xo j =
      xo j + dvTerm (q := q) (k := k) (w := w) (L := L) t j := by
  idx_vars j
  exact bodyDv_apply (q (t.val / 68)) (k (t.val / 68)) (w (t.val / 68)) (L (t.val / 68)) _ _
    (iblk0 H t) (iblk2 H t) (iblk4 H t) (iblk6 H t) (H.one _) (H.mask _) xo _ _

theorem dk_last (t : Fin cfg0.N) (hr : t.val % 17 = 16) (j : { j : S2176x256.Idx // (j 1).val % 128 ≠ 96 }) :
    (outsAt0 m c t.val t.isLt).2.1 j.1 = (0 : EReal) + ∑ s : Fin 17, dkTerm (q := q) (k := k) (v := v) (w := w) (y := y) (L := L)
      ⟨17 * (t.val / 17) + s.val, Pipeline.run_point_lt_of_flush t hr s⟩ j :=
  Pipeline.eq_sum_fin_of_reset_step_apply_of_flush
    (f := fun n h (j : { j : S2176x256.Idx // (j 1).val % 128 ≠ 96 }) => ((outsAt0 m c n h).2.1 j.1 : EReal)) 17 (fun _ => (0 : EReal))
    (dkTerm (q := q) (k := k) (v := v) (w := w) (y := y) (L := L))
    (fun t h j => by
      show (outsAt0 m c t.val t.isLt).2.1 j.1 = _
      rw [outs_dk_first m c t h, dk_step H, zeroDk])
    (fun t h j => by
      show (outsAt0 m c t.val t.isLt).2.1 j.1 = _
      rw [outs_dk_next m c t h, dk_step H]) t hr j

theorem dv_last (t : Fin cfg0.N) (hr : t.val % 17 = 16) (j : S2176x128.Idx) :
    (outsAt0 m c t.val t.isLt).2.2 j = (0 : EReal) + ∑ s : Fin 17, dvTerm (q := q) (k := k) (w := w) (L := L)
      ⟨17 * (t.val / 17) + s.val, Pipeline.run_point_lt_of_flush t hr s⟩ j :=
  Pipeline.eq_sum_fin_of_reset_step_apply_of_flush
    (f := fun n h (j : S2176x128.Idx) => ((outsAt0 m c n h).2.2 j : EReal)) 17 (fun _ => (0 : EReal))
    (dvTerm (q := q) (k := k) (w := w) (L := L))
    (fun t h j => by
      show (outsAt0 m c t.val t.isLt).2.2 j = _
      rw [outs_dv_first m c t h, dv_step H, zeroDv])
    (fun t h j => by
      show (outsAt0 m c t.val t.isLt).2.2 j = _
      rw [outs_dv_next m c t h, dv_step H]) t hr j

omit H in
/-- A sum over seventeen blocks of 128 rows is a sum over the rows. -/
theorem sum_blocks (f : ℕ → ℝ) : (∑ s : Fin 17, ((∑ r : Fin 128, f (s.val * 128 + r.val) : ℝ) : EReal)) = ((∑ x : Fin 2176, f x.val : ℝ) : EReal) := by
  rw [← coe_sum]
  congr 1
  rw [Fin.sum_univ_eq_sum_range (fun x => f x) 2176, show 2176 = 17 * 128 from rfl, Finset.sum_range_mul_split]
  rw [Finset.sum_range]
  refine Finset.sum_congr rfl fun s _ => ?_
  rw [Finset.sum_range]

end
end Cert.KernelIdeal.Mla

end
-- ==== Proof.MlaFinal.lean ====
/-
  The call's three result arrays at an index, after the run.
-/
module

public import proofs.«01_k».proof.Proof.MlaArrays
public import proofs.«01_k».proof.Proof.Gen.KernelIdeal.Value

@[expose] public section

set_option maxRecDepth 16384

noncomputable section

namespace Cert.KernelIdeal.Mla

open Cert.KernelIdeal Cert.KernelIdeal.Gen Idealize.ShloMosaic Idealize.ShloMosaic.TcCoe Idealize.SL.Sem
open Idealize.ShloMosaic.Pipeline (Dat)

section
variable {m : (ℓ : Loc nD τ sig) → Buf (Elt Ideal) ℓ} {c : Dev nD}
variable {q k v w y : ℕ → ℕ → ℕ → ℕ → ℝ} {L : ℕ → ℕ → ℕ → ℝ}
variable (H : Operands m c q k v w y L)
include H

/-- The queries' gradients. -/
theorem dq_arr (j : S4352x1024.Idx) : (dats m 0 c).arrAt 7 cfg0.N j = ((DQ (q ((j 0).val / 2176)) (k ((j 0).val / 2176)) (v ((j 0).val / 2176)) (w ((j 0).val / 2176)) (y ((j 0).val / 2176)) (L ((j 0).val / 2176)) ((j 1).val / 128) ((j 0).val % 2176) ((j 1).val % 128) : ℝ) : EReal) := by
  refine (dats m 0 c).arrAt_forall_of_covers 7 (fun j z => z = ((DQ (q ((j 0).val / 2176)) (k ((j 0).val / 2176)) (v ((j 0).val / 2176)) (w ((j 0).val / 2176)) (y ((j 0).val / 2176)) (L ((j 0).val / 2176)) ((j 1).val / 128) ((j 0).val % 2176) ((j 1).val % 128) : ℝ) : EReal))
    (by decide +kernel) (fun t hf i => ?_) j
  have ht := lt136 t
  have h0 : (i 0).val < 128 := (i 0).isLt
  have h1 : (i 1).val < 256 := (i 1).isLt
  blk_simp [idx t]
  rw [show ((t.val / 68 * 17 + t.val % 17) * 128 + (i 0).val) / 2176 = t.val / 68 by omega, show (t.val / 17 % 4 * 256 + (i 1).val) / 128 = 2 * (t.val / 17 % 4) + (i 1).val / 128 by omega,
    show ((t.val / 68 * 17 + t.val % 17) * 128 + (i 0).val) % 2176 = t.val % 17 * 128 + (i 0).val by omega, show (t.val / 17 % 4 * 256 + (i 1).val) % 128 = (i 1).val % 128 by omega]
  rw [after0_7, ← ix2_eta i]
  exact dq_point H t (i 0) (i 1)

/-- The keys' gradients, but for the lanes of the mask. -/
theorem dk_arr (j : S4352x1024.Idx) (hj : (j 1).val % 128 ≠ 96) : (dats m 0 c).arrAt 8 cfg0.N j = ((DK (q ((j 0).val / 2176)) (k ((j 0).val / 2176)) (v ((j 0).val / 2176)) (w ((j 0).val / 2176)) (y ((j 0).val / 2176)) (L ((j 0).val / 2176)) ((j 1).val / 128) ((j 0).val % 2176) ((j 1).val % 128) : ℝ) : EReal) := by
  refine ((dats m 0 c).arrAt_forall_of_covers 8 (fun j z => (j 1).val % 128 ≠ 96 → z = ((DK (q ((j 0).val / 2176)) (k ((j 0).val / 2176)) (v ((j 0).val / 2176)) (w ((j 0).val / 2176)) (y ((j 0).val / 2176)) (L ((j 0).val / 2176)) ((j 1).val / 128) ((j 0).val % 2176) ((j 1).val % 128) : ℝ) : EReal))
    (by decide +kernel) (fun t hf i => ?_) j) hj
  have ht := lt136 t
  have hm := (flush0_8 t).mp hf
  have h0 : (i 0).val < 2176 := (i 0).isLt
  have h1 : (i 1).val < 256 := (i 1).isLt
  blk_simp [idx t]
  rw [show (t.val / 68 * 2176 + (i 0).val) / 2176 = t.val / 68 by omega, show (t.val / 17 % 4 * 256 + (i 1).val) / 128 = 2 * (t.val / 17 % 4) + (i 1).val / 128 by omega,
    show (t.val / 68 * 2176 + (i 0).val) % 2176 = (i 0).val by omega, show (t.val / 17 % 4 * 256 + (i 1).val) % 128 = (i 1).val % 128 by omega]
  intro hj
  rw [after0_8]
  refine (dk_last H t hm ⟨i, hj⟩).trans ?_
  rw [zero_add, DK, ← sum_blocks (fun x => dsr (q (t.val / 68)) (k (t.val / 68)) (v (t.val / 68)) (w (t.val / 68)) (y (t.val / 68)) (L (t.val / 68))
    (2 * (t.val / 17 % 4) + (i 1).val / 128) x (i 0).val * q (t.val / 68) (2 * (t.val / 17 % 4) + (i 1).val / 128) x ((i 1).val % 128))]
  refine Finset.sum_congr rfl fun s _ => ?_
  have hs := s.isLt
  unfold dkTerm
  dsimp only
  rw [show (17 * (t.val / 17) + s.val) / 68 = t.val / 68 by omega, show (17 * (t.val / 17) + s.val) / 17 % 4 = t.val / 17 % 4 by omega,
    show (17 * (t.val / 17) + s.val) % 17 = s.val by omega]

/-- The values' gradients. -/
theorem dv_arr (j : S4352x512.Idx) : (dats m 0 c).arrAt 9 cfg0.N j = ((DV (q ((j 0).val / 2176)) (k ((j 0).val / 2176)) (w ((j 0).val / 2176)) (L ((j 0).val / 2176)) ((j 1).val / 64) ((j 0).val % 2176) ((j 1).val % 64) : ℝ) : EReal) := by
  refine (dats m 0 c).arrAt_forall_of_covers 9 (fun j z => z = ((DV (q ((j 0).val / 2176)) (k ((j 0).val / 2176)) (w ((j 0).val / 2176)) (L ((j 0).val / 2176)) ((j 1).val / 64) ((j 0).val % 2176) ((j 1).val % 64) : ℝ) : EReal))
    (by decide +kernel) (fun t hf i => ?_) j
  have ht := lt136 t
  have hm := (flush0_9 t).mp hf
  have h0 : (i 0).val < 2176 := (i 0).isLt
  have h1 : (i 1).val < 128 := (i 1).isLt
  blk_simp [idx t]
  rw [show (t.val / 68 * 2176 + (i 0).val) / 2176 = t.val / 68 by omega, show (t.val / 17 % 4 * 128 + (i 1).val) / 64 = 2 * (t.val / 17 % 4) + (i 1).val / 64 by omega,
    show (t.val / 68 * 2176 + (i 0).val) % 2176 = (i 0).val by omega, show (t.val / 17 % 4 * 128 + (i 1).val) % 64 = (i 1).val % 64 by omega]
  rw [after0_9]
  refine (dv_last H t hm i).trans ?_
  rw [zero_add, DV, ← sum_blocks (fun x => pw (q (t.val / 68)) (k (t.val / 68)) (L (t.val / 68))
    (2 * (t.val / 17 % 4) + (i 1).val / 64) x (i 0).val * w (t.val / 68) (2 * (t.val / 17 % 4) + (i 1).val / 64) x ((i 1).val % 64))]
  refine Finset.sum_congr rfl fun s _ => ?_
  have hs := s.isLt
  unfold dvTerm
  dsimp only
  rw [show (17 * (t.val / 17) + s.val) / 68 = t.val / 68 by omega, show (17 * (t.val / 17) + s.val) / 17 % 4 = t.val / 17 % 4 by omega,
    show (17 * (t.val / 17) + s.val) % 17 = s.val by omega]

end
end Cert.KernelIdeal.Mla

end
-- ==== Proof.MlaSoft.lean ====
/-
  Softmax attention over the reals: the weights, the output, its rows' log-sums and its gradients, for one sequence.
-/
module

public import proofs.«01_k».proof.Proof.MlaReal

@[expose] public section

noncomputable section

namespace Cert.KernelIdeal.Mla

open Idealize.ShloMosaic

/-- The token of a padded row. -/
def orig (x : ℕ) : ℕ := if x < 16 then x else x - 112

/-- The factor on the scores. -/
def scale : ℝ := 3424635 / 33554432

section
variable (qn qr kn v w : ℕ → ℕ → ℕ → ℝ) (kr : ℕ → ℕ → ℝ)

/-- A score: head, query token, key token. The arrays are by token, head and lane. -/
def lg (h x y : ℕ) : ℝ := ((∑ l : Fin 64, qn x h l.val * kn y h l.val) + ∑ l : Fin 32, qr x h l.val * kr y l.val) * scale

/-- The row's sum of exponentials. -/
def zz (h x : ℕ) : ℝ := ∑ y : Fin 2064, Real.exp (lg qn qr kn kr h x y.val)

/-- The attention weight. -/
def pr (h x y : ℕ) : ℝ := Real.exp (lg qn qr kn kr h x y) / zz qn qr kn kr h x

/-- The output. -/
def out (h x d : ℕ) : ℝ := ∑ y : Fin 2064, pr qn qr kn kr h x y.val * v y.val h d

/-- The gradient of a weight. -/
def dP (h x y : ℕ) : ℝ := ∑ d : Fin 64, w x h d.val * v y h d.val

/-- The gradient of a score, before its factor. -/
def dS (h x y : ℕ) : ℝ := pr qn qr kn kr h x y * (dP v w h x y - ∑ z : Fin 2064, dP v w h x z.val * pr qn qr kn kr h x z.val)

/-- The gradients, by token, head and lane. -/
def gQn (x h l : ℕ) : ℝ := ∑ y : Fin 2064, dS qn qr kn v w kr h x y.val * scale * kn y.val h l

@[inherit_doc gQn] def gQr (x h l : ℕ) : ℝ := ∑ y : Fin 2064, dS qn qr kn v w kr h x y.val * scale * kr y.val l

@[inherit_doc gQn] def gKn (y h l : ℕ) : ℝ := ∑ x : Fin 2064, dS qn qr kn v w kr h x.val y * scale * qn x.val h l

@[inherit_doc gQn] def gKr (y h l : ℕ) : ℝ := ∑ x : Fin 2064, dS qn qr kn v w kr h x.val y * scale * qr x.val h l

@[inherit_doc gQn] def gV (y h d : ℕ) : ℝ := ∑ x : Fin 2064, pr qn qr kn kr h x.val y * w x.val h d

/-! ### The operands of the call, by head, padded row and lane -/

def opQ (h x l : ℕ) : ℝ :=
  if l = 96 then 1 else if 96 ≤ l ∨ pad x then 0 else (if l < 64 then qn (orig x) h l else qr (orig x) h (l - 64)) * qs

def opK (h x l : ℕ) : ℝ :=
  if l = 96 then (if pad x then 1 else 0) else if 96 ≤ l ∨ pad x then 0 else (if l < 64 then kn (orig x) h l else kr (orig x) (l - 64))

def opR (t : ℕ → ℕ → ℕ → ℝ) (h x l : ℕ) : ℝ := if pad x then 0 else t (orig x) h l

def opY (h x d : ℕ) : ℝ := if pad x then 0 else out qn qr kn v kr h (orig x) d

def opL (h x : ℕ) : ℝ := if pad x then 0 else Real.log (zz qn qr kn kr h (orig x)) / Real.log 2
end

/-! ### The extended reals' softmax -/

theorem zpos {n : ℕ} (hn : 0 < n) (f : Fin n → ℝ) : 0 < ∑ y, Real.exp (f y) :=
  Finset.sum_pos (fun _ _ => Real.exp_pos _) ⟨⟨0, hn⟩, Finset.mem_univ _⟩

/-- A row's maximum is a real number. -/
theorem max_real {n : ℕ} (hn : 0 < n) (f : Fin n → ℝ) :
    ∃ r : ℝ, Finset.fold max (⊥ : EReal) (fun x => ((f x : ℝ) : EReal)) Finset.univ = (r : EReal) := by
  have h : ∀ s : Finset (Fin n), s.Nonempty → ∃ r : ℝ, Finset.fold max (⊥ : EReal) (fun x => ((f x : ℝ) : EReal)) s = (r : EReal) := by
    intro s hs
    induction hs using Finset.Nonempty.cons_induction with
    | singleton a => exact ⟨f a, by simp⟩
    | cons a s ha hs ih =>
      obtain ⟨r, hr⟩ := ih
      exact ⟨max (f a) r, by rw [Finset.fold_cons, hr]; exact (EReal.coe_strictMono.monotone.map_max).symm⟩
  exact h _ ⟨⟨0, hn⟩, Finset.mem_univ _⟩

theorem exp_sub (a r : ℝ) : Ideal.exp ((a : EReal) - (r : EReal)) = ((Real.exp a / Real.exp r : ℝ) : EReal) := by
  rw [← EReal.coe_sub, ← Real.exp_sub]; rfl

theorem sum_exp_sub {n : ℕ} (f : Fin n → ℝ) (r : ℝ) :
    ∑ y, Ideal.exp ((f y : EReal) - (r : EReal)) = (((∑ y, Real.exp (f y)) / Real.exp r : ℝ) : EReal) := by
  rw [Finset.sum_div, coe_sum]
  exact Finset.sum_congr rfl fun y _ => exp_sub _ _

theorem div_real (a b : ℝ) (hb : b ≠ 0) : Ideal.div (a : EReal) (b : EReal) = ((a / b : ℝ) : EReal) := by
  rw [Ideal.div_coe hb, ← EReal.coe_mul, mul_one_div]

theorem log_real (a : ℝ) (ha : 0 < a) : Ideal.log (a : EReal) = ((Real.log a : ℝ) : EReal) := by
  show (if a ≤ 0 then (⊥ : EReal) else ((Real.log a : ℝ) : EReal)) = _
  rw [if_neg (not_le.2 ha)]

/-- A softmax weight whatever number is subtracted. -/
theorem soft {n : ℕ} (hn : 0 < n) (f : Fin n → ℝ) (r : ℝ) (x : Fin n) :
    Ideal.div (Ideal.exp ((f x : EReal) - (r : EReal))) (∑ y, Ideal.exp ((f y : EReal) - (r : EReal)))
      = ((Real.exp (f x) / ∑ y, Real.exp (f y) : ℝ) : EReal) := by
  have hz := zpos hn f
  have hr := Real.exp_pos r
  rw [exp_sub, sum_exp_sub, div_real _ _ (by positivity)]
  congr 1
  field_simp

/-- A row's log-sum whatever number is subtracted. -/
theorem soft_log {n : ℕ} (hn : 0 < n) (f : Fin n → ℝ) (r : ℝ) :
    (r : EReal) + Ideal.log (∑ y, Ideal.exp ((f y : EReal) - (r : EReal))) = ((Real.log (∑ y, Real.exp (f y)) : ℝ) : EReal) := by
  have hz := zpos hn f
  have hr := Real.exp_pos r
  rw [sum_exp_sub, log_real _ (by positivity), ← EReal.coe_add, Real.log_div hz.ne' hr.ne', Real.log_exp]
  congr 1
  ring

/-! ### Literals and padded rows -/

theorem mulE {a b : EReal} {x y : ℝ} (ha : a = (x : EReal)) (hb : b = (y : EReal)) : a * b = ((x * y : ℝ) : EReal) := by
  rw [ha, hb, EReal.coe_mul]

theorem scale_lit : Ideal.ofBits FTy.f32 1037108716#32 = ((scale : ℝ) : EReal) := by
  unfold scale
  simp [Ideal.ofBits, Ideal.ieee, -EReal.coe_mul]; norm_num

theorem two_lit : Ideal.ofBits FTy.f32 1073741824#32 = ((2 : ℝ) : EReal) := by
  simp [Ideal.ofBits, Ideal.ieee, -EReal.coe_mul]; norm_num

theorem bot_lit : Ideal.ofBits FTy.f32 4286578688#32 = (⊥ : EReal) := by
  simp [Ideal.ofBits, Ideal.ieee]

theorem log2_pos : 0 < Real.log 2 := Real.log_pos (by norm_num)

theorem orig_lo {x : ℕ} (h : x < 16) : orig x = x := if_pos h
theorem orig_hi {x : ℕ} (h : ¬ x < 16) : orig x = x - 112 := if_neg h

end Cert.KernelIdeal.Mla

end
-- ==== Proof.MlaPrefix.lean ====
/-
  The call's operands from the arguments: the host's lines before the launch, read at an index.
-/
module

public import proofs.«01_k».proof.Proof.MlaArrays
public import proofs.«01_k».proof.Proof.MlaSoft
public import Idealize.ShloMosaic.Lib.Pointwise
public import Idealize.ShloMosaic.Lib.StableHlo.ReadAt

@[expose] public section

set_option maxRecDepth 16384

noncomputable section

namespace Cert.KernelIdeal.Mla

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

/-- The buffers after the logits. -/
def W0 : Valuation τ sig (Elt Ideal) := after (hostOps0.take 7) (fun b => m (c, b))

/-- The buffers after the saved output and the rows' log-sums. -/
def W1 : Valuation τ sig (Elt Ideal) := after ((hostOps0.take 27).drop 7) (W0 m c)

/-- The buffers after the padded queries and keys. -/
def W2 : Valuation τ sig (Elt Ideal) := after ((hostOps0.take 63).drop 27) (W1 m c)

theorem V_eq (r) : V m c r = after (hostOps0.drop 27) (W1 m c) (Proc.tc.devRef r) := by
  have h : (hostOps0 (F := Ideal)) = hostOps0.take 7 ++ (hostOps0.take 27).drop 7 ++ hostOps0.drop 27 := rfl
  unfold V
  rw [h, after_append, after_append]
  rfl

theorem V_eq' (r) : V m c r = after (hostOps0.drop 63) (W2 m c) (Proc.tc.devRef r) := by
  have h : (hostOps0 (F := Ideal)).drop 27 = (hostOps0.take 63).drop 27 ++ hostOps0.drop 63 := rfl
  rw [V_eq, h, after_append]
  rfl

/-- The arguments, read as real numbers by sequence, token, head and lane. -/
structure Args (qn qr kn v w : ℕ → ℕ → ℕ → ℕ → ℝ) (kr : ℕ → ℕ → ℕ → ℝ) : Prop where
  a0 : ∀ (b : Fin 2) (x : Fin 2064) (h : Fin 8) (l : Fin 64), m (c, Proc.tc.devRef main_arg0) (ix4 b x h l) = ((qn b.val x.val h.val l.val : ℝ) : EReal)
  a1 : ∀ (b : Fin 2) (x : Fin 2064) (h : Fin 8) (l : Fin 32), m (c, Proc.tc.devRef main_arg1) (ix4 b x h l) = ((qr b.val x.val h.val l.val : ℝ) : EReal)
  a2 : ∀ (b : Fin 2) (x : Fin 2064) (h : Fin 8) (l : Fin 64), m (c, Proc.tc.devRef main_arg2) (ix4 b x h l) = ((kn b.val x.val h.val l.val : ℝ) : EReal)
  a3 : ∀ (b : Fin 2) (x : Fin 2064) (l : Fin 32), m (c, Proc.tc.devRef main_arg3) (ix3 b x l) = ((kr b.val x.val l.val : ℝ) : EReal)
  a4 : ∀ (b : Fin 2) (x : Fin 2064) (h : Fin 8) (l : Fin 64), m (c, Proc.tc.devRef main_arg4) (ix4 b x h l) = ((v b.val x.val h.val l.val : ℝ) : EReal)
  a5 : ∀ (b : Fin 2) (x : Fin 2064) (h : Fin 8) (l : Fin 64), m (c, Proc.tc.devRef main_arg5) (ix4 b x h l) = ((w b.val x.val h.val l.val : ℝ) : EReal)

theorem W1_arg0 : W1 m c (Proc.tc.devRef main_arg0) = m (c, Proc.tc.devRef main_arg0) := by unfold W1 W0; after_reads_simp
theorem W1_arg1 : W1 m c (Proc.tc.devRef main_arg1) = m (c, Proc.tc.devRef main_arg1) := by unfold W1 W0; after_reads_simp
theorem W1_arg2 : W1 m c (Proc.tc.devRef main_arg2) = m (c, Proc.tc.devRef main_arg2) := by unfold W1 W0; after_reads_simp
theorem W1_arg3 : W1 m c (Proc.tc.devRef main_arg3) = m (c, Proc.tc.devRef main_arg3) := by unfold W1 W0; after_reads_simp
theorem W1_arg4 : W1 m c (Proc.tc.devRef main_arg4) = m (c, Proc.tc.devRef main_arg4) := by unfold W1 W0; after_reads_simp
theorem W1_arg5 : W1 m c (Proc.tc.devRef main_arg5) = m (c, Proc.tc.devRef main_arg5) := by unfold W1 W0; after_reads_simp
theorem W0_arg4 : W0 m c (Proc.tc.devRef main_arg4) = m (c, Proc.tc.devRef main_arg4) := by unfold W0; after_reads_simp

/-- The factor that the host puts on the queries. -/
theorem host_qs : (id (Host.divf (constant S_ FTy.f32 1037108716#32) (Host.log (constant S_ FTy.f32 1073741824#32))) : FVec Ideal S_ .f32) ix0 = ((qs : ℝ) : EReal) := by
  show Ideal.div (Ideal.ofBits FTy.f32 1037108716#32) (Ideal.log (Ideal.ofBits FTy.f32 1073741824#32)) = _
  rw [scale_lit, two_lit, log_real _ (by norm_num), div_real _ _ log2_pos.ne', div_eq_mul_inv]
  rfl

section
variable {m c}
variable {qn qr kn v w : ℕ → ℕ → ℕ → ℕ → ℝ} {kr : ℕ → ℕ → ℕ → ℝ} (A : Args m c qn qr kn v w kr)
include A

theorem logits_at (b : Fin 2) (h : Fin 8) (x y : Fin 2064) : W0 m c (Proc.tc.devRef main_v5) (ix4 b h x y)
    = ((lg (qn b) (qr b) (kn b) (kr b) h x y : ℝ) : EReal) := by
  unfold W0
  after_reads_at
  simp only [A.a0, A.a1, A.a2, A.a3]
  rw [scale_lit, lg, EReal.coe_mul, EReal.coe_add, coe_sum, coe_sum]
  simp only [EReal.coe_mul]
  congr 2
  exact Finset.sum_congr rfl fun l _ => mul_comm _ _

theorem max_at (b : Fin 2) (h : Fin 8) (x : Fin 2064) : ∃ r : ℝ, Finset.fold max (Ideal.ofBits FTy.f32 4286578688#32)
    (fun y => W0 m c (Proc.tc.devRef main_v5) (ix4 b h x y)) Finset.univ = (r : EReal) := by
  simp only [logits_at A]
  rw [bot_lit]
  exact max_real (by norm_num) _

theorem y_at (b : Fin 2) (h : Fin 8) (x : Fin 2064) (d : Fin 64) : W1 m c (Proc.tc.devRef main_v16) (ix4 b x h d)
    = ((out (qn b) (qr b) (kn b) (v b) (kr b) h x d : ℝ) : EReal) := by
  obtain ⟨r, hr⟩ := max_at A b h x
  unfold W1
  after_reads_at
  rw [hr]
  simp only [logits_at A]
  rw [out, coe_sum]
  refine Finset.sum_congr rfl fun y _ => ?_
  rw [soft (by norm_num) (fun y : Fin 2064 => lg (qn b) (qr b) (kn b) (kr b) h x y) r y, mul_comm, EReal.coe_mul]
  exact congrArg₂ _ rfl ((congrFun (W0_arg4 m c) _).trans (A.a4 _ _ _ _))

theorem lse_at (b : Fin 2) (h : Fin 8) (x : Fin 2064) (z : Fin 1) : W1 m c (Proc.tc.devRef main_v22) (ix4 b h x z)
    = ((Real.log (zz (qn b) (qr b) (kn b) (kr b) h x) / Real.log 2 : ℝ) : EReal) := by
  obtain ⟨r, hr⟩ := max_at A b h x
  have e7 : W1 m c (Proc.tc.devRef main_v7) (ix4 b h x z) = (r : EReal) := by
    unfold W1
    after_reads_at
    exact hr
  have e17 : W1 m c (Proc.tc.devRef main_v17) (ix4 b h x z) = Ideal.log (∑ y : Fin 2064, Ideal.exp (((lg (qn b) (qr b) (kn b) (kr b) h x y : ℝ) : EReal) - (r : EReal))) := by
    unfold W1
    after_reads_at
    rw [hr]
    simp only [logits_at A]
  have e21 : W1 m c (Proc.tc.devRef main_v21) (ix4 b h x z) = ((Real.log 2 : ℝ) : EReal) := by
    unfold W1
    after_reads_at
    show Ideal.log (Ideal.ofBits FTy.f32 1073741824#32) = _
    rw [two_lit, log_real _ (by norm_num)]
  have e : W1 m c (Proc.tc.devRef main_v22) = (Host.divf (addf (W1 m c (Proc.tc.devRef main_v7) : FVec Ideal S2x8x2064x1 .f32) (W1 m c (Proc.tc.devRef main_v17) : FVec Ideal S2x8x2064x1 .f32)) (W1 m c (Proc.tc.devRef main_v21) : FVec Ideal S2x8x2064x1 .f32) : FVec Ideal S2x8x2064x1 .f32) := by
    unfold W1
    after_reads_simp
  have key : ∀ (p q d : FVec Ideal S2x8x2064x1 .f32) (i : S2x8x2064x1.Idx), Host.divf (addf p q) d i = Ideal.div (p i + q i) (d i) := fun _ _ _ _ => rfl
  refine (congrFun e _).trans ((key _ _ _ _).trans ?_)
  refine (congrArg₂ Ideal.div (congrArg₂ (fun p q : EReal => p + q) e7 e17) e21).trans ?_
  rw [soft_log (by norm_num) (fun y : Fin 2064 => lg (qn b) (qr b) (kn b) (kr b) h x y) r, div_real _ _ log2_pos.ne']
  rfl

theorem q_at (b : Fin 2) (x : Fin 2176) (h : Fin 8) (l : Fin 128) : W2 m c (Proc.tc.devRef main_v37) (ix4 b x h l)
    = ((opQ (qn b) (qr b) h x l : ℝ) : EReal) := by
  unfold W2
  after_reads_at
  by_cases h1 : l.val < 96
  · simp only [dif_pos h1]
    after_reads_at
    have n1 : l.val ≠ 96 := by omega
    by_cases h2 : x.val < 16
    · simp only [dif_pos h2]
      after_reads_at
      by_cases h4 : l.val < 64
      · simp only [dif_pos h4]
        after_reads_at
        refine (mulE ((congrFun (W1_arg0 m c) _).trans (A.a0 _ _ _ _)) host_qs).trans ?_
        dsimp only
        rw [opQ, if_neg n1, if_neg (by unfold pad; omega), if_pos h4, orig_lo h2]
      · simp only [dif_neg h4]
        after_reads_at
        refine (mulE ((congrFun (W1_arg1 m c) _).trans (A.a1 _ _ _ _)) host_qs).trans ?_
        dsimp only
        rw [opQ, if_neg n1, if_neg (by unfold pad; omega), if_neg h4, orig_lo h2]
    · simp only [dif_neg h2]
      by_cases h3 : x.val - 16 < 112
      · simp only [dif_pos h3]
        after_reads_at
        rw [opQ, if_neg n1, if_pos (by unfold pad; omega)]
        rfl
      · simp only [dif_neg h3]
        after_reads_at
        by_cases h4 : l.val < 64
        · simp only [dif_pos h4]
          after_reads_at
          refine (mulE ((congrFun (W1_arg0 m c) _).trans (A.a0 _ _ _ _)) host_qs).trans ?_
          dsimp only
          rw [opQ, if_neg n1, if_neg (by unfold pad; omega), if_pos h4, orig_hi h2, show 16 + (x.val - 16 - 112) = x.val - 112 by omega]
        · simp only [dif_neg h4]
          after_reads_at
          refine (mulE ((congrFun (W1_arg1 m c) _).trans (A.a1 _ _ _ _)) host_qs).trans ?_
          dsimp only
          rw [opQ, if_neg n1, if_neg (by unfold pad; omega), if_neg h4, orig_hi h2, show 16 + (x.val - 16 - 112) = x.val - 112 by omega]
  · simp only [dif_neg h1]
    by_cases h2 : l.val - 96 < 1
    · simp only [dif_pos h2]
      after_reads_at
      rw [opQ, if_pos (by omega)]
      rfl
    · simp only [dif_neg h2]
      after_reads_at
      rw [opQ, if_neg (by omega), if_pos (by omega)]
      rfl

theorem k_at (b : Fin 2) (x : Fin 2176) (h : Fin 8) (l : Fin 128) : W2 m c (Proc.tc.devRef main_v49) (ix4 b x h l)
    = ((opK (kn b) (kr b) h x l : ℝ) : EReal) := by
  unfold W2
  after_reads_at
  by_cases h1 : l.val < 96
  · simp only [dif_pos h1]
    after_reads_at
    have n1 : l.val ≠ 96 := by omega
    by_cases h2 : x.val < 16
    · simp only [dif_pos h2]
      after_reads_at
      by_cases h4 : l.val < 64
      · simp only [dif_pos h4]
        after_reads_at
        refine ((congrFun (W1_arg2 m c) _).trans (A.a2 _ _ _ _)).trans ?_
        dsimp only
        rw [opK, if_neg n1, if_neg (by unfold pad; omega), if_pos h4, orig_lo h2]
      · simp only [dif_neg h4]
        after_reads_at
        refine ((congrFun (W1_arg3 m c) _).trans (A.a3 _ _ _)).trans ?_
        dsimp only
        rw [opK, if_neg n1, if_neg (by unfold pad; omega), if_neg h4, orig_lo h2]
    · simp only [dif_neg h2]
      by_cases h3 : x.val - 16 < 112
      · simp only [dif_pos h3]
        after_reads_at
        rw [opK, if_neg n1, if_pos (by unfold pad; omega)]
        rfl
      · simp only [dif_neg h3]
        after_reads_at
        by_cases h4 : l.val < 64
        · simp only [dif_pos h4]
          after_reads_at
          refine ((congrFun (W1_arg2 m c) _).trans (A.a2 _ _ _ _)).trans ?_
          dsimp only
          rw [opK, if_neg n1, if_neg (by unfold pad; omega), if_pos h4, orig_hi h2, show 16 + (x.val - 16 - 112) = x.val - 112 by omega]
        · simp only [dif_neg h4]
          after_reads_at
          refine ((congrFun (W1_arg3 m c) _).trans (A.a3 _ _ _)).trans ?_
          dsimp only
          rw [opK, if_neg n1, if_neg (by unfold pad; omega), if_neg h4, orig_hi h2, show 16 + (x.val - 16 - 112) = x.val - 112 by omega]
  · simp only [dif_neg h1]
    by_cases h2 : l.val - 96 < 1
    · simp only [dif_pos h2]
      after_reads_at
      by_cases h2 : x.val < 16
      · simp only [dif_pos h2]
        after_reads_at
        rw [opK, if_pos (by omega), if_neg (by unfold pad; omega)]
        rfl
      · simp only [dif_neg h2]
        by_cases h3 : x.val - 16 < 112
        · simp only [dif_pos h3]
          after_reads_at
          rw [opK, if_pos (by omega), if_pos (by unfold pad; omega)]
          rfl
        · simp only [dif_neg h3]
          after_reads_at
          rw [opK, if_pos (by omega), if_neg (by unfold pad; omega)]
          rfl
    · simp only [dif_neg h2]
      after_reads_at
      rw [opK, if_neg (by omega), if_pos (by omega)]
      rfl

theorem q_rows (R : Fin 4352) (l : Fin 1024) : V m c main_v51 (ix2 R l)
    = ((opQ (qn (R.val / 2176)) (qr (R.val / 2176)) (l.val / 128) (R.val % 2176) (l.val % 128) : ℝ) : EReal) := by
  rw [V_eq']
  after_reads_at
  exact q_at A _ _ _ _

theorem k_rows (R : Fin 4352) (l : Fin 1024) : V m c main_v71 (ix2 R l)
    = ((opK (kn (R.val / 2176)) (kr (R.val / 2176)) (l.val / 128) (R.val % 2176) (l.val % 128) : ℝ) : EReal) := by
  rw [V_eq']
  after_reads_at
  exact k_at A _ _ _ _

theorem k_cols (R : Fin 2048) (x : Fin 2176) : V m c main_v73 (ix2 R x)
    = ((opK (kn (R.val / 1024)) (kr (R.val / 1024)) (R.val % 1024 / 128) x (R.val % 128) : ℝ) : EReal) := by
  rw [V_eq']
  after_reads_at
  refine (k_at A _ _ _ _).trans ?_
  dsimp only
  rw [show R.val % 1024 % 128 = R.val % 128 by omega]

theorem v_at (R : Fin 1024) (x : Fin 2176) : V m c main_v61 (ix2 R x)
    = ((opR (v (R.val / 512)) (R.val % 512 / 64) x (R.val % 64) : ℝ) : EReal) := by
  rw [V_eq]
  after_reads_at
  by_cases h2 : x.val < 16
  · simp only [dif_pos h2]
    after_reads_at
    refine ((congrFun (W1_arg4 m c) _).trans (A.a4 _ _ _ _)).trans ?_
    dsimp only
    rw [opR, if_neg (by unfold pad; omega), orig_lo h2, show R.val % 512 % 64 = R.val % 64 by omega]
  · simp only [dif_neg h2]
    by_cases h3 : x.val - 16 < 112
    · simp only [dif_pos h3]
      after_reads_at
      rw [opR, if_pos (by unfold pad; omega)]
      rfl
    · simp only [dif_neg h3]
      after_reads_at
      refine ((congrFun (W1_arg4 m c) _).trans (A.a4 _ _ _ _)).trans ?_
      dsimp only
      rw [opR, if_neg (by unfold pad; omega), orig_hi h2, show 16 + (x.val - 16 - 112) = x.val - 112 by omega, show R.val % 512 % 64 = R.val % 64 by omega]

theorem w_at (R : Fin 4352) (l : Fin 512) : V m c main_v78 (ix2 R l)
    = ((opR (w (R.val / 2176)) (l.val / 64) (R.val % 2176) (l.val % 64) : ℝ) : EReal) := by
  rw [V_eq]
  after_reads_at
  by_cases h2 : R.val % 2176 < 16
  · simp only [dif_pos h2]
    after_reads_at
    refine ((congrFun (W1_arg5 m c) _).trans (A.a5 _ _ _ _)).trans ?_
    dsimp only
    rw [opR, if_neg (by unfold pad; omega), orig_lo h2]
  · simp only [dif_neg h2]
    by_cases h3 : R.val % 2176 - 16 < 112
    · simp only [dif_pos h3]
      after_reads_at
      rw [opR, if_pos (by unfold pad; omega)]
      rfl
    · simp only [dif_neg h3]
      after_reads_at
      refine ((congrFun (W1_arg5 m c) _).trans (A.a5 _ _ _ _)).trans ?_
      dsimp only
      rw [opR, if_neg (by unfold pad; omega), orig_hi h2, show 16 + (R.val % 2176 - 16 - 112) = R.val % 2176 - 112 by omega]

theorem yrow_at (R : Fin 4352) (l : Fin 512) : V m c main_v83 (ix2 R l)
    = ((opY (qn (R.val / 2176)) (qr (R.val / 2176)) (kn (R.val / 2176)) (v (R.val / 2176)) (kr (R.val / 2176)) (l.val / 64) (R.val % 2176) (l.val % 64) : ℝ) : EReal) := by
  rw [V_eq]
  after_reads_at
  by_cases h2 : R.val % 2176 < 16
  · simp only [dif_pos h2]
    after_reads_at
    refine (y_at A _ _ _ _).trans ?_
    dsimp only
    rw [opY, if_neg (by unfold pad; omega), orig_lo h2]
  · simp only [dif_neg h2]
    by_cases h3 : R.val % 2176 - 16 < 112
    · simp only [dif_pos h3]
      after_reads_at
      rw [opY, if_pos (by unfold pad; omega)]
      rfl
    · simp only [dif_neg h3]
      after_reads_at
      refine (y_at A _ _ _ _).trans ?_
      dsimp only
      rw [opY, if_neg (by unfold pad; omega), orig_hi h2, show 16 + (R.val % 2176 - 16 - 112) = R.val % 2176 - 112 by omega]

theorem lrow_at (p : Fin 4) (R : Fin 8704) (z : Fin 128) : V m c main_v85 (ix3 p R z)
    = ((opL (qn (R.val / 4352)) (qr (R.val / 4352)) (kn (R.val / 4352)) (kr (R.val / 4352)) (p.val * 2 + R.val / 128 % 2) (R.val / 256 % 17 * 128 + R.val % 128) : ℝ) : EReal) := by
  rw [V_eq]
  after_reads_at
  by_cases h2 : R.val / 256 % 17 * 128 + R.val % 128 < 16
  · simp only [dif_pos h2]
    after_reads_at
    refine (lse_at A _ _ _ _).trans ?_
    dsimp only
    rw [opL, if_neg (by unfold pad; omega), orig_lo h2]
  · simp only [dif_neg h2]
    by_cases h3 : R.val / 256 % 17 * 128 + R.val % 128 - 16 < 112
    · simp only [dif_pos h3]
      after_reads_at
      rw [opL, if_pos (by unfold pad; omega)]
      rfl
    · simp only [dif_neg h3]
      after_reads_at
      refine (lse_at A _ _ _ _).trans ?_
      dsimp only
      rw [opL, if_neg (by unfold pad; omega), orig_hi h2, show 16 + (R.val / 256 % 17 * 128 + R.val % 128 - 16 - 112) = R.val / 256 % 17 * 128 + R.val % 128 - 112 by omega]

/-- The call's operands. -/
theorem operands : Operands m c (fun b => opQ (qn b) (qr b)) (fun b => opK (kn b) (kr b)) (fun b => opR (v b)) (fun b => opR (w b))
    (fun b => opY (qn b) (qr b) (kn b) (v b) (kr b)) (fun b => opL (qn b) (qr b) (kn b) (kr b)) where
  hq := q_rows A
  hk := k_rows A
  hkt := k_cols A
  hvt := v_at A
  hw := w_at A
  hy := yrow_at A
  hL p R z := by
    refine (lrow_at A p R z).trans ?_
    have hR := R.isLt
    rw [show p.val * 2 + R.val / 128 % 2 = 2 * p.val + R.val % 256 / 128 by omega, show R.val / 256 % 17 * 128 = R.val % 4352 / 256 * 128 by omega]
  one b h r := rfl
  mask b h x := rfl
end

end Cert.KernelIdeal.Mla

end
-- ==== Proof.MlaMath.lean ====
/-
  The call's sums over padded rows and lanes are the attention's gradients at their places.
-/
module

public import proofs.«01_k».proof.Proof.MlaSoft

@[expose] public section

noncomputable section

namespace Cert.KernelIdeal.Mla

/-- A sum over the padded rows whose unused rows are zero is the sum over the tokens. -/
theorem sum_rows {M : Type} [AddCommMonoid M] (f g : ℕ → M) (h0 : ∀ x, pad x → f x = 0) (h1 : ∀ x, ¬ pad x → f x = g (orig x)) :
    ∑ x : Fin 2176, f x.val = ∑ z : Fin 2064, g z.val := by
  rw [Fin.sum_univ_eq_sum_range f 2176, Fin.sum_univ_eq_sum_range g 2064, show 2176 = 16 + (112 + 2048) from rfl,
    show 2064 = 16 + 2048 from rfl, Finset.sum_range_add, Finset.sum_range_add _ 112, Finset.sum_range_add _ 16]
  have e0 : ∑ x ∈ Finset.range 112, f (16 + x) = 0 :=
    Finset.sum_eq_zero fun x hx => h0 _ (by have := Finset.mem_range.mp hx; unfold pad; omega)
  rw [e0, zero_add]
  congr 1
  · refine Finset.sum_congr rfl fun x hx => ?_
    have hx := Finset.mem_range.mp hx
    rw [h1 x (by unfold pad; omega), orig_lo hx]
  · refine Finset.sum_congr rfl fun x hx => ?_
    rw [h1 _ (by unfold pad; omega), orig_hi (by omega)]
    congr 1
    omega

/-- A sum over a head's lanes whose last thirty-two are zero. -/
theorem sum_lanes (f : ℕ → ℝ) (h0 : ∀ l, 96 ≤ l → f l = 0) :
    ∑ l : Fin 128, f l.val = (∑ l : Fin 64, f l.val) + ∑ l : Fin 32, f (64 + l.val) := by
  rw [Fin.sum_univ_eq_sum_range f 128, Fin.sum_univ_eq_sum_range f 64, Fin.sum_univ_eq_sum_range (fun l => f (64 + l)) 32,
    show 128 = 64 + (32 + 32) from rfl, Finset.sum_range_add, Finset.sum_range_add _ 32]
  rw [Finset.sum_eq_zero (f := fun x => f (64 + (32 + x))) fun x _ => h0 _ (by omega), add_zero]

theorem qs_log2 : Real.log 2 * qs = scale := by
  have := log2_pos.ne'
  unfold qs scale
  field_simp

section
variable (qn qr kn v w : ℕ → ℕ → ℕ → ℝ) (kr : ℕ → ℕ → ℝ)

theorem q_lo {h x l : ℕ} (hx : ¬ pad x) (hl : l < 64) : opQ qn qr h x l = qn (orig x) h l * qs := by
  rw [opQ, if_neg (by omega), if_neg (not_or.mpr ⟨by omega, hx⟩), if_pos hl]

theorem q_hi {h x l : ℕ} (hx : ¬ pad x) (hl : ¬ l < 64) (hl2 : l < 96) : opQ qn qr h x l = qr (orig x) h (l - 64) * qs := by
  rw [opQ, if_neg (by omega), if_neg (not_or.mpr ⟨by omega, hx⟩), if_neg hl]

theorem k_lo {h x l : ℕ} (hx : ¬ pad x) (hl : l < 64) : opK kn kr h x l = kn (orig x) h l := by
  rw [opK, if_neg (by omega), if_neg (not_or.mpr ⟨by omega, hx⟩), if_pos hl]

theorem k_hi {h x l : ℕ} (hx : ¬ pad x) (hl : ¬ l < 64) (hl2 : l < 96) : opK kn kr h x l = kr (orig x) (l - 64) := by
  rw [opK, if_neg (by omega), if_neg (not_or.mpr ⟨by omega, hx⟩), if_neg hl]

theorem q_out {h x l : ℕ} (hl : 96 ≤ l) (hl2 : l ≠ 96) : opQ qn qr h x l = 0 := by
  rw [opQ, if_neg hl2, if_pos (Or.inl hl)]

theorem k_out {h x l : ℕ} (hx : ¬ pad x) (hl : 96 ≤ l) : opK kn kr h x l = 0 := by
  rw [opK]
  by_cases e : l = 96
  · rw [if_pos e, if_neg hx]
  · rw [if_neg e, if_pos (Or.inl hl)]

theorem r_tok {t : ℕ → ℕ → ℕ → ℝ} {h x l : ℕ} (hx : ¬ pad x) : opR t h x l = t (orig x) h l := if_neg hx
theorem r_pad {t : ℕ → ℕ → ℕ → ℝ} {h x l : ℕ} (hx : pad x) : opR t h x l = 0 := if_pos hx

/-- The scores to base two. -/
theorem sc_eq {h r c : ℕ} (hr : ¬ pad r) (hc : ¬ pad c) :
    sc (opQ qn qr) (opK kn kr) h r c = lg qn qr kn kr h (orig r) (orig c) / Real.log 2 := by
  have e := sum_lanes (fun l => if l = 96 then 0 else opQ qn qr h r l * opK kn kr h c l) fun l hl => by
    rw [k_out kn kr hc hl, mul_zero, ite_self]
  unfold sc
  refine e.trans ?_
  have e1 : ∀ l : Fin 64, (if l.val = 96 then 0 else opQ qn qr h r l.val * opK kn kr h c l.val)
      = qn (orig r) h l.val * kn (orig c) h l.val * qs := by
    intro l
    have hl := l.isLt
    rw [if_neg (by omega), q_lo qn qr hr hl, k_lo kn kr hc hl]
    ring
  have e2 : ∀ l : Fin 32, (if 64 + l.val = 96 then 0 else opQ qn qr h r (64 + l.val) * opK kn kr h c (64 + l.val))
      = qr (orig r) h l.val * kr (orig c) l.val * qs := by
    intro l
    have hl := l.isLt
    rw [if_neg (by omega), q_hi qn qr hr (by omega) (by omega), k_hi kn kr hc (by omega) (by omega), Nat.add_sub_cancel_left]
    ring
  simp only [e1, e2]
  rw [← Finset.sum_mul, ← Finset.sum_mul, ← add_mul, lg, ← qs_log2]
  have := log2_pos.ne'
  field_simp

/-- The weights. -/
theorem pw_eq {h r c : ℕ} (hr : ¬ pad r) (hc : ¬ pad c) :
    pw (opQ qn qr) (opK kn kr) (opL qn qr kn kr) h r c = pr qn qr kn kr h (orig r) (orig c) := by
  have hz : 0 < zz qn qr kn kr h (orig r) := zpos (by norm_num) _
  have h2 := log2_pos.ne'
  rw [pw, if_neg hc, sc_eq qn qr kn kr hr hc, opL, if_neg hr, ← sub_div]
  refine (Real.rpow_def_of_pos (by norm_num : (0 : ℝ) < 2) _).trans ?_
  rw [mul_div_cancel₀ _ h2, Real.exp_sub, Real.exp_log hz, pr]

theorem pw_pad {q k : ℕ → ℕ → ℕ → ℝ} {L : ℕ → ℕ → ℝ} {h r c : ℕ} (hc : pad c) : pw q k L h r c = 0 := if_pos hc

/-- A row's output times its gradient. -/
theorem dl_eq {h r : ℕ} (hr : ¬ pad r) : dl (opR w) (opY qn qr kn v kr) h r
    = ∑ z : Fin 2064, dP v w h (orig r) z.val * pr qn qr kn kr h (orig r) z.val := by
  unfold dl
  simp only [r_tok hr, opY, if_neg hr, out, dP, Finset.mul_sum, Finset.sum_mul]
  rw [Finset.sum_comm]
  exact Finset.sum_congr rfl fun z _ => Finset.sum_congr rfl fun d _ => by ring

theorem dl_pad {y : ℕ → ℕ → ℕ → ℝ} {h r : ℕ} (hr : pad r) : dl (opR w) y h r = 0 := by
  unfold dl
  simp only [r_pad hr, zero_mul, Finset.sum_const_zero]

theorem dsr_eq {h r c : ℕ} (hr : ¬ pad r) (hc : ¬ pad c) :
    dsr (opQ qn qr) (opK kn kr) (opR v) (opR w) (opY qn qr kn v kr) (opL qn qr kn kr) h r c
      = dS qn qr kn v w kr h (orig r) (orig c) * Real.log 2 := by
  rw [dsr, pw_eq qn qr kn kr hr hc, dl_eq qn qr kn v w kr hr, dS]
  simp only [r_tok hr, r_tok hc]
  rfl

theorem dsr_key {q k v y : ℕ → ℕ → ℕ → ℝ} {L : ℕ → ℕ → ℝ} {h r c : ℕ} (hc : pad c) : dsr q k v (opR w) y L h r c = 0 := by
  rw [dsr, pw_pad hc, zero_mul, zero_mul]

theorem dsr_query {q k v y : ℕ → ℕ → ℕ → ℝ} {L : ℕ → ℕ → ℝ} {h r c : ℕ} (hr : pad r) : dsr q k v (opR w) y L h r c = 0 := by
  rw [dsr, dl_pad w hr]
  simp only [r_pad hr, zero_mul, Finset.sum_const_zero, sub_zero, mul_zero]

/-- Gradients of two parts of a head at the padded rows and the head's lanes. -/
def place (f g : ℕ → ℕ → ℕ → ℝ) (h x l : ℕ) : ℝ :=
  if pad x then 0 else if l < 64 then f (orig x) h l else if l < 96 then g (orig x) h (l - 64) else 0

/-- The queries' gradients. -/
theorem DQ_eq (h r l : ℕ) : DQ (opQ qn qr) (opK kn kr) (opR v) (opR w) (opY qn qr kn v kr) (opL qn qr kn kr) h r l
    = place (gQn qn qr kn v w kr) (gQr qn qr kn v w kr) h r l := by
  unfold DQ
  by_cases hr : pad r
  · rw [place, if_pos hr]
    simp only [dsr_query w hr, zero_mul, Finset.sum_const_zero]
  rw [place, if_neg hr]
  by_cases h1 : l < 64
  · rw [if_pos h1, sum_rows (fun x => dsr (opQ qn qr) (opK kn kr) (opR v) (opR w) (opY qn qr kn v kr) (opL qn qr kn kr) h r x * opK kn kr h x l)
      (fun z => dS qn qr kn v w kr h (orig r) z * Real.log 2 * kn z h l) (fun x hx => by simp only [dsr_key w hx, zero_mul])
      (fun x hx => by simp only [dsr_eq qn qr kn v w kr hr hx, k_lo kn kr hx h1]), gQn, Finset.sum_mul, ← qs_log2]
    exact Finset.sum_congr rfl fun z _ => by ring
  rw [if_neg h1]
  by_cases h2 : l < 96
  · rw [if_pos h2, sum_rows (fun x => dsr (opQ qn qr) (opK kn kr) (opR v) (opR w) (opY qn qr kn v kr) (opL qn qr kn kr) h r x * opK kn kr h x l)
      (fun z => dS qn qr kn v w kr h (orig r) z * Real.log 2 * kr z (l - 64)) (fun x hx => by simp only [dsr_key w hx, zero_mul])
      (fun x hx => by simp only [dsr_eq qn qr kn v w kr hr hx, k_hi kn kr hx h1 h2]), gQr, Finset.sum_mul, ← qs_log2]
    exact Finset.sum_congr rfl fun z _ => by ring
  rw [if_neg h2, Finset.sum_eq_zero, zero_mul]
  intro x _
  by_cases hx : pad x.val
  · rw [dsr_key w hx, zero_mul]
  · rw [k_out kn kr hx (by omega), mul_zero]

/-- The keys' gradients. -/
theorem DK_eq (h c l : ℕ) (hl : l ≠ 96) : DK (opQ qn qr) (opK kn kr) (opR v) (opR w) (opY qn qr kn v kr) (opL qn qr kn kr) h c l
    = place (gKn qn qr kn v w kr) (gKr qn qr kn v w kr) h c l := by
  unfold DK
  by_cases hc : pad c
  · rw [place, if_pos hc]
    simp only [dsr_key w hc, zero_mul, Finset.sum_const_zero]
  rw [place, if_neg hc]
  by_cases h1 : l < 64
  · rw [if_pos h1, sum_rows (fun x => dsr (opQ qn qr) (opK kn kr) (opR v) (opR w) (opY qn qr kn v kr) (opL qn qr kn kr) h x c * opQ qn qr h x l)
      (fun z => dS qn qr kn v w kr h z (orig c) * Real.log 2 * (qn z h l * qs)) (fun x hx => by simp only [dsr_query w hx, zero_mul])
      (fun x hx => by simp only [dsr_eq qn qr kn v w kr hx hc, q_lo qn qr hx h1]), gKn, ← qs_log2]
    exact Finset.sum_congr rfl fun z _ => by ring
  rw [if_neg h1]
  by_cases h2 : l < 96
  · rw [if_pos h2, sum_rows (fun x => dsr (opQ qn qr) (opK kn kr) (opR v) (opR w) (opY qn qr kn v kr) (opL qn qr kn kr) h x c * opQ qn qr h x l)
      (fun z => dS qn qr kn v w kr h z (orig c) * Real.log 2 * (qr z h (l - 64) * qs)) (fun x hx => by simp only [dsr_query w hx, zero_mul])
      (fun x hx => by simp only [dsr_eq qn qr kn v w kr hx hc, q_hi qn qr hx h1 h2]), gKr, ← qs_log2]
    exact Finset.sum_congr rfl fun z _ => by ring
  rw [if_neg h2, Finset.sum_eq_zero]
  intro x _
  rw [q_out qn qr (by omega) hl, mul_zero]

/-- The values' gradients. -/
theorem DV_eq (h c l : ℕ) : DV (opQ qn qr) (opK kn kr) (opR w) (opL qn qr kn kr) h c l = opR (gV qn qr kn w kr) h c l := by
  unfold DV
  by_cases hc : pad c
  · rw [r_pad hc]
    simp only [pw_pad hc, zero_mul, Finset.sum_const_zero]
  rw [r_tok hc, sum_rows (fun x => pw (opQ qn qr) (opK kn kr) (opL qn qr kn kr) h x c * opR w h x l)
    (fun z => pr qn qr kn kr h z (orig c) * w z h l) (fun x hx => by simp only [r_pad hx, mul_zero])
    (fun x hx => by simp only [pw_eq qn qr kn kr hx hc, r_tok hx]), gV]
end

end Cert.KernelIdeal.Mla

end
-- ==== Proof.RefRead.lean ====
/-
  The reference's three results at an index, over the reals.
-/
module

public import proofs.«01_k».proof.Proof.MlaMath
public import proofs.«01_k».proof.Proof.Gen.ReferenceIdeal.Read

@[expose] public section

set_option maxRecDepth 16384

noncomputable section

namespace Cert.ReferenceIdeal.Mla

open Cert.ReferenceIdeal Cert.ReferenceIdeal.Gen Cert.ReferenceIdeal.Read Idealize.ShloMosaic Cert.KernelIdeal.Mla

/-- The arguments, read as real numbers by sequence, token, head and lane. -/
structure Args (x0 : FVec Ideal S2x2064x8x64 .f32) (x1 : FVec Ideal S2x2064x8x32 .f32) (x2 : FVec Ideal S2x2064x8x64 .f32)
    (x3 : FVec Ideal S2x2064x32 .f32) (x4 x5 : FVec Ideal S2x2064x8x64 .f32)
    (qn qr kn v w : ℕ → ℕ → ℕ → ℕ → ℝ) (kr : ℕ → ℕ → ℕ → ℝ) : Prop where
  a0 : ∀ (b : Fin 2) (x : Fin 2064) (h : Fin 8) (l : Fin 64), x0 (ix4 b x h l) = ((qn b.val x.val h.val l.val : ℝ) : EReal)
  a1 : ∀ (b : Fin 2) (x : Fin 2064) (h : Fin 8) (l : Fin 32), x1 (ix4 b x h l) = ((qr b.val x.val h.val l.val : ℝ) : EReal)
  a2 : ∀ (b : Fin 2) (x : Fin 2064) (h : Fin 8) (l : Fin 64), x2 (ix4 b x h l) = ((kn b.val x.val h.val l.val : ℝ) : EReal)
  a3 : ∀ (b : Fin 2) (x : Fin 2064) (l : Fin 32), x3 (ix3 b x l) = ((kr b.val x.val l.val : ℝ) : EReal)
  a4 : ∀ (b : Fin 2) (x : Fin 2064) (h : Fin 8) (l : Fin 64), x4 (ix4 b x h l) = ((v b.val x.val h.val l.val : ℝ) : EReal)
  a5 : ∀ (b : Fin 2) (x : Fin 2064) (h : Fin 8) (l : Fin 64), x5 (ix4 b x h l) = ((w b.val x.val h.val l.val : ℝ) : EReal)

theorem low_at (i : S2x8x2064.Idx) : val_main_v13 (F := Ideal) i = (⊥ : EReal) :=
  (val_main_v13_apply i).trans bot_lit

/-- The softmax's row of gradients, written with exponentials less the row's maximum. -/
theorem grad_eq {n : ℕ} (P e : Fin n → ℝ) (p E M Z s : ℝ) (hM : 0 < M) (hZ : 0 < Z) :
    (p / (Z / M) + -∑ y, P y * (1 / (Z / M * (Z / M))) * (e y / M)) * (E / M) * s
      = E / Z * (p - ∑ z, P z * (e z / Z)) * s := by
  have e1 : ∀ z, P z * (1 / (Z / M * (Z / M))) * (e z / M) = P z * (e z / Z) * (M / Z) := by
    intro z
    field_simp
  simp only [e1]
  rw [← Finset.sum_mul]
  generalize ∑ z, P z * (e z / Z) = T
  field_simp
  ring

variable {x0 : FVec Ideal S2x2064x8x64 .f32} {x1 : FVec Ideal S2x2064x8x32 .f32} {x2 : FVec Ideal S2x2064x8x64 .f32}
  {x3 : FVec Ideal S2x2064x32 .f32} {x4 x5 : FVec Ideal S2x2064x8x64 .f32}
  {qn qr kn v w : ℕ → ℕ → ℕ → ℕ → ℝ} {kr : ℕ → ℕ → ℕ → ℝ}
  (A : Args x0 x1 x2 x3 x4 x5 qn qr kn v w kr)
include A

theorem logits_at (b : Fin 2) (h : Fin 8) (x y : Fin 2064) : val_main_v6 (F := Ideal) x0 x1 x2 x3 (ix4 b h x y)
    = ((lg (qn b) (qr b) (kn b) (kr b) h x y : ℝ) : EReal) := by
  pointwise [val_main_v6, val_main_v5, val_main_cst, val_main_v4, val_main_v3, val_main_v2, val_main_v1, val_main_v0]
  simp only [A.a0, A.a1, A.a2, A.a3]
  rw [scale_lit, lg, EReal.coe_mul, EReal.coe_add, coe_sum, coe_sum]
  simp only [EReal.coe_mul]

theorem top_at (b : Fin 2) (h : Fin 8) (x : Fin 2064) : ∃ r : ℝ, val_main_v7 (F := Ideal) x0 x1 x2 x3 (ix3 b h x) = (r : EReal) := by
  obtain ⟨r, hr⟩ := max_real (by norm_num) fun y : Fin 2064 => lg (qn b) (qr b) (kn b) (kr b) h x y
  refine ⟨r, ?_⟩
  pointwise [val_main_v7, val_main_cst_0]
  simp only [logits_at A]
  rw [bot_lit, hr]

theorem max_at (b : Fin 2) (h : Fin 8) (x : Fin 2064) : ∃ r : ℝ, val_main_v14 (F := Ideal) x0 x1 x2 x3 (ix3 b h x) = (r : EReal) := by
  obtain ⟨r, hr⟩ := top_at A b h x
  have key : ∀ p q : EReal, FloatOps.maximumf (F := Ideal) (φ := .f32) p q = max p q := fun _ _ => rfl
  refine ⟨r, (val_main_v14_apply (F := Ideal) x0 x1 x2 x3 (ix3 b h x)).trans ?_⟩
  rw [low_at, hr]
  exact (key _ _).trans (max_eq_right bot_le)

theorem exp_at (b : Fin 2) (h : Fin 8) (x y : Fin 2064) (r : ℝ) (hr : val_main_v14 (F := Ideal) x0 x1 x2 x3 (ix3 b h x) = (r : EReal)) :
    val_main_v27 (F := Ideal) x0 x1 x2 x3 (ix4 b h x y) = ((Real.exp (lg (qn b) (qr b) (kn b) (kr b) h x y) / Real.exp r : ℝ) : EReal) := by
  pointwise [val_main_v27, val_main_v26, val_main_v25, val_main_v24]
  rw [logits_at A, hr, exp_sub]

theorem den_at (b : Fin 2) (h : Fin 8) (x : Fin 2064) (r : ℝ) (hr : val_main_v14 (F := Ideal) x0 x1 x2 x3 (ix3 b h x) = (r : EReal)) :
    val_main_v28 (F := Ideal) x0 x1 x2 x3 (ix3 b h x) = ((zz (qn b) (qr b) (kn b) (kr b) h x / Real.exp r : ℝ) : EReal) := by
  pointwise [val_main_v28, val_main_cst_8]
  simp only [fun y : Fin 2064 => exp_at A b h x y r hr]
  rw [zz, Finset.sum_div, coe_sum]

theorem zz_pos (b : Fin 2) (h : Fin 8) (x : Fin 2064) : 0 < zz (qn b) (qr b) (kn b) (kr b) h x := zpos (by norm_num) _

theorem p_at (b : Fin 2) (h : Fin 8) (x y : Fin 2064) : val_main_v31 (F := Ideal) x0 x1 x2 x3 (ix4 b h x y)
    = ((pr (qn b) (qr b) (kn b) (kr b) h x y : ℝ) : EReal) := by
  obtain ⟨r, hr⟩ := max_at A b h x
  have hz := zz_pos A b h x
  have hM := Real.exp_pos r
  pointwise [val_main_v31, val_main_v30, val_main_v29]
  rw [exp_at A b h x y r hr, den_at A b h x r hr, div_real _ _ (by positivity), pr]
  exact congrArg _ (div_div_div_cancel_right₀ hM.ne' _ _)

theorem dP_at (b : Fin 2) (h : Fin 8) (x y : Fin 2064) : val_main_v38 (F := Ideal) x4 x5 (ix4 b h x y)
    = ((dP (v b) (w b) h x y : ℝ) : EReal) := by
  pointwise [val_main_v38, val_main_v37]
  simp only [A.a4, A.a5]
  rw [dP, coe_sum]
  simp only [EReal.coe_mul]

theorem row_at (b : Fin 2) (h : Fin 8) (x : Fin 2064) (r : ℝ) (hr : val_main_v14 (F := Ideal) x0 x1 x2 x3 (ix3 b h x) = (r : EReal)) :
    val_main_v44 (F := Ideal) x0 x1 x2 x3 x4 x5 (ix3 b h x)
    = ((∑ y : Fin 2064, dP (v b) (w b) h x y * (1 / (zz (qn b) (qr b) (kn b) (kr b) h x / Real.exp r * (zz (qn b) (qr b) (kn b) (kr b) h x / Real.exp r)))
        * (Real.exp (lg (qn b) (qr b) (kn b) (kr b) h x y) / Real.exp r) : ℝ) : EReal) := by
  have hz := zz_pos A b h x
  have hM := Real.exp_pos r
  pointwise [val_main_v44, val_main_v43, val_main_v42, val_main_v41, val_main_v34, val_main_v33, val_main_v32, val_main_v29, val_main_cst_9, val_main_cst_10]
  simp only [fun y : Fin 2064 => exp_at A b h x y r hr, den_at A b h x r hr, fun y : Fin 2064 => dP_at A b h x y]
  rw [← EReal.coe_mul, show (1 : EReal) = ((1 : ℝ) : EReal) from rfl, div_real _ _ (by positivity), coe_sum]
  simp only [EReal.coe_mul]

theorem dS_at (b : Fin 2) (h : Fin 8) (x y : Fin 2064) : val_main_v54 (F := Ideal) x0 x1 x2 x3 x4 x5 (ix4 b h x y)
    = ((dS (qn b) (qr b) (kn b) (v b) (w b) (kr b) h x y * scale : ℝ) : EReal) := by
  obtain ⟨r, hr⟩ := max_at A b h x
  have hz := zz_pos A b h x
  have hM := Real.exp_pos r
  pointwise [val_main_v54, val_main_v53, val_main_v52, val_main_v51, val_main_v50, val_main_v49, val_main_v48, val_main_v47, val_main_v46, val_main_v45, val_main_v29, val_main_cst_12, val_main_cst_11]
  simp only [Finset.univ_unique, Finset.sum_singleton]
  rw [exp_at A b h x y r hr, den_at A b h x r hr, dP_at A, row_at A b h x r hr, scale_lit, div_real _ _ (by positivity),
    ← EReal.coe_neg, ← EReal.coe_add, ← EReal.coe_mul, ← EReal.coe_mul]
  exact congrArg _ (grad_eq _ _ _ _ _ _ _ hM hz)

theorem gV_at (b : Fin 2) (y : Fin 2064) (h : Fin 8) (d : Fin 64) : val_main_v40 (F := Ideal) x0 x1 x2 x3 x5 (ix4 b y h d)
    = ((gV (qn b) (qr b) (kn b) (w b) (kr b) y h d : ℝ) : EReal) := by
  pointwise [val_main_v40, val_main_v39, val_main_v37]
  rw [gV, coe_sum]
  refine Finset.sum_congr rfl fun x _ => ?_
  rw [A.a5, p_at A, ← EReal.coe_mul, mul_comm]

theorem gKr_at (b : Fin 2) (y : Fin 2064) (h : Fin 8) (d : Fin 32) : val_main_v56 (F := Ideal) x0 x1 x2 x3 x4 x5 (ix4 b y h d)
    = ((gKr (qn b) (qr b) (kn b) (v b) (w b) (kr b) y h d : ℝ) : EReal) := by
  pointwise [val_main_v56, val_main_v55]
  rw [gKr, coe_sum]
  exact Finset.sum_congr rfl fun x _ => mulE (dS_at A _ _ _ _) (A.a1 _ _ _ _)

theorem gQr_at (b : Fin 2) (x : Fin 2064) (h : Fin 8) (d : Fin 32) : val_main_v58 (F := Ideal) x0 x1 x2 x3 x4 x5 (ix4 b x h d)
    = ((gQr (qn b) (qr b) (kn b) (v b) (w b) (kr b) x h d : ℝ) : EReal) := by
  pointwise [val_main_v58, val_main_v57, val_main_v1, val_main_v0]
  rw [gQr, coe_sum]
  exact Finset.sum_congr rfl fun y _ => mulE (dS_at A _ _ _ _) (A.a3 _ _ _)

theorem gKn_at (b : Fin 2) (y : Fin 2064) (h : Fin 8) (d : Fin 64) : val_main_v60 (F := Ideal) x0 x1 x2 x3 x4 x5 (ix4 b y h d)
    = ((gKn (qn b) (qr b) (kn b) (v b) (w b) (kr b) y h d : ℝ) : EReal) := by
  pointwise [val_main_v60, val_main_v59]
  rw [gKn, coe_sum]
  exact Finset.sum_congr rfl fun x _ => mulE (dS_at A _ _ _ _) (A.a0 _ _ _ _)

theorem gQn_at (b : Fin 2) (x : Fin 2064) (h : Fin 8) (d : Fin 64) : val_main_v62 (F := Ideal) x0 x1 x2 x3 x4 x5 (ix4 b x h d)
    = ((gQn (qn b) (qr b) (kn b) (v b) (w b) (kr b) x h d : ℝ) : EReal) := by
  pointwise [val_main_v62, val_main_v61]
  rw [gQn, coe_sum]
  exact Finset.sum_congr rfl fun y _ => mulE (dS_at A _ _ _ _) (A.a2 _ _ _ _)

theorem dq_ref (R : Fin 4352) (l : Fin 1024) : val_main_v69 (F := Ideal) x0 x1 x2 x3 x4 x5 (ix2 R l)
    = ((place (gQn (qn (R.val / 2176)) (qr (R.val / 2176)) (kn (R.val / 2176)) (v (R.val / 2176)) (w (R.val / 2176)) (kr (R.val / 2176))) (gQr (qn (R.val / 2176)) (qr (R.val / 2176)) (kn (R.val / 2176)) (v (R.val / 2176)) (w (R.val / 2176)) (kr (R.val / 2176))) (l.val / 128) (R.val % 2176) (l.val % 128) : ℝ) : EReal) := by
  pointwise [val_main_v69, val_main_v68, val_main_v67, val_main_v66, val_main_v65, val_main_v64, val_main_v63, val_main_cst_13, val_main_cst_14]
  by_cases h2 : R.val % 2176 < 16
  · simp only [dif_pos h2]
    by_cases h4 : l.val % 128 < 64
    · simp only [dif_pos h4]
      refine (gQn_at A _ _ _ _).trans ?_
      dsimp only
      rw [place, if_neg (by unfold KernelIdeal.Mla.pad; omega), if_pos h4, orig_lo h2]
    · simp only [dif_neg h4]
      by_cases h5 : l.val % 128 - 64 < 32
      · simp only [dif_pos h5]
        refine (gQr_at A _ _ _ _).trans ?_
        dsimp only
        rw [place, if_neg (by unfold KernelIdeal.Mla.pad; omega), if_neg h4, if_pos (by omega), orig_lo h2]
      · simp only [dif_neg h5]
        rw [place, if_neg (by unfold KernelIdeal.Mla.pad; omega), if_neg h4, if_neg (by omega)]
        rfl
  · simp only [dif_neg h2]
    by_cases h3 : R.val % 2176 - 16 < 112
    · simp only [dif_pos h3]
      rw [place, if_pos (by unfold KernelIdeal.Mla.pad; omega)]
      rfl
    · simp only [dif_neg h3]
      by_cases h4 : l.val % 128 < 64
      · simp only [dif_pos h4]
        refine (gQn_at A _ _ _ _).trans ?_
        dsimp only
        rw [place, if_neg (by unfold KernelIdeal.Mla.pad; omega), if_pos h4, orig_hi h2, show 16 + (R.val % 2176 - 16 - 112) = R.val % 2176 - 112 by omega]
      · simp only [dif_neg h4]
        by_cases h5 : l.val % 128 - 64 < 32
        · simp only [dif_pos h5]
          refine (gQr_at A _ _ _ _).trans ?_
          dsimp only
          rw [place, if_neg (by unfold KernelIdeal.Mla.pad; omega), if_neg h4, if_pos (by omega), orig_hi h2, show 16 + (R.val % 2176 - 16 - 112) = R.val % 2176 - 112 by omega]
        · simp only [dif_neg h5]
          rw [place, if_neg (by unfold KernelIdeal.Mla.pad; omega), if_neg h4, if_neg (by omega)]
          rfl

theorem dk_ref (R : Fin 4352) (l : Fin 1024) : val_main_v75 (F := Ideal) x0 x1 x2 x3 x4 x5 (ix2 R l)
    = ((place (gKn (qn (R.val / 2176)) (qr (R.val / 2176)) (kn (R.val / 2176)) (v (R.val / 2176)) (w (R.val / 2176)) (kr (R.val / 2176))) (gKr (qn (R.val / 2176)) (qr (R.val / 2176)) (kn (R.val / 2176)) (v (R.val / 2176)) (w (R.val / 2176)) (kr (R.val / 2176))) (l.val / 128) (R.val % 2176) (l.val % 128) : ℝ) : EReal) := by
  pointwise [val_main_v75, val_main_v74, val_main_v73, val_main_v72, val_main_v71, val_main_v70, val_main_v63, val_main_cst_13, val_main_cst_15]
  by_cases h2 : R.val % 2176 < 16
  · simp only [dif_pos h2]
    by_cases h4 : l.val % 128 < 64
    · simp only [dif_pos h4]
      refine (gKn_at A _ _ _ _).trans ?_
      dsimp only
      rw [place, if_neg (by unfold KernelIdeal.Mla.pad; omega), if_pos h4, orig_lo h2]
    · simp only [dif_neg h4]
      by_cases h5 : l.val % 128 - 64 < 32
      · simp only [dif_pos h5]
        refine (gKr_at A _ _ _ _).trans ?_
        dsimp only
        rw [place, if_neg (by unfold KernelIdeal.Mla.pad; omega), if_neg h4, if_pos (by omega), orig_lo h2]
      · simp only [dif_neg h5]
        rw [place, if_neg (by unfold KernelIdeal.Mla.pad; omega), if_neg h4, if_neg (by omega)]
        rfl
  · simp only [dif_neg h2]
    by_cases h3 : R.val % 2176 - 16 < 112
    · simp only [dif_pos h3]
      rw [place, if_pos (by unfold KernelIdeal.Mla.pad; omega)]
      rfl
    · simp only [dif_neg h3]
      by_cases h4 : l.val % 128 < 64
      · simp only [dif_pos h4]
        refine (gKn_at A _ _ _ _).trans ?_
        dsimp only
        rw [place, if_neg (by unfold KernelIdeal.Mla.pad; omega), if_pos h4, orig_hi h2, show 16 + (R.val % 2176 - 16 - 112) = R.val % 2176 - 112 by omega]
      · simp only [dif_neg h4]
        by_cases h5 : l.val % 128 - 64 < 32
        · simp only [dif_pos h5]
          refine (gKr_at A _ _ _ _).trans ?_
          dsimp only
          rw [place, if_neg (by unfold KernelIdeal.Mla.pad; omega), if_neg h4, if_pos (by omega), orig_hi h2, show 16 + (R.val % 2176 - 16 - 112) = R.val % 2176 - 112 by omega]
        · simp only [dif_neg h5]
          rw [place, if_neg (by unfold KernelIdeal.Mla.pad; omega), if_neg h4, if_neg (by omega)]
          rfl

theorem dv_ref (R : Fin 4352) (l : Fin 512) : val_main_v80 (F := Ideal) x0 x1 x2 x3 x5 (ix2 R l)
    = ((opR (gV (qn (R.val / 2176)) (qr (R.val / 2176)) (kn (R.val / 2176)) (w (R.val / 2176)) (kr (R.val / 2176))) (l.val / 64) (R.val % 2176) (l.val % 64) : ℝ) : EReal) := by
  pointwise [val_main_v80, val_main_v79, val_main_v78, val_main_v77, val_main_v76, val_main_cst_16]
  by_cases h2 : R.val % 2176 < 16
  · simp only [dif_pos h2]
    refine (gV_at A _ _ _ _).trans ?_
    dsimp only
    rw [opR, if_neg (by unfold KernelIdeal.Mla.pad; omega), orig_lo h2]
  · simp only [dif_neg h2]
    by_cases h3 : R.val % 2176 - 16 < 112
    · simp only [dif_pos h3]
      rw [opR, if_pos (by unfold KernelIdeal.Mla.pad; omega)]
      rfl
    · simp only [dif_neg h3]
      refine (gV_at A _ _ _ _).trans ?_
      dsimp only
      rw [opR, if_neg (by unfold KernelIdeal.Mla.pad; omega), orig_hi h2, show 16 + (R.val % 2176 - 16 - 112) = R.val % 2176 - 112 by omega]

end Cert.ReferenceIdeal.Mla

end
-- ==== Proof.Inputs.lean ====
/-
  What the precondition and the mask say: every input element is a real number; lane 96 of a head is not compared.
-/
module

public import proofs.«01_k».proof.Proof.Gen.Pre_finite
public import proofs.«01_k».proof.Proof.Gen.On_used_lanes
public import Idealize.ShloMosaic.Lib.Pointwise
public import Idealize.ShloMosaic.Lib.ReduceAll
public import Idealize.ShloMosaic.Lib.WordArith

@[expose] public section

set_option maxRecDepth 16384

noncomputable section

namespace Cert.Inputs

open Idealize.ShloMosaic

/-- An extended real whose absolute value is below the infinity word is a real. -/
theorem real_of_lt (x : EReal) (h : BitVec.ofBool (decide (max x (-x) < Ideal.ofBits FTy.f32 2139095040#32)) = 1#1) :
    x = ((x.toReal : ℝ) : EReal) := by
  have e : Ideal.ofBits FTy.f32 2139095040#32 = (⊤ : EReal) := by
    simp [Ideal.ofBits, Ideal.ieee, BitVec.toNat]
  rw [WordArith.ofBool_eq_one_iff, e] at h
  have h := of_decide_eq_true h
  induction x using EReal.rec with
  | bot => simp at h
  | top => simp at h
  | coe r => rfl

instance : Subsingleton Pre_finite.S_.Idx := ⟨fun a b => funext fun d => d.elim0⟩

variable {x0 : FVec Ideal Pre_finite.S2x2064x8x64 .f32} {x1 : FVec Ideal Pre_finite.S2x2064x8x32 .f32} {x2 : FVec Ideal Pre_finite.S2x2064x8x64 .f32}
  {x3 : FVec Ideal Pre_finite.S2x2064x32 .f32} {x4 x5 : FVec Ideal Pre_finite.S2x2064x8x64 .f32}

/-- The precondition's test of one array, read at an index. -/
theorem fin_of {s : Shape} {axes : List (Fin s.rank)} (x : FVec Ideal s .f32)
    (hb : Pre_finite.S_.BroadcastsInDim s (![] : Fin 0 → Fin s.rank)) (hr : s.ReducesTo axes Pre_finite.S_) (hu : 0 < Pre_finite.S_.numel)
    (h : Host.reduce IntOp.andi (cmpf .olt (Host.absf x) (broadcastInDim s ![] hb (constant (F := Ideal) Pre_finite.S_ .f32 0x7F800000#32)))
      (constantI Pre_finite.S_ 1 1#1) hr hu = fun _ => 1#1) (i : s.Idx) : x i = (((x i : EReal).toReal : ℝ) : EReal) := by
  have e := Host.reduce_andi_all _ _ _ _ (fun d => d.elim0) (congrFun h _) i
  refine real_of_lt _ (Eq.trans ?_ e)
  rfl

theorem fin0 (h : (Pre_finite.fn (F := Ideal) x0 x1 x2 x3 x4 x5).1 = fun _ => 1#1) (i : Pre_finite.S2x2064x8x64.Idx) :
    x0 i = (((x0 i : EReal).toReal : ℝ) : EReal) := by
  dsimp only [Pre_finite.fn, Pre_finite.fn_part1] at h
  exact fin_of _ _ _ _ h i

theorem fin1 (h : (Pre_finite.fn (F := Ideal) x0 x1 x2 x3 x4 x5).2.1 = fun _ => 1#1) (i : Pre_finite.S2x2064x8x32.Idx) :
    x1 i = (((x1 i : EReal).toReal : ℝ) : EReal) := by
  dsimp only [Pre_finite.fn, Pre_finite.fn_part1] at h
  exact fin_of _ _ _ _ h i

theorem fin2 (h : (Pre_finite.fn (F := Ideal) x0 x1 x2 x3 x4 x5).2.2.1 = fun _ => 1#1) (i : Pre_finite.S2x2064x8x64.Idx) :
    x2 i = (((x2 i : EReal).toReal : ℝ) : EReal) := by
  dsimp only [Pre_finite.fn, Pre_finite.fn_part1] at h
  exact fin_of _ _ _ _ h i

theorem fin3 (h : (Pre_finite.fn (F := Ideal) x0 x1 x2 x3 x4 x5).2.2.2.1 = fun _ => 1#1) (i : Pre_finite.S2x2064x32.Idx) :
    x3 i = (((x3 i : EReal).toReal : ℝ) : EReal) := by
  dsimp only [Pre_finite.fn, Pre_finite.fn_part1] at h
  exact fin_of _ _ _ _ h i

theorem fin4 (h : (Pre_finite.fn (F := Ideal) x0 x1 x2 x3 x4 x5).2.2.2.2.1 = fun _ => 1#1) (i : Pre_finite.S2x2064x8x64.Idx) :
    x4 i = (((x4 i : EReal).toReal : ℝ) : EReal) := by
  dsimp only [Pre_finite.fn, Pre_finite.fn_part1] at h
  exact fin_of _ _ _ _ h i

theorem fin5 (h : (Pre_finite.fn (F := Ideal) x0 x1 x2 x3 x4 x5).2.2.2.2.2 = fun _ => 1#1) (i : Pre_finite.S2x2064x8x64.Idx) :
    x5 i = (((x5 i : EReal).toReal : ℝ) : EReal) := by
  dsimp only [Pre_finite.fn, Pre_finite.fn_part1] at h
  exact fin_of _ _ _ _ h i

/-- Where the mask is set for the keys' gradients, the lane is not a mask lane. -/
theorem lane_ne (i : On_used_lanes.S4352x1024.Idx) (h : (On_used_lanes.fn (F := Ideal) x0 x1 x2 x3 x4 x5).2.1 i = 1#1) :
    (i 1).val % 128 ≠ 96 := by
  dsimp only [On_used_lanes.fn, On_used_lanes.fn_remainder, On_used_lanes.fn_where] at h
  revert h
  pointwise
  have hn : (i 1).val < 1024 := (i 1).isLt
  generalize (i 1).val = n at hn ⊢
  clear i
  revert n
  decide +kernel

end Cert.Inputs

end
-- ==== Proof.Algebraic.lean ====
/-
  The kernel and the reference compute the same gradients over the extended reals.
-/
module

public import proofs.«01_k».proof.Defs
public import proofs.«01_k».proof.Proof.MlaFinal
public import proofs.«01_k».proof.Proof.MlaPrefix
public import proofs.«01_k».proof.Proof.MlaMath
public import proofs.«01_k».proof.Proof.RefRead
public import proofs.«01_k».proof.Proof.Inputs
public import proofs.«01_k».proof.Proof.Gen.Reference
public import proofs.«01_k».proof.Proof.Gen.ReferenceIdeal.Run

@[expose] public section

set_option maxRecDepth 16384

noncomputable section

namespace Cert.Algebraic

open Idealize.ShloMosaic Idealize.SL.Sem Cert.KernelIdeal.Mla

/-- An array of four axes as a function of numbers. -/
def nat4 {a b c d : ℕ} (x : (⟨4, ![a, b, c, d]⟩ : Shape).Idx → EReal) (i j k l : ℕ) : ℝ :=
  if h : i < a ∧ j < b ∧ k < c ∧ l < d then (x (ix4 ⟨i, h.1⟩ ⟨j, h.2.1⟩ ⟨k, h.2.2.1⟩ ⟨l, h.2.2.2⟩)).toReal else 0

/-- An array of three axes as a function of numbers. -/
def nat3 {a b c : ℕ} (x : (⟨3, ![a, b, c]⟩ : Shape).Idx → EReal) (i j k : ℕ) : ℝ :=
  if h : i < a ∧ j < b ∧ k < c then (x (ix3 ⟨i, h.1⟩ ⟨j, h.2.1⟩ ⟨k, h.2.2⟩)).toReal else 0

theorem nat4_at {a b c d : ℕ} (x : (⟨4, ![a, b, c, d]⟩ : Shape).Idx → EReal) (hx : ∀ i, x i = (((x i).toReal : ℝ) : EReal))
    (i : Fin a) (j : Fin b) (k : Fin c) (l : Fin d) : x (ix4 i j k l) = ((nat4 x i.val j.val k.val l.val : ℝ) : EReal) := by
  rw [nat4, dif_pos ⟨i.isLt, j.isLt, k.isLt, l.isLt⟩]
  exact hx _

theorem nat3_at {a b c : ℕ} (x : (⟨3, ![a, b, c]⟩ : Shape).Idx → EReal) (hx : ∀ i, x i = (((x i).toReal : ℝ) : EReal))
    (i : Fin a) (j : Fin b) (k : Fin c) : x (ix3 i j k) = ((nat3 x i.val j.val k.val : ℝ) : EReal) := by
  rw [nat3, dif_pos ⟨i.isLt, j.isLt, k.isLt⟩]
  exact hx _

section
variable (m : (ℓ : Loc Cert.KernelIdeal.nD Cert.KernelIdeal.τ Cert.KernelIdeal.sig) → Buf (Elt Ideal) ℓ) (hp : Pre_KernelIdeal_finite m)
  (c : Dev Cert.KernelIdeal.nD)

def y0 : FVec Ideal Cert.ReferenceIdeal.S2x2064x8x64 .f32 := m ((c.tc : Thread Cert.KernelIdeal.nD Cert.KernelIdeal.τ).loc Cert.KernelIdeal.main_arg0)
def y1 : FVec Ideal Cert.ReferenceIdeal.S2x2064x8x32 .f32 := m ((c.tc : Thread Cert.KernelIdeal.nD Cert.KernelIdeal.τ).loc Cert.KernelIdeal.main_arg1)
def y2 : FVec Ideal Cert.ReferenceIdeal.S2x2064x8x64 .f32 := m ((c.tc : Thread Cert.KernelIdeal.nD Cert.KernelIdeal.τ).loc Cert.KernelIdeal.main_arg2)
def y3 : FVec Ideal Cert.ReferenceIdeal.S2x2064x32 .f32 := m ((c.tc : Thread Cert.KernelIdeal.nD Cert.KernelIdeal.τ).loc Cert.KernelIdeal.main_arg3)
def y4 : FVec Ideal Cert.ReferenceIdeal.S2x2064x8x64 .f32 := m ((c.tc : Thread Cert.KernelIdeal.nD Cert.KernelIdeal.τ).loc Cert.KernelIdeal.main_arg4)
def y5 : FVec Ideal Cert.ReferenceIdeal.S2x2064x8x64 .f32 := m ((c.tc : Thread Cert.KernelIdeal.nD Cert.KernelIdeal.τ).loc Cert.KernelIdeal.main_arg5)

include hp
/-- The reference's arguments as real numbers. -/
theorem refArgs : Cert.ReferenceIdeal.Mla.Args (y0 m c) (y1 m c) (y2 m c) (y3 m c) (y4 m c) (y5 m c)
    (nat4 (y0 m c)) (nat4 (y1 m c)) (nat4 (y2 m c)) (nat4 (y4 m c)) (nat4 (y5 m c)) (nat3 (y3 m c)) where
  a0 := nat4_at (y0 m c) (Inputs.fin0 (hp c).1)
  a1 := nat4_at (y1 m c) (Inputs.fin1 (hp c).2.1)
  a2 := nat4_at (y2 m c) (Inputs.fin2 (hp c).2.2.1)
  a3 := nat3_at (y3 m c) (Inputs.fin3 (hp c).2.2.2.1)
  a4 := nat4_at (y4 m c) (Inputs.fin4 (hp c).2.2.2.2.1)
  a5 := nat4_at (y5 m c) (Inputs.fin5 (hp c).2.2.2.2.2)

/-- The kernel's arguments as the same real numbers. -/
theorem kernelArgs : Cert.KernelIdeal.Mla.Args m c
    (nat4 (y0 m c)) (nat4 (y1 m c)) (nat4 (y2 m c)) (nat4 (y4 m c)) (nat4 (y5 m c)) (nat3 (y3 m c)) where
  a0 := (refArgs m hp c).a0
  a1 := (refArgs m hp c).a1
  a2 := (refArgs m hp c).a2
  a3 := (refArgs m hp c).a3
  a4 := (refArgs m hp c).a4
  a5 := (refArgs m hp c).a5

theorem dq (i : Cert.KernelIdeal.S4352x1024.Idx) : Cert.ReferenceIdeal.Read.val_main_v69 (F := Ideal) (y0 m c) (y1 m c) (y2 m c) (y3 m c) (y4 m c) (y5 m c) i
    = (Cert.KernelIdeal.Gen.dats m 0 c).arrAt 7 Cert.KernelIdeal.cfg0.N i := by
  refine Eq.trans ?_ (dq_arr (operands (kernelArgs m hp c)) i).symm
  refine Eq.trans ?_ (congrArg _ (DQ_eq _ _ _ _ _ _ _ _ _).symm)
  exact (congrArg _ (eq_ix2 i)).trans (Cert.ReferenceIdeal.Mla.dq_ref (refArgs m hp c) (i 0) (i 1))

theorem dk (i : Cert.KernelIdeal.S4352x1024.Idx) (hi : (i 1).val % 128 ≠ 96) :
    Cert.ReferenceIdeal.Read.val_main_v75 (F := Ideal) (y0 m c) (y1 m c) (y2 m c) (y3 m c) (y4 m c) (y5 m c) i
    = (Cert.KernelIdeal.Gen.dats m 0 c).arrAt 8 Cert.KernelIdeal.cfg0.N i := by
  refine Eq.trans ?_ (dk_arr (operands (kernelArgs m hp c)) i hi).symm
  refine Eq.trans ?_ (congrArg _ (DK_eq _ _ _ _ _ _ _ _ _ hi).symm)
  exact (congrArg _ (eq_ix2 i)).trans (Cert.ReferenceIdeal.Mla.dk_ref (refArgs m hp c) (i 0) (i 1))

theorem dv (i : Cert.KernelIdeal.S4352x512.Idx) : Cert.ReferenceIdeal.Read.val_main_v80 (F := Ideal) (y0 m c) (y1 m c) (y2 m c) (y3 m c) (y5 m c) i
    = (Cert.KernelIdeal.Gen.dats m 0 c).arrAt 9 Cert.KernelIdeal.cfg0.N i := by
  refine Eq.trans ?_ (dv_arr (operands (kernelArgs m hp c)) i).symm
  refine Eq.trans ?_ (congrArg _ (DV_eq _ _ _ _ _ _ _ _).symm)
  exact (congrArg _ (eq_ix2 i)).trans (Cert.ReferenceIdeal.Mla.dv_ref (refArgs m hp c) (i 0) (i 1))
end

set_option maxHeartbeats 1000000 in
theorem algebraic : Cert.algebraic_KernelIdeal_ReferenceIdeal_on_used_lanes_pre_finite := by
  intro m g m' g' hp hagree
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N, ?_, ?_⟩
  · refine (θ_run Cert.KernelIdeal.defs _ _).mono (fun r h c => ?_) (Cert.KernelIdeal.Value.run_blocks (F := Ideal) m g)
    exact ⟨fun i _ => congrFun (h c).1 i, fun i _ => congrFun (h c).2.1 i, fun i _ => congrFun (h c).2.2.1 i, (h c).2.2.2⟩
  · refine (θ_run Cert.ReferenceIdeal.defs _ _).mono (fun r h c => ?_) (Cert.ReferenceIdeal.Value.run (F := Ideal) m' g')
    obtain ⟨e0, e1, e2, e3, e4, e5⟩ := hagree c
    refine ⟨fun i _ => ?_, fun i hi => ?_, fun i _ => ?_, (h c).2.2.2⟩
    · refine (congrFun ((h c).1.trans (Cert.ReferenceIdeal.Read.val_main_v69_eq m' c)) i).trans ?_
      rw [e0, e1, e2, e3, e4, e5]
      exact dq m hp c i
    · refine (congrFun ((h c).2.1.trans (Cert.ReferenceIdeal.Read.val_main_v75_eq m' c)) i).trans ?_
      rw [e0, e1, e2, e3, e4, e5]
      exact dk m hp c i (Inputs.lane_ne (x0 := y0 m c) (x1 := y1 m c) (x2 := y2 m c) (x3 := y3 m c) (x4 := y4 m c) (x5 := y5 m c) i hi)
    · refine (congrFun ((h c).2.2.1.trans (Cert.ReferenceIdeal.Read.val_main_v80_eq m' c)) i).trans ?_
      rw [e0, e1, e2, e3, e5]
      exact dv m hp c i

end Cert.Algebraic

end
-- ==== Proof.Frames.lean ====
/-
  The references' runs, their values dropped: they terminate, keep their arguments, and declare no semaphore.
-/
module

public import proofs.«01_k».proof.Defs
public import proofs.«01_k».proof.Proof.Gen.Reference
public import proofs.«01_k».proof.Proof.Gen.ReferenceIdeal.Run
public import proofs.«01_k».proof.Proof.Gen.InReference
public import proofs.«01_k».proof.Proof.Gen.InReferenceIdeal.Run
public import proofs.«01_k».proof.Proof.Gen.FwdReference
public import proofs.«01_k».proof.Proof.Gen.FwdReferenceIdeal.Run
public import proofs.«01_k».proof.Proof.Gen.OutReference
public import proofs.«01_k».proof.Proof.Gen.OutReferenceIdeal.Run
public import Idealize.ShloMosaic.Lib.Quiescent

@[expose] public section

noncomputable section

namespace Cert.Frames

open Idealize.ShloMosaic Idealize.SL.Sem

theorem referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem reference : Cert.quiescent_Reference := fun m ρ _ =>
  (θ_run Cert.ReferenceIdeal.defs _ _).mono (fun r h => ⟨fun c => (h c).2.2.2, sem_eq_zero_of_no_sems (by decide) r.2⟩)
    (Cert.ReferenceIdeal.Value.run (F := Bits) m ρ)

theorem inReferenceIdeal : Cert.quiescent_InReferenceIdeal := fun m ρ _ =>
  (θ_run Cert.InReferenceIdeal.defs _ _).mono (fun r h => ⟨fun c => (h c).2.2.2, sem_eq_zero_of_no_sems (by decide) r.2⟩)
    (Cert.InReferenceIdeal.Value.run (F := Ideal) m ρ)

theorem inReference : Cert.quiescent_InReference := fun m ρ _ =>
  (θ_run Cert.InReferenceIdeal.defs _ _).mono (fun r h => ⟨fun c => (h c).2.2.2, sem_eq_zero_of_no_sems (by decide) r.2⟩)
    (Cert.InReferenceIdeal.Value.run (F := Bits) m ρ)

theorem fwdReferenceIdeal : Cert.quiescent_FwdReferenceIdeal := fun m ρ _ =>
  (θ_run Cert.FwdReferenceIdeal.defs _ _).mono (fun r h => ⟨fun c => (h c).2.2, sem_eq_zero_of_no_sems (by decide) r.2⟩)
    (Cert.FwdReferenceIdeal.Value.run (F := Ideal) m ρ)

theorem fwdReference : Cert.quiescent_FwdReference := fun m ρ _ =>
  (θ_run Cert.FwdReferenceIdeal.defs _ _).mono (fun r h => ⟨fun c => (h c).2.2, sem_eq_zero_of_no_sems (by decide) r.2⟩)
    (Cert.FwdReferenceIdeal.Value.run (F := Bits) m ρ)

theorem outReferenceIdeal : Cert.quiescent_OutReferenceIdeal := fun m ρ _ =>
  (θ_run Cert.OutReferenceIdeal.defs _ _).mono (fun r h => ⟨fun c => (h c).2.2.2.2.2.2, sem_eq_zero_of_no_sems (by decide) r.2⟩)
    (Cert.OutReferenceIdeal.Value.run (F := Ideal) m ρ)

theorem outReference : Cert.quiescent_OutReference := fun m ρ _ =>
  (θ_run Cert.OutReferenceIdeal.defs _ _).mono (fun r h => ⟨fun c => (h c).2.2.2.2.2.2, sem_eq_zero_of_no_sems (by decide) r.2⟩)
    (Cert.OutReferenceIdeal.Value.run (F := Bits) m ρ)

end Cert.Frames

end
-- ==== Proof.InOuts.lean ====
/-
  What one grid point of `inproj_bwd` leaves in its three staging buffers, as terms over its input blocks: the gradient
  of a block of rows, and the two running sums with this block's part added.
-/
module

public import proofs.«01_k».proof.Proof.Gen.InKernelIdeal.Value
public import Idealize.ShloMosaic.Lib.Tactic

@[expose] public section

set_option maxRecDepth 16384

noncomputable section

namespace Cert.InKernelIdeal.Proj

open Cert.InKernelIdeal Cert.InKernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl

/-- The gradient of one block of rows. -/
def bodyO (x0 : Vec F S256x1024 .f32) (x1 : Vec F S1x1024 .f32) (x2 : Vec F S1024x2304 .bf16) (x3 : Vec F S256x512 .bf16)
    (x4 : Vec F S256x256 .bf16) (x5 : Vec F S256x1024 .bf16) (x6 : Vec F S256x512 .bf16) (x7 : Vec F S256x1024 .f32) : Vec F S256x1024 .f32 :=
  k0_pay3 (k0_pay6 x1) (k0_pay8 x0) (k0_pay9 x0) (k0_pay10 x3 x4 x5 x6) x2 x7

/-- The running sum of the weight's gradient with one block's part added. -/
def bodyW (x0 : Vec F S256x1024 .f32) (x1 : Vec F S1x1024 .f32) (x3 : Vec F S256x512 .bf16)
    (x4 : Vec F S256x256 .bf16) (x5 : Vec F S256x1024 .bf16) (x6 : Vec F S256x512 .bf16) (xo : Vec F S1024x2304 .f32) : Vec F S1024x2304 .f32 :=
  k0_pay11 x1 x0 x3 x4 x5 x6 xo

/-- The running sum of the gain's gradient with one block's part added. -/
def bodyG (x0 : Vec F S256x1024 .f32) (x2 : Vec F S1024x2304 .bf16) (x3 : Vec F S256x512 .bf16)
    (x4 : Vec F S256x256 .bf16) (x5 : Vec F S256x1024 .bf16) (x6 : Vec F S256x512 .bf16) (xo : Vec F S1x1024 .f32) : Vec F S1x1024 .f32 :=
  k0_pay2 (k0_pay9 x0) (k0_pay10 x3 x4 x5 x6) x2 xo

section
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x2304 .bf16) (harg3 : arg3.IsWhole) (arg4 : Memref sig .tc .vmem S256x512 .bf16) (harg4 : arg4.IsWhole) (arg5 : Memref sig .tc .vmem S256x256 .bf16) (harg5 : arg5.IsWhole) (arg6 : Memref sig .tc .vmem S256x1024 .bf16) (harg6 : arg6.IsWhole) (arg7 : Memref sig .tc .vmem S256x512 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1024x2304 .f32) (harg10 : arg10.IsWhole) (arg11 : Memref sig .tc .vmem S1x1024 .f32) (harg11 : arg11.IsWhole)
  (x0 : Vec F S256x1024 .f32) (x1 : Vec F S1x1024 .f32) (x2 : Vec F S1024x2304 .bf16) (x3 : Vec F S256x512 .bf16) (x4 : Vec F S256x256 .bf16) (x5 : Vec F S256x1024 .bf16) (x6 : Vec F S256x512 .bf16) (x7 : Vec F S256x1024 .f32) (xo9 : Vec F S1024x2304 .f32) (xo10 : Vec F S1x1024 .f32)

theorem out_B8 (hc : ¬cond0_0 i) : out0_B_8 c i arg1 harg1 arg2 harg2 arg3 harg3 arg4 harg4 arg5 harg5 arg6 harg6 arg7 harg7 arg8 harg8 arg9 harg9 arg10 harg10 arg11 harg11 hc x0 x1 x2 x3 x4 x5 x6 x7 xo9 xo10 = bodyO x0 x1 x2 x3 x4 x5 x6 x7 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc x0 x1 x2 x3 x4 x5 x6 x7 xo9 xo10)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, View.ld_unit_zero (S := S256x1024) hz2, View.ld_unit_zero (S := S1x1024) hz2, View.ld_unit_zero (S := S1024x2304) hz2, View.ld_unit_zero (S := S256x512) hz2, View.ld_unit_zero (S := S256x256) hz2]
  rfl

theorem out_B9 (hc : ¬cond0_0 i) : out0_B_9 c i arg1 harg1 arg2 harg2 arg3 harg3 arg4 harg4 arg5 harg5 arg6 harg6 arg7 harg7 arg8 harg8 arg9 harg9 arg10 harg10 arg11 harg11 hc x0 x1 x2 x3 x4 x5 x6 x7 xo9 xo10 = bodyW x0 x1 x3 x4 x5 x6 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc x0 x1 x2 x3 x4 x5 x6 x7 xo9 xo10)]
  unfold kernelRun0_B
  dsimp only
  sl_unfold_words
  rw [View.canon_unit_zero hz2]
  simp only [View.readAt_eq_ld, harg1.read_unread, harg2.read_unread, harg4.read_unread, harg5.read_unread, harg6.read_unread, harg7.read_unread, harg10.read_unread, View.ld_unit_zero (S := S256x1024) hz2, View.ld_unit_zero (S := S1x1024) hz2, View.ld_unit_zero (S := S1024x2304) hz2, View.ld_unit_zero (S := S256x512) hz2, View.ld_unit_zero (S := S256x256) hz2]
  rfl

theorem out_B10 (hc : ¬cond0_0 i) : out0_B_10 c i arg1 harg1 arg2 harg2 arg3 harg3 arg4 harg4 arg5 harg5 arg6 harg6 arg7 harg7 arg8 harg8 arg9 harg9 arg10 harg10 arg11 harg11 hc x0 x1 x2 x3 x4 x5 x6 x7 xo9 xo10 = bodyG x0 x2 x3 x4 x5 x6 xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc x0 x1 x2 x3 x4 x5 x6 x7 xo9 xo10)]
  unfold kernelRun0_B
  dsimp only
  sl_unfold_words
  rw [View.canon_unit_zero hz2]
  simp only [View.readAt_eq_ld, harg1.read_unread, harg3.read_unread, harg4.read_unread, harg5.read_unread, harg6.read_unread, harg7.read_unread, harg11.read_unread, View.ld_unit_zero (S := S256x1024) hz2, View.ld_unit_zero (S := S1x1024) hz2, View.ld_unit_zero (S := S1024x2304) hz2, View.ld_unit_zero (S := S256x512) hz2, View.ld_unit_zero (S := S256x256) hz2]
  rfl

theorem out_A8 (hc : cond0_0 i) : out0_A_8 c i arg1 harg1 arg2 harg2 arg3 harg3 arg4 harg4 arg5 harg5 arg6 harg6 arg7 harg7 arg8 harg8 arg9 harg9 arg10 harg10 arg11 harg11 hc x0 x1 x2 x3 x4 x5 x6 x7 = bodyO x0 x1 x2 x3 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc x0 x1 x2 x3 x4 x5 x6 x7)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, View.ld_unit_zero (S := S256x1024) hz2, View.ld_unit_zero (S := S1x1024) hz2, View.ld_unit_zero (S := S1024x2304) hz2, View.ld_unit_zero (S := S256x512) hz2, View.ld_unit_zero (S := S256x256) hz2]
  rfl

theorem out_A9 (hc : cond0_0 i) : out0_A_9 c i arg1 harg1 arg2 harg2 arg3 harg3 arg4 harg4 arg5 harg5 arg6 harg6 arg7 harg7 arg8 harg8 arg9 harg9 arg10 harg10 arg11 harg11 hc x0 x1 x2 x3 x4 x5 x6 x7 = bodyW x0 x1 x3 x4 x5 x6 k0_pay4 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc x0 x1 x2 x3 x4 x5 x6 x7)]
  unfold kernelRun0_A
  dsimp only
  sl_unfold_words
  rw [View.canon_cons_unit_zero (S := S1024x2304) hz2, View.readCov_unit_zero (S := S1024x2304) _ hz2]
  simp only [View.readAt_eq_ld, harg1.read_unread, harg2.read_unread, harg4.read_unread, harg5.read_unread, harg6.read_unread, harg7.read_unread, View.ld_unit_zero (S := S256x1024) hz2, View.ld_unit_zero (S := S1x1024) hz2, View.ld_unit_zero (S := S1024x2304) hz2, View.ld_unit_zero (S := S256x512) hz2, View.ld_unit_zero (S := S256x256) hz2]
  rfl

theorem out_A10 (hc : cond0_0 i) : out0_A_10 c i arg1 harg1 arg2 harg2 arg3 harg3 arg4 harg4 arg5 harg5 arg6 harg6 arg7 harg7 arg8 harg8 arg9 harg9 arg10 harg10 arg11 harg11 hc x0 x1 x2 x3 x4 x5 x6 x7 = bodyG x0 x2 x3 x4 x5 x6 k0_pay5 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc x0 x1 x2 x3 x4 x5 x6 x7)]
  unfold kernelRun0_A
  dsimp only
  sl_unfold_words
  rw [View.canon_cons_unit_zero (S := S1x1024) hz2, View.readCov_unit_zero (S := S1x1024) _ hz2]
  simp only [View.readAt_eq_ld, harg1.read_unread, harg3.read_unread, harg4.read_unread, harg5.read_unread, harg6.read_unread, harg7.read_unread, View.ld_unit_zero (S := S256x1024) hz2, View.ld_unit_zero (S := S1x1024) hz2, View.ld_unit_zero (S := S1024x2304) hz2, View.ld_unit_zero (S := S256x512) hz2, View.ld_unit_zero (S := S256x256) hz2]
  rfl
end

variable (m : (ℓ : Loc nD τ sig) → Buf (Elt F) ℓ)

/-- What point `t` leaves of the rows' gradients. -/
theorem outs_o (c : Dev nD) (t : Fin cfg0.N) : (outsAt0 m c t.val t.isLt).1 =
    bodyO (iblk m c 0 t) (iblk m c 1 t) (iblk m c 2 t) (iblk m c 3 t) (iblk m c 4 t) (iblk m c 5 t) (iblk m c 6 t) (iblk m c 7 t) := by
  by_cases h0 : t.val % 17 = 0
  · rw [outsAt0_A m c t h0]; dsimp only; rw [out_A8]
  · rw [outsAt0_B m c t h0]; dsimp only; rw [out_B8]

/-- The weight's running sum at the first point. -/
theorem outs_w_first (c : Dev nD) (t : Fin cfg0.N) (h0 : t.val % 17 = 0) : (outsAt0 m c t.val t.isLt).2.1 =
    bodyW (iblk m c 0 t) (iblk m c 1 t) (iblk m c 3 t) (iblk m c 4 t) (iblk m c 5 t) (iblk m c 6 t) k0_pay4 := by
  rw [outsAt0_A m c t h0]; dsimp only; rw [out_A9]

/-- The weight's running sum at a later point. -/
theorem outs_w_next (c : Dev nD) (t : Fin cfg0.N) (h0 : ¬t.val % 17 = 0) : (outsAt0 m c t.val t.isLt).2.1 =
    bodyW (iblk m c 0 t) (iblk m c 1 t) (iblk m c 3 t) (iblk m c 4 t) (iblk m c 5 t) (iblk m c 6 t)
      (outsAt0 m c (t.val - 1) (Nat.lt_of_le_of_lt (Nat.sub_le _ _) t.isLt)).2.1 := by
  rw [outsAt0_B m c t h0]; dsimp only; rw [out_B9]

/-- The gain's running sum at the first point. -/
theorem outs_g_first (c : Dev nD) (t : Fin cfg0.N) (h0 : t.val % 17 = 0) : (outsAt0 m c t.val t.isLt).2.2 =
    bodyG (iblk m c 0 t) (iblk m c 2 t) (iblk m c 3 t) (iblk m c 4 t) (iblk m c 5 t) (iblk m c 6 t) k0_pay5 := by
  rw [outsAt0_A m c t h0]; dsimp only; rw [out_A10]

/-- The gain's running sum at a later point. -/
theorem outs_g_next (c : Dev nD) (t : Fin cfg0.N) (h0 : ¬t.val % 17 = 0) : (outsAt0 m c t.val t.isLt).2.2 =
    bodyG (iblk m c 0 t) (iblk m c 2 t) (iblk m c 3 t) (iblk m c 4 t) (iblk m c 5 t) (iblk m c 6 t)
      (outsAt0 m c (t.val - 1) (Nat.lt_of_le_of_lt (Nat.sub_le _ _) t.isLt)).2.2 := by
  rw [outsAt0_B m c t h0]; dsimp only; rw [out_B10]

end Cert.InKernelIdeal.Proj

end
-- ==== Proof.InNorm.lean ====
/-
  The root-mean-square norm and the projection behind it over the extended reals: the quantities of one row, and the
  sums over the padded rows and columns of the call.
-/
module

public import proofs.«01_k».proof.Proof.MlaMath
public import proofs.«01_k».proof.Proof.MlaReal
public import Idealize.ShloMosaic.Lib.Pipeline.ValueKit

@[expose] public section

set_option maxRecDepth 16384

noncomputable section

namespace Cert.Proj

open Idealize.ShloMosaic Cert.KernelIdeal.Mla

/-- The number that the norm adds to the mean of the squares. -/
def eps : ℝ := 8796093 / 8796093022208

section
variable (a p D g : ℕ → EReal) (w : ℕ → ℕ → EReal) (u : ℕ → EReal)

/-- The mean of a row's squares and `eps`. -/
def ms : EReal := (∑ d : Fin 1024, a d * a d) * ((1 / 1024 : ℝ) : EReal) + ((eps : ℝ) : EReal)

/-- The row's factor. -/
def rs : EReal := Ideal.rsqrt (ms a)

/-- The row after the norm, before its gain. -/
def xh (d : ℕ) : EReal := a d * rs a

/-- The gradient of the row after the norm: `n` columns of the projection, their gradients `p`. -/
def du (n d : ℕ) : EReal := ∑ c : Fin n, p c * w d c

/-- The gradient of the row: `D` reaches it past the norm, `u` through it. -/
def gO (d : ℕ) : EReal :=
  D d + rs a * (u d * g d - xh a d * ((∑ e : Fin 1024, u e * g e * xh a e) * ((1 / 1024 : ℝ) : EReal)))
end

/-! ### The row's factor

A row of real numbers has a positive real factor. A row with an infinite entry has the factor 0. -/

theorem ms_real (α : ℕ → ℝ) : ∃ M : ℝ, 0 < M ∧ ms (fun d => ((α d : ℝ) : EReal)) = ((M : ℝ) : EReal) := by
  refine ⟨(∑ d : Fin 1024, α d * α d) * (1 / 1024) + eps, ?_, ?_⟩
  · have h : 0 ≤ ∑ d : Fin 1024, α d * α d := Finset.sum_nonneg fun d _ => mul_self_nonneg _
    have e : 0 < eps := by unfold eps; norm_num
    linarith [mul_nonneg h (by norm_num : (0 : ℝ) ≤ 1 / 1024)]
  · simp only [ms, ← EReal.coe_mul, ← coe_sum, ← EReal.coe_add]

theorem ms_congr {a b : ℕ → EReal} (h : ∀ d : Fin 1024, a d = b d) : ms a = ms b := by
  simp only [ms, h]

theorem sq_nonneg (x : EReal) : 0 ≤ x * x := by
  rcases le_total 0 x with h | h
  · exact mul_nonneg h h
  · rw [← neg_mul_neg]
    exact mul_nonneg (EReal.neg_nonneg.mpr h) (EReal.neg_nonneg.mpr h)

theorem ms_top {a : ℕ → EReal} {d : Fin 1024} (h : a d = ⊤ ∨ a d = ⊥) : ms a = ⊤ := by
  have e : (⊤ : EReal) ≤ ∑ d : Fin 1024, a d * a d := by
    refine le_trans (le_of_eq ?_) (Finset.single_le_sum (f := fun d : Fin 1024 => a d * a d) (fun d _ => sq_nonneg _) (Finset.mem_univ d))
    rcases h with h | h <;> simp [h]
  rw [ms, top_le_iff.mp e, EReal.top_mul_coe_of_pos (by norm_num), EReal.top_add_coe]

/-- A positive real factor goes into a sum, infinite terms or not. -/
theorem sum_mul_pos {ι : Type} (s : Finset ι) (f : ι → EReal) {r : ℝ} (h : 0 ≤ r) :
    (∑ i ∈ s, f i) * ((r : ℝ) : EReal) = ∑ i ∈ s, f i * ((r : ℝ) : EReal) := by
  classical
  induction s using Finset.induction_on with
  | empty => simp
  | insert a s ha ih =>
    rw [Finset.sum_insert ha, Finset.sum_insert ha, EReal.right_distrib_of_nonneg_of_ne_top (EReal.coe_nonneg.mpr h) (EReal.coe_ne_top _), ih]

theorem twice (x : EReal) (k : ℝ) : x * ((k : ℝ) : EReal) + x * ((k : ℝ) : EReal) = x * ((k + k : ℝ) : EReal) := by
  rcases le_total 0 k with h | h
  · rw [EReal.coe_add, EReal.left_distrib_of_nonneg (EReal.coe_nonneg.mpr h) (EReal.coe_nonneg.mpr h)]
  · have e := EReal.left_distrib_of_nonneg (c := -x) (EReal.coe_nonneg.mpr (neg_nonneg.mpr h)) (EReal.coe_nonneg.mpr (neg_nonneg.mpr h))
    rw [← EReal.coe_add, ← neg_add, EReal.coe_neg, EReal.coe_neg, neg_mul_neg, neg_mul_neg] at e
    exact e.symm

theorem pull3 (T : EReal) (r h n : ℝ) : -(((r : ℝ) : EReal) * (((h : ℝ) : EReal) * ((r : ℝ) : EReal) * (T * ((r : ℝ) : EReal) * ((n : ℝ) : EReal))))
    = T * ((-(r * (h * r * (r * n))) : ℝ) : EReal) := by
  rw [EReal.coe_neg, mul_neg]
  simp only [EReal.coe_mul]
  congr 1
  ac_rfl

theorem pull1 (T : EReal) (h k : ℝ) : ((h : ℝ) : EReal) * (T * ((k : ℝ) : EReal)) = T * ((h * k : ℝ) : EReal) := by
  rw [EReal.coe_mul]
  exact mul_left_comm _ _ _

/-- The row's gradient as the derivative of the norm's lines one by one. -/
theorem gO_lines (a D g u : ℕ → EReal) (d : Fin 1024) (c : EReal)
    (hc : c = Ideal.div ((∑ e : Fin 1024, a e * (u e * g e)) * (((-(1 / 2) : ℝ) : EReal) * Ideal.div (rs a) (ms a))) ((1024 : ℝ) : EReal)) :
    D d + u d * g d * rs a + a d * c + c * a d = gO a D g u d := by
  rw [Ideal.div_coe (by norm_num)] at hc
  by_cases hf : ∃ e : Fin 1024, a e = ⊤ ∨ a e = ⊥
  · obtain ⟨e, he⟩ := hf
    have h := ms_top he
    have hr : rs a = 0 := by rw [rs, h, Ideal.rsqrt_top]
    have h0 : c = 0 := by rw [hc, hr, h]; simp [Ideal.div]
    rw [gO, h0, hr]
    simp
  · have hα : ∀ e : Fin 1024, a e = (((a e).toReal : ℝ) : EReal) := fun e =>
      (EReal.coe_toReal (fun h => hf ⟨e, Or.inl h⟩) (fun h => hf ⟨e, Or.inr h⟩)).symm
    obtain ⟨M, hM, hm⟩ := ms_real fun e => (a e).toReal
    have hm : ms a = ((M : ℝ) : EReal) := (ms_congr hα).trans hm
    have hr : rs a = (((√M)⁻¹ : ℝ) : EReal) := by
      rw [rs, hm, Ideal.rsqrt_coe, if_neg (not_lt.mpr hM.le), if_neg hM.ne']
    have hq : (√M)⁻¹ * (√M)⁻¹ = M⁻¹ := by rw [← mul_inv, Real.mul_self_sqrt hM.le]
    have h0 : 0 ≤ (√M)⁻¹ := inv_nonneg.mpr (Real.sqrt_nonneg M)
    generalize (√M)⁻¹ = ρ at hr hq h0
    have hs : ∑ e : Fin 1024, u e * g e * xh a e = (∑ e : Fin 1024, a e * (u e * g e)) * ((ρ : ℝ) : EReal) := by
      rw [sum_mul_pos _ _ h0]
      refine Finset.sum_congr rfl fun e _ => ?_
      rw [xh, hr, ← mul_assoc, mul_comm (u e * g e)]
    rw [gO, hs, xh, hr, EReal.mul_sub_of_nonneg_of_ne_top (EReal.coe_nonneg.mpr h0) (EReal.coe_ne_top _), sub_eq_add_neg]
    generalize ∑ e : Fin 1024, a e * (u e * g e) = T at hc
    rw [hm, hr, Ideal.div_coe hM.ne', ← EReal.coe_mul, ← EReal.coe_mul, mul_assoc, ← EReal.coe_mul] at hc
    rw [hα d, hc, add_assoc, add_assoc]
    generalize (a d).toReal = η
    rw [mul_comm (T * _) ((η : ℝ) : EReal), pull1, pull3, twice, mul_comm (u d * g d)]
    congr 4
    rw [one_div M, ← hq]
    ring

theorem gO_zero (g u : ℕ → EReal) (d : ℕ) (a D : ℕ → EReal) (ha : a d = 0) (hD : D d = 0) (hu : u d = 0) : gO a D g u d = 0 := by
  rw [gO, xh, ha, hD, hu]
  simp

/-! ### Columns -/

/-- Whether a column of the call is a column of the projection: the other 96 hold zeros. -/
def used (c : ℕ) : Prop := ¬ (2176 ≤ c ∧ c < 2240) ∧ c < 2272

instance (c : ℕ) : Decidable (used c) := inferInstanceAs (Decidable (_ ∧ _))

/-- The column of the projection at a column of 512 of eight heads with the two groups of four interleaved. -/
def inter (c : ℕ) : ℕ := (c / 64 % 2 * 4 + c / 128) * 64 + c % 64

/-- The column of the projection at a column of the call. -/
def col (c : ℕ) : ℕ :=
  if c < 512 then inter c else if c < 768 then c else if c < 1280 then 768 + inter (c - 768) else
  if c < 1792 then 1696 + (c - 1280) else if c < 2048 then 1280 + (c - 1792) else if c < 2176 then 1536 + (c - 2048) else
  1664 + (c - 2240)

/-- Where a column of eight heads stands when the two groups are interleaved. -/
def back (e : ℕ) : ℕ := (e / 64 % 4 * 2 + e / 256) * 64 + e % 64

/-- The column of the call at a column of the projection. -/
def pos (e : ℕ) : ℕ :=
  if e < 512 then back e else if e < 768 then e else if e < 1280 then 768 + back (e - 768) else
  if e < 1536 then 1792 + (e - 1280) else if e < 1664 then 2048 + (e - 1536) else if e < 1696 then 2240 + (e - 1664) else
  1280 + (e - 1696)

theorem col_ok : ∀ c : Fin 2304, used c → col c < 2208 ∧ pos (col c) = c := by decide +kernel
theorem pos_ok : ∀ e : Fin 2208, pos e < 2304 ∧ used (pos e) ∧ col (pos e) = e := by decide +kernel

/-- A function of the projection's columns at the call's columns. -/
def atP (f : ℕ → EReal) (c : ℕ) : EReal := if used c then f (col c) else 0

theorem atP_mul (f g : ℕ → EReal) (c : ℕ) : atP f c * atP g c = atP (fun e => f e * g e) c := by
  unfold atP
  split_ifs <;> simp

/-- A sum over the call's columns is the sum over the projection's. -/
theorem sum_cols (f : ℕ → EReal) : ∑ c : Fin 2304, atP f c = ∑ e : Fin 2208, f e := by
  unfold atP
  rw [← Finset.sum_filter]
  refine Finset.sum_bij' (fun c hc => (⟨col c, (col_ok c (Finset.mem_filter.mp hc).2).1⟩ : Fin 2208))
    (fun e _ => (⟨pos e, (pos_ok e).1⟩ : Fin 2304)) ?_ ?_ ?_ ?_ ?_
  · exact fun c hc => Finset.mem_univ _
  · exact fun e _ => Finset.mem_filter.mpr ⟨Finset.mem_univ _, (pos_ok e).2.1⟩
  · exact fun c hc => Fin.ext (col_ok c (Finset.mem_filter.mp hc).2).2
  · exact fun e _ => Fin.ext (pos_ok e).2.2
  · exact fun c hc => rfl

theorem du_atP (p : ℕ → EReal) (w : ℕ → ℕ → EReal) (d : ℕ) : du (atP p) (fun d => atP (w d)) 2304 d = du p w 2208 d := by
  unfold du
  simp only [atP_mul]
  exact sum_cols fun e => p e * w d e

/-! ### Rows -/

/-- An array by sequence and token at a padded row of the call. -/
def atR (t : ℕ → ℕ → ℕ → EReal) (R d : ℕ) : EReal := if pad (R % 2176) then 0 else t (R / 2176) (orig (R % 2176)) d

/-- A sum over the call's rows is the sum over the tokens. -/
theorem sum_all (f : ℕ → EReal) (g : ℕ → ℕ → EReal) (h0 : ∀ R, pad (R % 2176) → f R = 0)
    (h1 : ∀ R, ¬ pad (R % 2176) → f R = g (R / 2176) (orig (R % 2176))) :
    ∑ R : Fin 4352, f R = ∑ b : Fin 2, ∑ x : Fin 2064, g b x := by
  rw [Fin.sum_univ_eq_sum_range f 4352, show 4352 = 2 * 2176 from rfl, Finset.sum_range_mul_split, Finset.sum_range]
  refine Finset.sum_congr rfl fun b _ => ?_
  rw [Finset.sum_range, ← sum_rows (fun x => if pad x then 0 else g b (orig x)) (g b) (fun x hx => if_pos hx) (fun x hx => if_neg hx)]
  refine Finset.sum_congr rfl fun x _ => ?_
  have hx := x.isLt
  have e1 : (b.val * 2176 + x.val) % 2176 = x.val := by omega
  have e2 : (b.val * 2176 + x.val) / 2176 = b.val := by omega
  by_cases hp : pad x.val
  · rw [if_pos hp]
    exact h0 _ (by rwa [e1])
  · rw [if_neg hp, h1 _ (by rwa [e1]), e1, e2]

end Cert.Proj

end
-- ==== Proof.InBlock.lean ====
/-
  One grid point's parts of `inproj_bwd` at an index.
-/
module

public import proofs.«01_k».proof.Proof.InOuts
public import proofs.«01_k».proof.Proof.InNorm
public import Idealize.ShloMosaic.Lib.Pointwise

@[expose] public section

set_option maxRecDepth 16384

noncomputable section

namespace Cert.Proj

open Idealize.ShloMosaic

theorem mean_lit : Ideal.ofBits FTy.f32 0x3A800000#32 = ((1 / 1024 : ℝ) : EReal) := by
  simp [Ideal.ofBits, Ideal.ieee, -EReal.coe_mul]; norm_num

theorem eps_lit : Ideal.ofBits FTy.f32 0x358637BD#32 = ((eps : ℝ) : EReal) := by
  unfold eps
  simp [Ideal.ofBits, Ideal.ieee, -EReal.coe_mul]; norm_num

end Cert.Proj

namespace Cert.InKernelIdeal.Proj

open Cert.InKernelIdeal Cert.InKernelIdeal.Gen Idealize.ShloMosaic Idealize.ShloMosaic.TcCoe Idealize.SL.Sem Cert.Proj

theorem sumE {n : ℕ} {f g : Fin n → EReal} (h : ∀ i, f i = g i) : ∑ i, f i = ∑ i, g i := Finset.sum_congr rfl fun i _ => h i

theorem addE {a b x y : EReal} (ha : a = x) (hb : b = y) : a + b = x + y := by rw [ha, hb]

theorem subE {a b x y : EReal} (ha : a = x) (hb : b = y) : a - b = x - y := by rw [ha, hb]

theorem mulE {a b x y : EReal} (ha : a = x) (hb : b = y) : a * b = x * y := by rw [ha, hb]

section
variable {a p D : ℕ → ℕ → EReal} {g : ℕ → EReal} {w : ℕ → ℕ → EReal} {r0 : ℕ}
variable {x0 : Vec Ideal S256x1024 .f32} {x1 : Vec Ideal S1x1024 .f32} {x2 : Vec Ideal S1024x2304 .bf16} {x3 : Vec Ideal S256x512 .bf16}
    {x4 : Vec Ideal S256x256 .bf16} {x5 : Vec Ideal S256x1024 .bf16} {x6 : Vec Ideal S256x512 .bf16} {x7 : Vec Ideal S256x1024 .f32}

/-- A block's factors. -/
theorem pay8_apply (hx0 : ∀ (r : Fin 256) (d : Fin 1024), x0 (ix2 r d) = a (r0 + r.val) d.val) (r : Fin 256) :
    k0_pay8 x0 (ix2 r 0) = rs (a (r0 + r.val)) := by
  pointwise [k0_pay8, k0_pay7]
  rw [sumE fun d => mulE (hx0 r d) (hx0 r d), mean_lit, eps_lit]
  rfl

/-- A block's rows after the norm. -/
theorem pay9_apply (hx0 : ∀ (r : Fin 256) (d : Fin 1024), x0 (ix2 r d) = a (r0 + r.val) d.val) (r : Fin 256) (d : Fin 1024) :
    k0_pay9 x0 (ix2 r d) = xh (a (r0 + r.val)) d.val := by
  pointwise [k0_pay9, k0_pay7]
  exact mulE (hx0 r d) (pay8_apply hx0 r)

section
variable (hx3 : ∀ (r : Fin 256) (l : Fin 512), x3 (ix2 r l) = p (r0 + r.val) l.val)
  (hx4 : ∀ (r : Fin 256) (l : Fin 256), x4 (ix2 r l) = p (r0 + r.val) (512 + l.val))
  (hx5 : ∀ (r : Fin 256) (l : Fin 1024), x5 (ix2 r l) = p (r0 + r.val) (768 + l.val))
  (hx6 : ∀ (r : Fin 256) (l : Fin 512), x6 (ix2 r l) = p (r0 + r.val) (1792 + l.val))
include hx3 hx4 hx5 hx6

/-- A block's gradients of the projection, the four pieces joined. -/
theorem pay10_apply (r : Fin 256) (l : Fin 2304) : k0_pay10 x3 x4 x5 x6 (ix2 r l) = p (r0 + r.val) l.val := by
  pointwise [k0_pay10]
  by_cases h1 : l.val < 512
  · simp only [dif_pos h1]
    exact hx3 _ _
  · simp only [dif_neg h1]
    by_cases h2 : l.val - 512 < 256
    · simp only [dif_pos h2]
      refine (hx4 _ _).trans ?_
      dsimp only
      rw [show 512 + (l.val - 512) = l.val by omega]
    · simp only [dif_neg h2]
      by_cases h3 : l.val - 512 - 256 < 1024
      · simp only [dif_pos h3]
        refine (hx5 _ _).trans ?_
        dsimp only
        rw [show 768 + (l.val - 512 - 256) = l.val by omega]
      · simp only [dif_neg h3]
        refine (hx6 _ _).trans ?_
        dsimp only
        rw [show 1792 + (l.val - 512 - 256 - 1024) = l.val by omega]

variable (hx2 : ∀ (d : Fin 1024) (l : Fin 2304), x2 (ix2 d l) = w d.val l.val)
include hx2

/-- A block's gradients of the rows after the norm. -/
theorem pay1_apply (r : Fin 256) (d : Fin 1024) : k0_pay1 (k0_pay10 x3 x4 x5 x6) x2 (ix2 r d) = du (p (r0 + r.val)) w 2304 d.val := by
  pointwise [k0_pay1]
  exact sumE fun l => mulE (pay10_apply hx3 hx4 hx5 hx6 r l) (hx2 d l)

variable (hx0 : ∀ (r : Fin 256) (d : Fin 1024), x0 (ix2 r d) = a (r0 + r.val) d.val)
include hx0

theorem bodyG_apply (xo : Vec Ideal S1x1024 .f32) (d : Fin 1024) : bodyG x0 x2 x3 x4 x5 x6 xo (ix2 0 d) = xo (ix2 0 d) +
    (∑ r : Fin 256, du (p (r0 + r.val)) w 2304 d.val * xh (a (r0 + r.val)) d.val) := by
  pointwise [bodyG, k0_pay2]
  exact congrArg _ (sumE fun r => mulE (pay1_apply hx3 hx4 hx5 hx6 hx2 r d) (pay9_apply hx0 r d))

variable (hx1 : ∀ d : Fin 1024, x1 (ix2 0 d) = g d.val)
include hx1
omit hx2 in
theorem bodyW_apply (xo : Vec Ideal S1024x2304 .f32) (d : Fin 1024) (l : Fin 2304) : bodyW x0 x1 x3 x4 x5 x6 xo (ix2 d l) = xo (ix2 d l) +
    (∑ r : Fin 256, xh (a (r0 + r.val)) d.val * g d.val * p (r0 + r.val) l.val) := by
  pointwise [bodyW, k0_pay11, k0_pay6]
  exact congrArg _ (sumE fun r => mulE (mulE (pay9_apply hx0 r d) (hx1 d)) (pay10_apply hx3 hx4 hx5 hx6 r l))

variable (hx7 : ∀ (r : Fin 256) (d : Fin 1024), x7 (ix2 r d) = D (r0 + r.val) d.val)
include hx7

theorem bodyO_apply (r : Fin 256) (d : Fin 1024) : bodyO x0 x1 x2 x3 x4 x5 x6 x7 (ix2 r d) =
    gO (a (r0 + r.val)) (D (r0 + r.val)) g (du (p (r0 + r.val)) w 2304) d.val := by
  pointwise [bodyO, k0_pay3, k0_pay6]
  rw [mean_lit]
  exact addE (hx7 r d) (mulE (pay8_apply hx0 r) (subE (mulE (pay1_apply hx3 hx4 hx5 hx6 hx2 r d) (hx1 d))
    (mulE (pay9_apply hx0 r d) (mulE (sumE fun e => mulE (mulE (pay1_apply hx3 hx4 hx5 hx6 hx2 r e) (hx1 e)) (pay9_apply hx0 r e)) rfl))))
end

theorem zeroW (i : S1024x2304.Idx) : (k0_pay4 : FVec Ideal S1024x2304 .f32) i = 0 := by
  pointwise [k0_pay4]

theorem zeroG (i : S1x1024.Idx) : (k0_pay5 : FVec Ideal S1x1024 .f32) i = 0 := by
  pointwise [k0_pay5]
end
end Cert.InKernelIdeal.Proj

end
-- ==== Proof.InArrays.lean ====
/-
  The three result arrays of `inproj_bwd` at an index, from its eight operands at an index.
-/
module

public import proofs.«01_k».proof.Proof.InBlock
public import Idealize.ShloMosaic.Lib.Pipeline.ValueKit

@[expose] public section

set_option maxRecDepth 16384

noncomputable section

namespace Cert.InKernelIdeal.Proj

open Cert.InKernelIdeal Cert.InKernelIdeal.Gen Idealize.ShloMosaic Idealize.ShloMosaic.TcCoe Idealize.SL.Sem Cert.Proj
open Idealize.ShloMosaic.Pipeline (Dat)

/-- Which block of each operand a grid point reads: the block of rows `t`, and the gain and the weight whole. -/
theorem idx : ∀ t : Fin cfg0.N,
    (win0_0.index t = ![t.val, 0] ∧ win0_1.index t = ![0, 0] ∧ win0_2.index t = ![0, 0] ∧ win0_3.index t = ![t.val, 0] ∧
    win0_4.index t = ![t.val, 0] ∧ win0_5.index t = ![t.val, 0]) ∧
    (win0_6.index t = ![t.val, 0] ∧ win0_7.index t = ![t.val, 0] ∧ win0_8.index t = ![t.val, 0] ∧ win0_9.index t = ![0, 0] ∧
    win0_10.index t = ![0, 0]) := by
  decide +kernel

theorem lt17 (t : Fin cfg0.N) : t.val < 17 := lt_of_lt_of_eq t.isLt N_0

theorem blk0 (c : Dev nD) (A : Buf (Elt Ideal) ((c : Thread nD τ).loc main_v38)) (t : Fin cfg0.N) (r : Fin 256) (l : Fin 1024) :
    ((cfg0.win 0).blk t).view.read (Elt Ideal) A (ix2 r l) = A (ix2 ⟨t.val * 256 + r.val, by have := lt17 t; omega⟩ l) := by
  have hr := r.isLt
  blk_ext [idx t]

theorem blk1 (c : Dev nD) (A : Buf (Elt Ideal) ((c : Thread nD τ).loc main_v39)) (t : Fin cfg0.N) (l : Fin 1024) :
    ((cfg0.win 1).blk t).view.read (Elt Ideal) A (ix2 0 l) = A (ix2 0 l) := by
  blk_ext [idx t]

theorem blk2 (c : Dev nD) (A : Buf (Elt Ideal) ((c : Thread nD τ).loc main_v68)) (t : Fin cfg0.N) (d : Fin 1024) (l : Fin 2304) :
    ((cfg0.win 2).blk t).view.read (Elt Ideal) A (ix2 d l) = A (ix2 d l) := by
  blk_ext [idx t]

theorem blk3 (c : Dev nD) (A : Buf (Elt Ideal) ((c : Thread nD τ).loc main_v69)) (t : Fin cfg0.N) (r : Fin 256) (l : Fin 512) :
    ((cfg0.win 3).blk t).view.read (Elt Ideal) A (ix2 r l) = A (ix2 ⟨t.val * 256 + r.val, by have := lt17 t; omega⟩ l) := by
  have hr := r.isLt
  blk_ext [idx t]

theorem blk4 (c : Dev nD) (A : Buf (Elt Ideal) ((c : Thread nD τ).loc main_v70)) (t : Fin cfg0.N) (r : Fin 256) (l : Fin 256) :
    ((cfg0.win 4).blk t).view.read (Elt Ideal) A (ix2 r l) = A (ix2 ⟨t.val * 256 + r.val, by have := lt17 t; omega⟩ l) := by
  have hr := r.isLt
  blk_ext [idx t]

theorem blk5 (c : Dev nD) (A : Buf (Elt Ideal) ((c : Thread nD τ).loc main_v71)) (t : Fin cfg0.N) (r : Fin 256) (l : Fin 1024) :
    ((cfg0.win 5).blk t).view.read (Elt Ideal) A (ix2 r l) = A (ix2 ⟨t.val * 256 + r.val, by have := lt17 t; omega⟩ l) := by
  have hr := r.isLt
  blk_ext [idx t]

theorem blk6 (c : Dev nD) (A : Buf (Elt Ideal) ((c : Thread nD τ).loc main_v72)) (t : Fin cfg0.N) (r : Fin 256) (l : Fin 512) :
    ((cfg0.win 6).blk t).view.read (Elt Ideal) A (ix2 r l) = A (ix2 ⟨t.val * 256 + r.val, by have := lt17 t; omega⟩ l) := by
  have hr := r.isLt
  blk_ext [idx t]

theorem blk7 (c : Dev nD) (A : Buf (Elt Ideal) ((c : Thread nD τ).loc main_v77)) (t : Fin cfg0.N) (r : Fin 256) (l : Fin 1024) :
    ((cfg0.win 7).blk t).view.read (Elt Ideal) A (ix2 r l) = A (ix2 ⟨t.val * 256 + r.val, by have := lt17 t; omega⟩ l) := by
  have hr := r.isLt
  blk_ext [idx t]

section
variable (m : (ℓ : Loc nD τ sig) → Buf (Elt Ideal) ℓ) (c : Dev nD)
variable (a p D : ℕ → ℕ → EReal) (g : ℕ → EReal) (w : ℕ → ℕ → EReal)

/-- The call's operands, read by padded row and column. -/
structure Operands : Prop where
  hh : ∀ (R : Fin 4352) (d : Fin 1024), V m c main_v38 (ix2 R d) = a R.val d.val
  hg : ∀ d : Fin 1024, V m c main_v39 (ix2 0 d) = g d.val
  hw : ∀ (d : Fin 1024) (l : Fin 2304), V m c main_v68 (ix2 d l) = w d.val l.val
  hp0 : ∀ (R : Fin 4352) (l : Fin 512), V m c main_v69 (ix2 R l) = p R.val l.val
  hp1 : ∀ (R : Fin 4352) (l : Fin 256), V m c main_v70 (ix2 R l) = p R.val (512 + l.val)
  hp2 : ∀ (R : Fin 4352) (l : Fin 1024), V m c main_v71 (ix2 R l) = p R.val (768 + l.val)
  hp3 : ∀ (R : Fin 4352) (l : Fin 512), V m c main_v72 (ix2 R l) = p R.val (1792 + l.val)
  hD : ∀ (R : Fin 4352) (d : Fin 1024), V m c main_v77 (ix2 R d) = D R.val d.val

variable {m c a p D g w}
variable (H : Operands m c a p D g w)
include H

theorem iblk0 (t : Fin cfg0.N) (r : Fin 256) (l : Fin 1024) : iblk m c 0 t (ix2 r l) = a (t.val * 256 + r.val) l.val := by
  unfold iblk
  exact (blk0 c (V m c main_v38) t r l).trans (H.hh _ _)

theorem iblk1 (t : Fin cfg0.N) (l : Fin 1024) : iblk m c 1 t (ix2 0 l) = g l.val := by
  unfold iblk
  exact (blk1 c (V m c main_v39) t l).trans (H.hg _)

theorem iblk2 (t : Fin cfg0.N) (d : Fin 1024) (l : Fin 2304) : iblk m c 2 t (ix2 d l) = w d.val l.val := by
  unfold iblk
  exact (blk2 c (V m c main_v68) t d l).trans (H.hw _ _)

theorem iblk3 (t : Fin cfg0.N) (r : Fin 256) (l : Fin 512) : iblk m c 3 t (ix2 r l) = p (t.val * 256 + r.val) l.val := by
  unfold iblk
  exact (blk3 c (V m c main_v69) t r l).trans (H.hp0 _ _)

theorem iblk4 (t : Fin cfg0.N) (r : Fin 256) (l : Fin 256) : iblk m c 4 t (ix2 r l) = p (t.val * 256 + r.val) (512 + l.val) := by
  unfold iblk
  exact (blk4 c (V m c main_v70) t r l).trans (H.hp1 _ _)

theorem iblk5 (t : Fin cfg0.N) (r : Fin 256) (l : Fin 1024) : iblk m c 5 t (ix2 r l) = p (t.val * 256 + r.val) (768 + l.val) := by
  unfold iblk
  exact (blk5 c (V m c main_v71) t r l).trans (H.hp2 _ _)

theorem iblk6 (t : Fin cfg0.N) (r : Fin 256) (l : Fin 512) : iblk m c 6 t (ix2 r l) = p (t.val * 256 + r.val) (1792 + l.val) := by
  unfold iblk
  exact (blk6 c (V m c main_v72) t r l).trans (H.hp3 _ _)

theorem iblk7 (t : Fin cfg0.N) (r : Fin 256) (l : Fin 1024) : iblk m c 7 t (ix2 r l) = D (t.val * 256 + r.val) l.val := by
  unfold iblk
  exact (blk7 c (V m c main_v77) t r l).trans (H.hD _ _)

/-- The part of point `t` in the weight's gradient. -/
def termW (t : Fin cfg0.N) (j : S1024x2304.Idx) : EReal :=
  ∑ r : Fin 256, xh (a (t.val * 256 + r.val)) (j 0).val * g (j 0).val * p (t.val * 256 + r.val) (j 1).val

/-- The part of point `t` in the gain's gradient. -/
def termG (t : Fin cfg0.N) (j : S1x1024.Idx) : EReal :=
  ∑ r : Fin 256, du (p (t.val * 256 + r.val)) w 2304 (j 1).val * xh (a (t.val * 256 + r.val)) (j 1).val

theorem stepW (t : Fin cfg0.N) (xo : Vec Ideal S1024x2304 .f32) (j : S1024x2304.Idx) :
    bodyW (iblk m c 0 t) (iblk m c 1 t) (iblk m c 3 t) (iblk m c 4 t) (iblk m c 5 t) (iblk m c 6 t) xo j =
      xo j + termW (a := a) (p := p) (g := g) t j := by
  idx_vars j
  exact bodyW_apply (iblk3 H t) (iblk4 H t) (iblk5 H t) (iblk6 H t) (iblk0 H t) (iblk1 H t) xo _ _

theorem stepG (t : Fin cfg0.N) (xo : Vec Ideal S1x1024 .f32) (j : S1x1024.Idx) :
    bodyG (iblk m c 0 t) (iblk m c 2 t) (iblk m c 3 t) (iblk m c 4 t) (iblk m c 5 t) (iblk m c 6 t) xo j =
      xo j + termG (a := a) (p := p) (w := w) t j := by
  have h0 : j 0 = (0 : Fin 1) := Fin.ext (Nat.lt_one_iff.mp (j 0).isLt)
  rw [eq_ix2 j, h0]
  exact bodyG_apply (iblk3 H t) (iblk4 H t) (iblk5 H t) (iblk6 H t) (iblk2 H t) (iblk0 H t) xo _

theorem lastW (t : Fin cfg0.N) (hr : t.val % 17 = 16) (j : S1024x2304.Idx) :
    (outsAt0 m c t.val t.isLt).2.1 j = (0 : EReal) + ∑ s : Fin 17, termW (a := a) (p := p) (g := g)
      ⟨17 * (t.val / 17) + s.val, Pipeline.run_point_lt_of_flush t hr s⟩ j :=
  Pipeline.eq_sum_fin_of_reset_step_apply_of_flush
    (f := fun n h (j : S1024x2304.Idx) => ((outsAt0 m c n h).2.1 j : EReal)) 17 (fun _ => (0 : EReal))
    (termW (a := a) (p := p) (g := g))
    (fun t h j => by
      show (outsAt0 m c t.val t.isLt).2.1 j = _
      rw [outs_w_first m c t h, stepW H, zeroW])
    (fun t h j => by
      show (outsAt0 m c t.val t.isLt).2.1 j = _
      rw [outs_w_next m c t h, stepW H]) t hr j

theorem lastG (t : Fin cfg0.N) (hr : t.val % 17 = 16) (j : S1x1024.Idx) :
    (outsAt0 m c t.val t.isLt).2.2 j = (0 : EReal) + ∑ s : Fin 17, termG (a := a) (p := p) (w := w)
      ⟨17 * (t.val / 17) + s.val, Pipeline.run_point_lt_of_flush t hr s⟩ j :=
  Pipeline.eq_sum_fin_of_reset_step_apply_of_flush
    (f := fun n h (j : S1x1024.Idx) => ((outsAt0 m c n h).2.2 j : EReal)) 17 (fun _ => (0 : EReal))
    (termG (a := a) (p := p) (w := w))
    (fun t h j => by
      show (outsAt0 m c t.val t.isLt).2.2 j = _
      rw [outs_g_first m c t h, stepG H, zeroG])
    (fun t h j => by
      show (outsAt0 m c t.val t.isLt).2.2 j = _
      rw [outs_g_next m c t h, stepG H]) t hr j

omit H in
/-- A sum over seventeen blocks of 256 rows is a sum over the rows. -/
theorem sum_blocks (f : ℕ → EReal) : (∑ s : Fin 17, ∑ r : Fin 256, f (s.val * 256 + r.val)) = ∑ x : Fin 4352, f x.val := by
  rw [Fin.sum_univ_eq_sum_range (fun x => f x) 4352, show 4352 = 17 * 256 from rfl, Finset.sum_range_mul_split]
  rw [Finset.sum_range]
  refine Finset.sum_congr rfl fun s _ => ?_
  rw [Finset.sum_range]

/-- The rows' gradients. -/
theorem o_arr (j : S4352x1024.Idx) : (dats m 0 c).arrAt 8 cfg0.N j =
    gO (a (j 0).val) (D (j 0).val) g (du (p (j 0).val) w 2304) (j 1).val := by
  refine (dats m 0 c).arrAt_forall_of_covers 8 (fun j z => z = gO (a (j 0).val) (D (j 0).val) g (du (p (j 0).val) w 2304) (j 1).val)
    (by decide +kernel) (fun t hf i => ?_) j
  have ht := lt17 t
  have h0 : (i 0).val < 256 := (i 0).isLt
  have h1 : (i 1).val < 1024 := (i 1).isLt
  blk_simp [idx t]
  rw [after0_8, ← ix2_eta i, outs_o]
  exact bodyO_apply (iblk3 H t) (iblk4 H t) (iblk5 H t) (iblk6 H t) (iblk2 H t) (iblk0 H t) (iblk1 H t) (iblk7 H t) (i 0) (i 1)

/-- The weight's gradient. -/
theorem w_arr (j : S1024x2304.Idx) : (dats m 0 c).arrAt 9 cfg0.N j =
    ∑ R : Fin 4352, xh (a R) (j 0).val * g (j 0).val * p R (j 1).val := by
  refine (dats m 0 c).arrAt_forall_of_covers 9 (fun j z => z = ∑ R : Fin 4352, xh (a R) (j 0).val * g (j 0).val * p R (j 1).val)
    (by decide +kernel) (fun t hf i => ?_) j
  have ht := lt17 t
  have hm := (flush0_9 t).mp hf
  have h0 : (i 0).val < 1024 := (i 0).isLt
  have h1 : (i 1).val < 2304 := (i 1).isLt
  blk_simp [idx t]
  rw [after0_9]
  refine (lastW H t hm i).trans ?_
  rw [zero_add, ← sum_blocks (fun R => xh (a R) (i 0).val * g (i 0).val * p R (i 1).val)]
  refine Finset.sum_congr rfl fun s _ => ?_
  have hs := s.isLt
  unfold termW
  dsimp only
  rw [show 17 * (t.val / 17) + s.val = s.val by omega]

/-- The gain's gradient. -/
theorem g_arr (j : S1x1024.Idx) : (dats m 0 c).arrAt 10 cfg0.N j =
    ∑ R : Fin 4352, du (p R) w 2304 (j 1).val * xh (a R) (j 1).val := by
  refine (dats m 0 c).arrAt_forall_of_covers 10 (fun j z => z = ∑ R : Fin 4352, du (p R) w 2304 (j 1).val * xh (a R) (j 1).val)
    (by decide +kernel) (fun t hf i => ?_) j
  have ht := lt17 t
  have hm := (flush0_10 t).mp hf
  have h1 : (i 1).val < 1024 := (i 1).isLt
  blk_simp [idx t]
  rw [after0_10]
  refine (lastG H t hm i).trans ?_
  rw [zero_add, ← sum_blocks (fun R => du (p R) w 2304 (i 1).val * xh (a R) (i 1).val)]
  refine Finset.sum_congr rfl fun s _ => ?_
  have hs := s.isLt
  unfold termG
  dsimp only
  rw [show 17 * (t.val / 17) + s.val = s.val by omega]
end
end Cert.InKernelIdeal.Proj

end
-- ==== Proof.InPrefix.lean ====
/-
  The operands of `inproj_bwd` from the arguments: the host's lines before the launch, read at an index.
-/
module

public import proofs.«01_k».proof.Proof.InArrays
public import proofs.«01_k».proof.Proof.MlaSoft
public import Idealize.ShloMosaic.Lib.Pointwise
public import Idealize.ShloMosaic.Lib.StableHlo.ReadAt

@[expose] public section

set_option maxRecDepth 16384

noncomputable section

namespace Cert.Proj

open Cert.KernelIdeal.Mla (pad orig orig_lo orig_hi)

theorem dite_eq {P : Prop} [Decidable P] {α : Type} {t : P → α} {e : ¬ P → α} {x : α} (h1 : ∀ h, t h = x) (h2 : ∀ h, e h = x) : dite P t e = x := by
  by_cases h : P
  · rw [dif_pos h]; exact h1 h
  · rw [dif_neg h]; exact h2 h

theorem atR_lo (t : ℕ → ℕ → ℕ → EReal) {R d : ℕ} (h : R % 2176 < 16) : t (R / 2176) (R % 2176) d = atR t R d := by
  rw [atR, if_neg (by unfold pad; omega), orig_lo h]

theorem atR_pad (t : ℕ → ℕ → ℕ → EReal) {R d : ℕ} (h1 : ¬ R % 2176 < 16) (h2 : R % 2176 - 16 < 112) : atR t R d = 0 := by
  rw [atR, if_pos (by unfold pad; omega)]

theorem atR_hi (t : ℕ → ℕ → ℕ → EReal) {R d : ℕ} (h1 : ¬ R % 2176 < 16) (h2 : ¬ R % 2176 - 16 < 112) :
    t (R / 2176) (16 + (R % 2176 - 16 - 112)) d = atR t R d := by
  rw [atR, if_neg (by unfold pad; omega), orig_hi h1, show 16 + (R % 2176 - 16 - 112) = R % 2176 - 112 by omega]

theorem atP_eq (f : ℕ → EReal) {c e : ℕ} (hu : used c) (he : col c = e) : f e = atP f c := by
  rw [atP, if_pos hu, he]

theorem atP_heads (f : ℕ → EReal) {c e : ℕ} (h : c < 512) (he : e = c) : f (inter e) = atP f c :=
  atP_eq f (by unfold used; omega) (by rw [col, if_pos h, he])

theorem atP_gate (f : ℕ → EReal) {c e : ℕ} (h : c < 1280) (he : e + 768 = c) : f (768 + inter e) = atP f c :=
  atP_eq f (by unfold used; omega) (by
    rw [col, if_neg (by omega), if_neg (by omega), if_pos h, show c - 768 = e by omega])

theorem atP_slice (f : ℕ → EReal) {c e : ℕ} (h : 512 ≤ c ∧ c < 768 ∧ e = c ∨ 1280 ≤ c ∧ c < 1792 ∧ e = 1696 + (c - 1280)
    ∨ 1792 ≤ c ∧ c < 2048 ∧ e = 1280 + (c - 1792) ∨ 2048 ≤ c ∧ c < 2176 ∧ e = 1536 + (c - 2048)
    ∨ 2240 ≤ c ∧ c < 2272 ∧ e = 1664 + (c - 2240)) : f e = atP f c :=
  atP_eq f (by unfold used; omega) (by unfold col; split_ifs <;> omega)

theorem atP_zero (f : ℕ → EReal) {c : ℕ} (hu : ¬ used c) : atP f c = 0 := if_neg hu

end Cert.Proj

namespace Cert.InKernelIdeal.Proj

open Cert.InKernelIdeal Cert.InKernelIdeal.Gen Idealize.ShloMosaic Idealize.ShloMosaic.TcCoe Idealize.SL.Sem Cert.Proj
open Idealize.ShloMosaic.StableHlo

variable (m : (ℓ : Loc nD τ sig) → Buf (Elt Ideal) ℓ) (c : Dev nD)

/-- The buffers after the projection's gradients by padded row. -/
def W0 : Valuation τ sig (Elt Ideal) := after (hostOps0.take 6) (fun b => m (c, b))

/-- The buffers after the heads of the projection's gradients. -/
def W1 : Valuation τ sig (Elt Ideal) := after ((hostOps0.take 27).drop 6) (W0 m c)

/-- The buffers after the columns of the projection's gradients. -/
def W2 : Valuation τ sig (Elt Ideal) := after ((hostOps0.take 37).drop 27) (W1 m c)

/-- The buffers after the heads of the weight. -/
def W3 : Valuation τ sig (Elt Ideal) := after ((hostOps0.take 65).drop 37) (W2 m c)

theorem V_eq (r) : V m c r = after (hostOps0.drop 37) (W2 m c) (Proc.tc.devRef r) := by
  have h : (hostOps0 (F := Ideal)) = hostOps0.take 6 ++ (hostOps0.take 27).drop 6 ++ (hostOps0.take 37).drop 27 ++ hostOps0.drop 37 := rfl
  unfold V
  rw [h, after_append, after_append, after_append]
  rfl

theorem V_eq' (r) : V m c r = after (hostOps0.drop 65) (W3 m c) (Proc.tc.devRef r) := by
  have h : (hostOps0 (F := Ideal)).drop 37 = (hostOps0.take 65).drop 37 ++ hostOps0.drop 65 := rfl
  rw [V_eq, h, after_append]
  rfl

/-- The arguments, read by sequence, token and column. -/
structure Args (t q D : ℕ → ℕ → ℕ → EReal) (g : ℕ → EReal) (w : ℕ → ℕ → EReal) : Prop where
  a0 : ∀ (b : Fin 2) (x : Fin 2064) (d : Fin 1024), m (c, Proc.tc.devRef main_arg0) (ix3 b x d) = t b.val x.val d.val
  a1 : ∀ d : Fin 1024, m (c, Proc.tc.devRef main_arg1) (ix1 d) = g d.val
  a2 : ∀ (d : Fin 1024) (e : Fin 2208), m (c, Proc.tc.devRef main_arg2) (ix2 d e) = w d.val e.val
  a3 : ∀ (b : Fin 2) (x : Fin 2064) (e : Fin 2208), m (c, Proc.tc.devRef main_arg3) (ix3 b x e) = q b.val x.val e.val
  a4 : ∀ (b : Fin 2) (x : Fin 2064) (d : Fin 1024), m (c, Proc.tc.devRef main_arg4) (ix3 b x d) = D b.val x.val d.val

theorem W1_v4 : W1 m c (Proc.tc.devRef main_v4) = W0 m c (Proc.tc.devRef main_v4) := by unfold W1; after_reads_simp
theorem W2_arg0 : W2 m c (Proc.tc.devRef main_arg0) = m (c, Proc.tc.devRef main_arg0) := by unfold W2 W1 W0; after_reads_simp
theorem W2_arg1 : W2 m c (Proc.tc.devRef main_arg1) = m (c, Proc.tc.devRef main_arg1) := by unfold W2 W1 W0; after_reads_simp
theorem W2_arg2 : W2 m c (Proc.tc.devRef main_arg2) = m (c, Proc.tc.devRef main_arg2) := by unfold W2 W1 W0; after_reads_simp
theorem W2_arg4 : W2 m c (Proc.tc.devRef main_arg4) = m (c, Proc.tc.devRef main_arg4) := by unfold W2 W1 W0; after_reads_simp
theorem W3_arg2 : W3 m c (Proc.tc.devRef main_arg2) = m (c, Proc.tc.devRef main_arg2) := by unfold W3 W2 W1 W0; after_reads_simp

section
variable {m c}
variable {t q D : ℕ → ℕ → ℕ → EReal} {g : ℕ → EReal} {w : ℕ → ℕ → EReal} (A : Args m c t q D g w)
include A

theorem q_at (R : Fin 4352) (e : Fin 2208) : W0 m c (Proc.tc.devRef main_v4) (ix2 R e) = atR q R e := by
  unfold W0
  after_reads_at
  refine dite_eq (fun h1 => ?_) (fun h1 => dite_eq (fun h2 => ?_) (fun h2 => ?_))
  · after_reads_at
    exact (A.a3 _ _ _).trans (atR_lo q h1)
  · after_reads_at
    exact (atR_pad q h1 h2).symm
  · after_reads_at
    exact (A.a3 _ _ _).trans (atR_hi q h1 h2)

theorem q1_at (R : Fin 4352) (e : Fin 2208) : W1 m c (Proc.tc.devRef main_v4) (ix2 R e) = atR q R e :=
  (congrFun (W1_v4 m c) _).trans (q_at A R e)

theorem qa_at (R : Fin 4352) (l : Fin 512) : W1 m c (Proc.tc.devRef main_v14) (ix2 R l) = atR q R (inter l) := by
  have hl := l.isLt
  unfold W1
  after_reads_at
  iterate 7
    refine dite_eq (fun h => ?_) (fun h => ?_)
    · after_reads_at
      exact (q_at A _ _).trans (congrArg (fun e : ℕ => atR q R e) (by unfold inter; dsimp only; omega))
  after_reads_at
  exact (q_at A _ _).trans (congrArg (fun e : ℕ => atR q R e) (by unfold inter; dsimp only; omega))

theorem qm_at (R : Fin 4352) (l : Fin 256) : W1 m c (Proc.tc.devRef main_v15) (ix2 R l) = atR q R (512 + l) := by
  unfold W1
  after_reads_at
  exact q_at A _ _

theorem qg_at (R : Fin 4352) (l : Fin 512) : W1 m c (Proc.tc.devRef main_v25) (ix2 R l) = atR q R (768 + inter l) := by
  have hl := l.isLt
  unfold W1
  after_reads_at
  iterate 7
    refine dite_eq (fun h => ?_) (fun h => ?_)
    · after_reads_at
      exact (q_at A _ _).trans (congrArg (fun e : ℕ => atR q R e) (by unfold inter; dsimp only; omega))
  after_reads_at
  exact (q_at A _ _).trans (congrArg (fun e : ℕ => atR q R e) (by unfold inter; dsimp only; omega))

set_option maxHeartbeats 2000000 in
theorem p_at (R : Fin 4352) (l : Fin 2304) : W2 m c (Proc.tc.devRef main_v33) (ix2 R l) = atP (atR q R) l := by
  have hl := l.isLt
  unfold W2
  after_reads_at
  refine dite_eq (fun h1 => ?_) (fun h1 => dite_eq (fun h2 => ?_) (fun h2 => dite_eq (fun h3 => ?_) (fun h3 => ?_)))
  · after_reads_at
    exact (qa_at A _ _).trans (atP_heads _ h1 rfl)
  · after_reads_at
    exact (qm_at A _ _).trans (atP_slice _ (c := l.val) (by dsimp only; omega))
  · after_reads_at
    exact (qg_at A _ _).trans (atP_gate _ (c := l.val) (by omega) (by dsimp only; omega))
  · iterate 3
      refine dite_eq (fun h => ?_) (fun h => ?_)
      · after_reads_at
        exact (q1_at A _ _).trans (atP_slice _ (c := l.val) (by dsimp only; omega))
    refine dite_eq (fun h4 => ?_) (fun h4 => dite_eq (fun h5 => ?_) (fun h5 => ?_))
    · after_reads_at
      exact (atP_zero _ (c := l.val) (by unfold used; omega)).symm
    · after_reads_at
      exact (q1_at A _ _).trans (atP_slice _ (c := l.val) (by dsimp only; omega))
    · after_reads_at
      exact (atP_zero _ (c := l.val) (by unfold used; omega)).symm

theorem wa_at (d : Fin 1024) (l : Fin 512) : W3 m c (Proc.tc.devRef main_v49) (ix2 d l) = w d (inter l) := by
  have hl := l.isLt
  unfold W3
  after_reads_at
  iterate 7
    refine dite_eq (fun h => ?_) (fun h => ?_)
    · after_reads_at
      exact ((congrFun (W2_arg2 m c) _).trans (A.a2 _ _)).trans (congrArg (fun e : ℕ => w d e) (by unfold inter; dsimp only; omega))
  after_reads_at
  exact ((congrFun (W2_arg2 m c) _).trans (A.a2 _ _)).trans (congrArg (fun e : ℕ => w d e) (by unfold inter; dsimp only; omega))

theorem wm_at (d : Fin 1024) (l : Fin 256) : W3 m c (Proc.tc.devRef main_v50) (ix2 d l) = w d (512 + l) := by
  unfold W3
  after_reads_at
  exact (congrFun (W2_arg2 m c) _).trans (A.a2 _ _)

theorem wg_at (d : Fin 1024) (l : Fin 512) : W3 m c (Proc.tc.devRef main_v60) (ix2 d l) = w d (768 + inter l) := by
  have hl := l.isLt
  unfold W3
  after_reads_at
  iterate 7
    refine dite_eq (fun h => ?_) (fun h => ?_)
    · after_reads_at
      exact ((congrFun (W2_arg2 m c) _).trans (A.a2 _ _)).trans (congrArg (fun e : ℕ => w d e) (by unfold inter; dsimp only; omega))
  after_reads_at
  exact ((congrFun (W2_arg2 m c) _).trans (A.a2 _ _)).trans (congrArg (fun e : ℕ => w d e) (by unfold inter; dsimp only; omega))

set_option maxHeartbeats 2000000 in
theorem w_at (d : Fin 1024) (l : Fin 2304) : V m c main_v68 (ix2 d l) = atP (w d) l := by
  have hl := l.isLt
  rw [V_eq']
  after_reads_at
  refine dite_eq (fun h1 => ?_) (fun h1 => dite_eq (fun h2 => ?_) (fun h2 => dite_eq (fun h3 => ?_) (fun h3 => ?_)))
  · after_reads_at
    exact (wa_at A _ _).trans (atP_heads _ h1 rfl)
  · after_reads_at
    exact (wm_at A _ _).trans (atP_slice _ (c := l.val) (by dsimp only; omega))
  · after_reads_at
    exact (wg_at A _ _).trans (atP_gate _ (c := l.val) (by omega) (by dsimp only; omega))
  · iterate 3
      refine dite_eq (fun h => ?_) (fun h => ?_)
      · after_reads_at
        exact ((congrFun (W3_arg2 m c) _).trans (A.a2 _ _)).trans (atP_slice _ (c := l.val) (by dsimp only; omega))
    refine dite_eq (fun h4 => ?_) (fun h4 => dite_eq (fun h5 => ?_) (fun h5 => ?_))
    · after_reads_at
      exact (atP_zero _ (c := l.val) (by unfold used; omega)).symm
    · after_reads_at
      exact ((congrFun (W3_arg2 m c) _).trans (A.a2 _ _)).trans (atP_slice _ (c := l.val) (by dsimp only; omega))
    · after_reads_at
      exact (atP_zero _ (c := l.val) (by unfold used; omega)).symm

theorem h_at (R : Fin 4352) (d : Fin 1024) : V m c main_v38 (ix2 R d) = atR t R d := by
  rw [V_eq]
  after_reads_at
  refine dite_eq (fun h1 => ?_) (fun h1 => dite_eq (fun h2 => ?_) (fun h2 => ?_))
  · after_reads_at
    exact ((congrFun (W2_arg0 m c) _).trans (A.a0 _ _ _)).trans (atR_lo t h1)
  · after_reads_at
    exact (atR_pad t h1 h2).symm
  · after_reads_at
    exact ((congrFun (W2_arg0 m c) _).trans (A.a0 _ _ _)).trans (atR_hi t h1 h2)

theorem d_at (R : Fin 4352) (d : Fin 1024) : V m c main_v77 (ix2 R d) = atR D R d := by
  rw [V_eq]
  after_reads_at
  refine dite_eq (fun h1 => ?_) (fun h1 => dite_eq (fun h2 => ?_) (fun h2 => ?_))
  · after_reads_at
    exact ((congrFun (W2_arg4 m c) _).trans (A.a4 _ _ _)).trans (atR_lo D h1)
  · after_reads_at
    exact (atR_pad D h1 h2).symm
  · after_reads_at
    exact ((congrFun (W2_arg4 m c) _).trans (A.a4 _ _ _)).trans (atR_hi D h1 h2)

/-- The call's operands. -/
theorem operands : Operands m c (atR t) (fun R => atP (atR q R)) (atR D) g (fun d => atP (w d)) where
  hh := h_at A
  hg := fun d => by
    rw [V_eq]
    after_reads_at
    exact (congrFun (W2_arg1 m c) _).trans (A.a1 _)
  hw := w_at A
  hp0 := fun R l => by
    rw [V_eq]
    after_reads_at
    exact p_at A _ _
  hp1 := fun R l => by
    rw [V_eq]
    after_reads_at
    exact p_at A _ _
  hp2 := fun R l => by
    rw [V_eq]
    after_reads_at
    exact p_at A _ _
  hp3 := fun R l => by
    rw [V_eq]
    after_reads_at
    exact p_at A _ _
  hD := d_at A
end
end Cert.InKernelIdeal.Proj

end
-- ==== Proof.InRef.lean ====
/-
  The three results of `projection_bwd` at an index.
-/
module

public import proofs.«01_k».proof.Proof.InBlock
public import proofs.«01_k».proof.Proof.InPrefix
public import proofs.«01_k».proof.Proof.MlaSoft
public import proofs.«01_k».proof.Proof.Gen.InReferenceIdeal.Read
public import Idealize.ShloMosaic.Lib.Pointwise
public import Idealize.ShloMosaic.Lib.TwoAxisContraction

@[expose] public section

set_option maxRecDepth 16384

noncomputable section

namespace Cert.InReferenceIdeal.Proj

open Cert.InReferenceIdeal Cert.InReferenceIdeal.Gen Cert.InReferenceIdeal.Read Idealize.ShloMosaic Cert.Proj
open Cert.InKernelIdeal.Proj (sumE addE subE mulE)

theorem n_lit : Ideal.ofBits FTy.f32 0x44800000#32 = ((1024 : ℝ) : EReal) := by
  simp [Ideal.ofBits, Ideal.ieee, -EReal.coe_mul]; norm_num

theorem half_lit : Ideal.ofBits FTy.f32 0xBF000000#32 = ((-(1 / 2) : ℝ) : EReal) := by
  simp [Ideal.ofBits, Ideal.ieee, -EReal.coe_mul]; norm_num

/-- The source indices over an index of the last axis, the first two axes dropped. -/
theorem fiber01 {n0 n1 n2 : ℕ} {t : Shape} (h : (⟨3, ![n0, n1, n2]⟩ : Shape).ReducesTo [0, 1] t) (h0 : 0 < t.rank)
    (hs : t.size ⟨0, h0⟩ = n2) (hr : t.rank = 1) (j : t.Idx) (i : (⟨3, ![n0, n1, n2]⟩ : Shape).Idx) :
    h.drop i = j ↔ ∃ k : Fin n0 × Fin n1, ix3 k.1 k.2 ⟨(j ⟨0, h0⟩).val, Shape.coordLt (j ⟨0, h0⟩) hs⟩ = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, h0⟩)).symm
  · rintro ⟨k, rfl⟩
    funext b
    apply Fin.ext
    match b with
    | ⟨0, _⟩ => rfl
    | ⟨_ + 1, hb⟩ => exact absurd hb (by omega)

/-- A sum over the first two axes, read at an index of the last. -/
theorem sum01 {n0 n1 n2 : ℕ} {t : Shape} (h : (⟨3, ![n0, n1, n2]⟩ : Shape).ReducesTo [0, 1] t) (h0 : 0 < t.rank)
    (hs : t.size ⟨0, h0⟩ = n2) (hr : t.rank = 1) (v : (⟨3, ![n0, n1, n2]⟩ : Shape).Idx → EReal) (init : EReal) (j : t.Idx) :
    Ideal.hostReduceAdd h v init j
      = init + ∑ b : Fin n0, ∑ x : Fin n1, v (ix3 b x ⟨(j ⟨0, h0⟩).val, Shape.coordLt (j ⟨0, h0⟩) hs⟩) := by
  refine congrArg (init + ·) ((Finset.sum_filter_eq_sum_of_fiber _
    (fun k : Fin n0 × Fin n1 => ix3 k.1 k.2 ⟨(j ⟨0, h0⟩).val, Shape.coordLt (j ⟨0, h0⟩) hs⟩)
    (fun _ _ e => Prod.ext (congrFun e 0) (congrFun e 1)) (fiber01 h h0 hs hr j) v).trans ?_)
  simp only [Fintype.sum_prod_type]

/-- The arguments, read by sequence, token and column. -/
structure Args (x0 : FVec Ideal S2x2064x1024 .f32) (x1 : FVec Ideal S1024 .f32) (x2 : FVec Ideal S1024x2208 .f32)
    (x3 : FVec Ideal S2x2064x2208 .f32) (x4 : FVec Ideal S2x2064x1024 .f32)
    (t q D : ℕ → ℕ → ℕ → EReal) (g : ℕ → EReal) (w : ℕ → ℕ → EReal) : Prop where
  a0 : ∀ (b : Fin 2) (x : Fin 2064) (d : Fin 1024), x0 (ix3 b x d) = t b.val x.val d.val
  a1 : ∀ d : Fin 1024, x1 (ix1 d) = g d.val
  a2 : ∀ (d : Fin 1024) (e : Fin 2208), x2 (ix2 d e) = w d.val e.val
  a3 : ∀ (b : Fin 2) (x : Fin 2064) (e : Fin 2208), x3 (ix3 b x e) = q b.val x.val e.val
  a4 : ∀ (b : Fin 2) (x : Fin 2064) (d : Fin 1024), x4 (ix3 b x d) = D b.val x.val d.val

variable {x0 : FVec Ideal S2x2064x1024 .f32} {x1 : FVec Ideal S1024 .f32} {x2 : FVec Ideal S1024x2208 .f32}
    {x3 : FVec Ideal S2x2064x2208 .f32} {x4 : FVec Ideal S2x2064x1024 .f32}
    {t q D : ℕ → ℕ → ℕ → EReal} {g : ℕ → EReal} {w : ℕ → ℕ → EReal} (A : Args x0 x1 x2 x3 x4 t q D g w)
include A

theorem ms_at (b : Fin 2) (x : Fin 2064) : val_main_v6 (F := Ideal) x0 (ix3 b x 0) = ms (t b x) := by
  pointwise [val_main_v6, val_main_v5, val_main_v4, val_main_v3, val_main_v2, val_main_v1, val_main_v0, val_main_cst, val_main_cst_0, val_main_cst_1]
  rw [sumE fun d : Fin 1024 => mulE (A.a0 b x d) (A.a0 b x d), n_lit, eps_lit, Ideal.div_coe (by norm_num), ms]

theorem rs_at (b : Fin 2) (x : Fin 2064) : val_main_v7 (F := Ideal) x0 (ix3 b x 0) = rs (t b x) :=
  congrArg Ideal.rsqrt (ms_at A b x)

theorem xh_at (b : Fin 2) (x : Fin 2064) (d : Fin 1024) : val_main_v12 (F := Ideal) x0 (ix3 b x d) = xh (t b x) d := by
  pointwise [val_main_v12, val_main_v11]
  exact mulE (A.a0 b x d) (rs_at A b x)

theorem u_at (b : Fin 2) (x : Fin 2064) (d : Fin 1024) : val_main_v19 (F := Ideal) x2 x3 (ix3 b x d) = du (q b x) w 2208 d := by
  pointwise [val_main_v19]
  exact sumE fun e : Fin 2208 => mulE (A.a3 b x e) (A.a2 d e)

theorem ug_at (b : Fin 2) (x : Fin 2064) (d : Fin 1024) :
    val_main_v24 (F := Ideal) x1 x2 x3 (ix3 b x d) = du (q b x) w 2208 d * g d := by
  pointwise [val_main_v24, val_main_v23, val_main_v13]
  exact mulE (u_at A b x d) (A.a1 d)

theorem xg_at (b : Fin 2) (x : Fin 2064) (d : Fin 1024) : val_main_v15 (F := Ideal) x0 x1 (ix3 b x d) = xh (t b x) d * g d := by
  pointwise [val_main_v15, val_main_v14, val_main_v13]
  exact mulE (xh_at A b x d) (A.a1 d)

theorem row_at (b : Fin 2) (x : Fin 2064) : val_main_v28 (F := Ideal) x0 x1 x2 x3 (ix3 b x 0)
    = ∑ d : Fin 1024, t b x d * (du (q b x) w 2208 d * g d) := by
  pointwise [val_main_v28, val_main_v27, val_main_v26, val_main_cst_5]
  exact sumE fun d : Fin 1024 => mulE (A.a0 b x d) (ug_at A b x d)

theorem half_at (b : Fin 2) (x : Fin 2064) : val_main_v10 (F := Ideal) x0 (ix3 b x 0)
    = ((-(1 / 2) : ℝ) : EReal) * Ideal.div (rs (t b x)) (ms (t b x)) := by
  pointwise [val_main_v10, val_main_v9, val_main_v8, val_main_cst_2]
  rw [rs_at A, ms_at A, half_lit]

theorem corr_at (b : Fin 2) (x : Fin 2064) (d : Fin 1024) : val_main_v36 (F := Ideal) x0 x1 x2 x3 (ix3 b x d)
    = Ideal.div ((∑ e : Fin 1024, t b x e * (du (q b x) w 2208 e * g e))
      * (((-(1 / 2) : ℝ) : EReal) * Ideal.div (rs (t b x)) (ms (t b x)))) ((1024 : ℝ) : EReal) := by
  pointwise [val_main_v36, val_main_v35, val_main_v34, val_main_v33, val_main_v32, val_main_cst_6, val_main_cst_7]
  simp only [Finset.univ_unique, Finset.sum_singleton, Fin.default_eq_zero]
  rw [mulE (row_at A b x) (half_at A b x), n_lit]

theorem grad_at (b : Fin 2) (x : Fin 2064) (d : Fin 1024) : val_main_v40 (F := Ideal) x0 x1 x2 x3 x4 (ix3 b x d)
    = gO (t b x) (D b x) g (du (q b x) w 2208) d := by
  pointwise [val_main_v40, val_main_v39, val_main_v38, val_main_v37, val_main_v31, val_main_v30, val_main_v29]
  refine (addE (addE (addE (A.a4 b x d) (mulE (ug_at A b x d) (rs_at A b x))) (mulE (A.a0 b x d) (corr_at A b x d)))
    (mulE (corr_at A b x d) (A.a0 b x d))).trans (gO_lines (t b x) (D b x) g (du (q b x) w 2208) d _ rfl)

/-- The gradient of the layer's input, by padded row. -/
theorem o_ref (R : Fin 4352) (d : Fin 1024) : val_main_v45 (F := Ideal) x0 x1 x2 x3 x4 (ix2 R d)
    = atR (fun b x d => gO (t b x) (D b x) g (du (q b x) w 2208) d) R d := by
  pointwise [val_main_v45, val_main_v44]
  refine dite_eq (fun h1 => ?_) (fun h1 => dite_eq (fun h2 => ?_) (fun h2 => ?_))
  · pointwise [val_main_v42]
    exact (grad_at A _ _ _).trans (atR_lo (fun b x d => gO (t b x) (D b x) g (du (q b x) w 2208) d) h1)
  · pointwise [val_main_v41, val_main_cst_8]
    exact (atR_pad _ h1 h2).symm
  · pointwise [val_main_v43]
    exact (grad_at A _ _ _).trans (atR_hi (fun b x d => gO (t b x) (D b x) g (du (q b x) w 2208) d) h1 h2)

/-- The gradient of the norm's gain. -/
theorem g_ref (d : Fin 1024) : val_main_v62 (F := Ideal) x0 x2 x3 (ix2 0 d)
    = ∑ b : Fin 2, ∑ x : Fin 2064, xh (t b x) d * du (q b x) w 2208 d := by
  pointwise [val_main_v62, val_main_v25]
  simp only [sum01 reducesTo_S1x1x1024_S1024_d0_1 (by decide) rfl rfl]
  pointwise [val_main_v22, val_main_v21, val_main_cst_4]
  simp only [Finset.univ_unique, Finset.sum_singleton, Fin.default_eq_zero]
  simp only [sum01 reducesTo_S2x2064x1024_S1024_d0_1 (by decide) rfl rfl]
  pointwise [val_main_v20, val_main_cst_3]
  exact sumE fun b : Fin 2 => sumE fun x : Fin 2064 => mulE (xh_at A b x d) (u_at A b x d)

/-- The gradient of the projection's weight, by column of the projection. -/
theorem wcol_at (d : Fin 1024) (e : Fin 2208) : val_main_v18 (F := Ideal) x0 x1 x3 (ix2 d e)
    = ∑ b : Fin 2, ∑ x : Fin 2064, q b x e * (xh (t b x) d * g d) := by
  pointwise [val_main_v18]
  unfold val_main_v17
  simp only [Host.dotGeneral]
  rw [Ideal.dotGeneral_apply, ValueIdx.sum_contr2 _ 2 2064 rfl rfl rfl]
  refine sumE fun b : Fin 2 => sumE fun x : Fin 2064 => ?_
  have h0 := ValueIdx.contrEquiv2_symm_val0 dot_S2x2064x2208_S2x2064x1024_S2208x1024_01_01_2_2_n_n 2 2064 rfl rfl rfl (b, x)
  have h1 := ValueIdx.contrEquiv2_symm_val1 dot_S2x2064x2208_S2x2064x1024_S2208x1024_01_01_2_2_n_n 2 2064 rfl rfl rfl (b, x)
  have el : dot_S2x2064x2208_S2x2064x1024_S2208x1024_01_01_2_2_n_n.lhsIdx (ix2 e d)
      ((ValueIdx.contrEquiv2 dot_S2x2064x2208_S2x2064x1024_S2208x1024_01_01_2_2_n_n 2 2064 rfl rfl rfl).symm (b, x)) = ix3 b x e := by
    funext a; apply Fin.ext
    match a with
    | ⟨0, _⟩ => exact h0
    | ⟨1, _⟩ => exact h1
    | ⟨2, _⟩ => rfl
  have er : dot_S2x2064x2208_S2x2064x1024_S2208x1024_01_01_2_2_n_n.rhsIdx (ix2 e d)
      ((ValueIdx.contrEquiv2 dot_S2x2064x2208_S2x2064x1024_S2208x1024_01_01_2_2_n_n 2 2064 rfl rfl rfl).symm (b, x)) = ix3 b x d := by
    funext a; apply Fin.ext
    match a with
    | ⟨0, _⟩ => exact h0
    | ⟨1, _⟩ => exact h1
    | ⟨2, _⟩ => rfl
  rw [el, er]
  exact mulE (A.a3 b x e) (xg_at A b x d)

omit A in
theorem cols_at (f : ℕ → EReal) (d : Fin 1024) (key : ∀ e : Fin 2208, val_main_v18 (F := Ideal) x0 x1 x3 (ix2 d e) = f e)
    (l : Fin 2304) : val_main_v61 (F := Ideal) x0 x1 x3 (ix2 d l) = atP f l := by
  have hl := l.isLt
  pointwise [val_main_v61]
  refine dite_eq (fun h1 => ?_) (fun h1 => dite_eq (fun h2 => ?_) (fun h2 => dite_eq (fun h3 => ?_) (fun h3 => ?_)))
  · pointwise [val_main_v56, val_main_v55, val_main_v54, val_main_v46]
    refine (key _).trans (Eq.trans (congrArg f ?_) (atP_heads f h1 rfl))
    unfold inter
    dsimp only
    omega
  · pointwise [val_main_v47]
    exact (key _).trans (atP_slice f (c := l.val) (by dsimp only; omega))
  · pointwise [val_main_v59, val_main_v58, val_main_v57, val_main_v48]
    refine (key _).trans (Eq.trans (congrArg f ?_) (atP_gate f (c := l.val) (e := l.val - 512 - 256) (by omega) (by omega)))
    unfold inter
    dsimp only
    omega
  · iterate 3
      refine dite_eq (fun h => ?_) (fun h => ?_)
      · pointwise [val_main_v52, val_main_v49, val_main_v50]
        exact (key _).trans (atP_slice f (c := l.val) (by dsimp only; omega))
    refine dite_eq (fun h4 => ?_) (fun h4 => dite_eq (fun h5 => ?_) (fun h5 => ?_))
    · pointwise [val_main_v53, val_main_cst_9]
      exact (atP_zero f (c := l.val) (by unfold used; omega)).symm
    · pointwise [val_main_v51]
      exact (key _).trans (atP_slice f (c := l.val) (by dsimp only; omega))
    · pointwise [val_main_v60, val_main_v53, val_main_cst_9]
      exact (atP_zero f (c := l.val) (by unfold used; omega)).symm

/-- The gradient of the projection's weight, by column of the call. -/
theorem w_ref (d : Fin 1024) (l : Fin 2304) : val_main_v61 (F := Ideal) x0 x1 x3 (ix2 d l)
    = atP (fun e => ∑ b : Fin 2, ∑ x : Fin 2064, q b x e * (xh (t b x) d * g d)) l :=
  cols_at (fun e => ∑ b : Fin 2, ∑ x : Fin 2064, q b x e * (xh (t b x) d * g d)) d (wcol_at A d) l

end Cert.InReferenceIdeal.Proj

end
-- ==== Proof.InAlgebraic.lean ====
/-
  `inproj_bwd` and the reference's `projection_bwd` compute the same gradients over the extended reals.
-/
module

public import proofs.«01_k».proof.Defs
public import proofs.«01_k».proof.Proof.InArrays
public import proofs.«01_k».proof.Proof.InPrefix
public import proofs.«01_k».proof.Proof.InRef

@[expose] public section

set_option maxRecDepth 16384

noncomputable section

namespace Cert.Proj

open Cert.KernelIdeal.Mla (pad orig)

section
variable (t q D : ℕ → ℕ → ℕ → EReal) (g : ℕ → EReal) (w : ℕ → ℕ → EReal)

theorem atR_pos (f : ℕ → ℕ → ℕ → EReal) {R : ℕ} (h : ¬ pad (R % 2176)) (d : ℕ) : atR f R d = f (R / 2176) (orig (R % 2176)) d := if_neg h

theorem atR_zero (f : ℕ → ℕ → ℕ → EReal) {R : ℕ} (h : pad (R % 2176)) (d : ℕ) : atR f R d = 0 := if_pos h

/-- The call's projection gradients against the call's weight are the tokens' against the projection's weight. -/
theorem du_call (R d : ℕ) : du (atP (atR q R)) (fun d => atP (w d)) 2304 d = du (atR q R) w 2208 d := du_atP _ _ _

theorem du_pad {R : ℕ} (h : pad (R % 2176)) (d : ℕ) : du (atR q R) w 2208 d = 0 := by
  unfold du
  simp only [atR_zero q h, zero_mul, Finset.sum_const_zero]

/-- The input's gradient at a padded row. -/
theorem gO_row (R d : ℕ) : gO (atR t R) (atR D R) g (du (atP (atR q R)) (fun d => atP (w d)) 2304) d
    = atR (fun b x d => gO (t b x) (D b x) g (du (q b x) w 2208) d) R d := by
  by_cases h : pad (R % 2176)
  · rw [atR_zero _ h]
    exact gO_zero _ _ _ _ _ (atR_zero t h d) (atR_zero D h d) ((du_call q w R d).trans (du_pad q w h d))
  · rw [atR_pos _ h, show atR t R = t (R / 2176) (orig (R % 2176)) from funext (atR_pos t h),
      show atR D R = D (R / 2176) (orig (R % 2176)) from funext (atR_pos D h),
      show du (atP (atR q R)) (fun d => atP (w d)) 2304 = du (q (R / 2176) (orig (R % 2176))) w 2208 from
        funext fun d => (du_call q w R d).trans (by rw [show atR q R = q (R / 2176) (orig (R % 2176)) from funext (atR_pos q h)])]

/-- The gain's gradient: the sum over the padded rows is the sum over the tokens. -/
theorem sum_gain (d : ℕ) : ∑ R : Fin 4352, du (atP (atR q R)) (fun d => atP (w d)) 2304 d * xh (atR t R) d
    = ∑ b : Fin 2, ∑ x : Fin 2064, xh (t b x) d * du (q b x) w 2208 d := by
  refine sum_all (fun R => du (atP (atR q R)) (fun d => atP (w d)) 2304 d * xh (atR t R) d)
    (fun b x => xh (t b x) d * du (q b x) w 2208 d) (fun R h => ?_) (fun R h => ?_)
  · rw [du_call, du_pad q w h, zero_mul]
  · rw [du_call, show atR q R = q (R / 2176) (orig (R % 2176)) from funext (atR_pos q h),
      show atR t R = t (R / 2176) (orig (R % 2176)) from funext (atR_pos t h), mul_comm]

/-- The weight's gradient: rows and columns of the call against tokens and columns of the projection. -/
theorem sum_weight (d l : ℕ) : ∑ R : Fin 4352, xh (atR t R) d * g d * atP (atR q R) l
    = atP (fun e => ∑ b : Fin 2, ∑ x : Fin 2064, q b x e * (xh (t b x) d * g d)) l := by
  by_cases hu : used l
  · rw [atP, if_pos hu]
    refine sum_all (fun R => xh (atR t R) d * g d * atP (atR q R) l) (fun b x => q b x (col l) * (xh (t b x) d * g d))
      (fun R h => ?_) (fun R h => ?_)
    · rw [atP, if_pos hu, atR_zero q h, mul_zero]
    · rw [atP, if_pos hu, atR_pos q h, show atR t R = t (R / 2176) (orig (R % 2176)) from funext (atR_pos t h), mul_comm]
  · simp only [atP_zero _ hu, mul_zero, Finset.sum_const_zero]
end

end Cert.Proj

namespace Cert.InAlgebraic

open Idealize.ShloMosaic Idealize.SL.Sem Cert.Proj

/-- An array of three axes as a function of numbers. -/
def nat3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

/-- An array of two axes as a function of numbers. -/
def nat2 {a b : ℕ} (x : (⟨2, ![a, b]⟩ : Shape).Idx → EReal) (i j : ℕ) : EReal :=
  if h : i < a ∧ j < b then x (ix2 ⟨i, h.1⟩ ⟨j, h.2⟩) else 0

/-- An array of one axis as a function of numbers. -/
def nat1 {a : ℕ} (x : (⟨1, ![a]⟩ : Shape).Idx → EReal) (i : ℕ) : EReal :=
  if h : i < a then x (ix1 ⟨i, h⟩) else 0

theorem nat3_at {a b c : ℕ} (x : (⟨3, ![a, b, c]⟩ : Shape).Idx → EReal) (i : Fin a) (j : Fin b) (k : Fin c) :
    x (ix3 i j k) = nat3 x i.val j.val k.val := by
  rw [nat3, dif_pos ⟨i.isLt, j.isLt, k.isLt⟩]

theorem nat2_at {a b : ℕ} (x : (⟨2, ![a, b]⟩ : Shape).Idx → EReal) (i : Fin a) (j : Fin b) :
    x (ix2 i j) = nat2 x i.val j.val := by
  rw [nat2, dif_pos ⟨i.isLt, j.isLt⟩]

theorem nat1_at {a : ℕ} (x : (⟨1, ![a]⟩ : Shape).Idx → EReal) (i : Fin a) : x (ix1 i) = nat1 x i.val := by
  rw [nat1, dif_pos i.isLt]

section
variable (m : (ℓ : Loc Cert.InKernelIdeal.nD Cert.InKernelIdeal.τ Cert.InKernelIdeal.sig) → Buf (Elt Ideal) ℓ)
  (c : Dev Cert.InKernelIdeal.nD)

def y0 : FVec Ideal Cert.InReferenceIdeal.S2x2064x1024 .f32 := m ((c.tc : Thread Cert.InKernelIdeal.nD Cert.InKernelIdeal.τ).loc Cert.InKernelIdeal.main_arg0)
def y1 : FVec Ideal Cert.InReferenceIdeal.S1024 .f32 := m ((c.tc : Thread Cert.InKernelIdeal.nD Cert.InKernelIdeal.τ).loc Cert.InKernelIdeal.main_arg1)
def y2 : FVec Ideal Cert.InReferenceIdeal.S1024x2208 .f32 := m ((c.tc : Thread Cert.InKernelIdeal.nD Cert.InKernelIdeal.τ).loc Cert.InKernelIdeal.main_arg2)
def y3 : FVec Ideal Cert.InReferenceIdeal.S2x2064x2208 .f32 := m ((c.tc : Thread Cert.InKernelIdeal.nD Cert.InKernelIdeal.τ).loc Cert.InKernelIdeal.main_arg3)
def y4 : FVec Ideal Cert.InReferenceIdeal.S2x2064x1024 .f32 := m ((c.tc : Thread Cert.InKernelIdeal.nD Cert.InKernelIdeal.τ).loc Cert.InKernelIdeal.main_arg4)

/-- The reference's arguments as functions of numbers. -/
theorem refArgs : Cert.InReferenceIdeal.Proj.Args (y0 m c) (y1 m c) (y2 m c) (y3 m c) (y4 m c)
    (nat3 (y0 m c)) (nat3 (y3 m c)) (nat3 (y4 m c)) (nat1 (y1 m c)) (nat2 (y2 m c)) where
  a0 := nat3_at (y0 m c)
  a1 := nat1_at (y1 m c)
  a2 := nat2_at (y2 m c)
  a3 := nat3_at (y3 m c)
  a4 := nat3_at (y4 m c)

/-- The kernel's arguments as the same functions. -/
theorem kernelArgs : Cert.InKernelIdeal.Proj.Args m c
    (nat3 (y0 m c)) (nat3 (y3 m c)) (nat3 (y4 m c)) (nat1 (y1 m c)) (nat2 (y2 m c)) where
  a0 := (refArgs m c).a0
  a1 := (refArgs m c).a1
  a2 := (refArgs m c).a2
  a3 := (refArgs m c).a3
  a4 := (refArgs m c).a4

theorem dx (i : Cert.InKernelIdeal.S4352x1024.Idx) : Cert.InReferenceIdeal.Read.val_main_v45 (F := Ideal) (y0 m c) (y1 m c) (y2 m c) (y3 m c) (y4 m c) i
    = (Cert.InKernelIdeal.Gen.dats m 0 c).arrAt 8 Cert.InKernelIdeal.cfg0.N i := by
  refine Eq.trans ?_ (InKernelIdeal.Proj.o_arr (InKernelIdeal.Proj.operands (kernelArgs m c)) i).symm
  refine Eq.trans ?_ (gO_row _ _ _ _ _ _ _).symm
  exact (congrArg _ (eq_ix2 i)).trans (Cert.InReferenceIdeal.Proj.o_ref (refArgs m c) (i 0) (i 1))

theorem dw (i : Cert.InKernelIdeal.S1024x2304.Idx) : Cert.InReferenceIdeal.Read.val_main_v61 (F := Ideal) (y0 m c) (y1 m c) (y3 m c) i
    = (Cert.InKernelIdeal.Gen.dats m 0 c).arrAt 9 Cert.InKernelIdeal.cfg0.N i := by
  refine Eq.trans ?_ (InKernelIdeal.Proj.w_arr (InKernelIdeal.Proj.operands (kernelArgs m c)) i).symm
  refine Eq.trans ?_ (sum_weight _ _ _ _ _).symm
  exact (congrArg _ (eq_ix2 i)).trans (Cert.InReferenceIdeal.Proj.w_ref (refArgs m c) (i 0) (i 1))

theorem dg (i : Cert.InKernelIdeal.S1x1024.Idx) : Cert.InReferenceIdeal.Read.val_main_v62 (F := Ideal) (y0 m c) (y2 m c) (y3 m c) i
    = (Cert.InKernelIdeal.Gen.dats m 0 c).arrAt 10 Cert.InKernelIdeal.cfg0.N i := by
  refine Eq.trans ?_ (InKernelIdeal.Proj.g_arr (InKernelIdeal.Proj.operands (kernelArgs m c)) i).symm
  refine Eq.trans ?_ (sum_gain _ _ _ _).symm
  have h0 : i 0 = (0 : Fin 1) := Fin.ext (Nat.lt_one_iff.mp (i 0).isLt)
  refine (congrArg _ ((eq_ix2 i).trans ?_)).trans (Cert.InReferenceIdeal.Proj.g_ref (refArgs m c) (i 1))
  rw [h0]
end

set_option maxHeartbeats 1000000 in
theorem algebraic : Cert.algebraic_InKernelIdeal_InReferenceIdeal := by
  intro m g m' g' _ hagree
  refine ⟨fun c => (Cert.InKernelIdeal.Gen.dats m 0 c).arrAt 8 Cert.InKernelIdeal.cfg0.N,
    fun c => (Cert.InKernelIdeal.Gen.dats m 0 c).arrAt 9 Cert.InKernelIdeal.cfg0.N,
    fun c => (Cert.InKernelIdeal.Gen.dats m 0 c).arrAt 10 Cert.InKernelIdeal.cfg0.N, ?_, ?_⟩
  · exact Cert.InKernelIdeal.Value.run_blocks (F := Ideal) m g
  · refine (θ_run Cert.InReferenceIdeal.defs _ _).mono (fun r h c => ?_) (Cert.InReferenceIdeal.Value.run (F := Ideal) m' g')
    obtain ⟨e0, e1, e2, e3, e4⟩ := hagree c
    refine ⟨(h c).1.trans (funext fun i => ?_), (h c).2.1.trans (funext fun i => ?_), (h c).2.2.1.trans (funext fun i => ?_), (h c).2.2.2⟩
    · refine (congrFun (Cert.InReferenceIdeal.Read.val_main_v45_eq m' c) i).trans ?_
      rw [e0, e1, e2, e3, e4]
      exact dx m c i
    · refine (congrFun (Cert.InReferenceIdeal.Read.val_main_v61_eq m' c) i).trans ?_
      rw [e0, e1, e3]
      exact dw m c i
    · refine (congrFun (Cert.InReferenceIdeal.Read.val_main_v62_eq _ _ _) i).trans ?_
      rw [e0, e2, e3]
      exact dg m c i

end Cert.InAlgebraic

end
-- ==== Proof.FwdBlock.lean ====
/-
  What one grid point of `inproj_fwd` leaves in its two staging buffers, as terms over its input blocks and at an index.
  The first buffer is filled by two stores, one of the columns scaled by `qa` and one of the columns behind them.
-/
module

public import proofs.«01_k».proof.Proof.Gen.FwdKernelIdeal.Value
public import proofs.«01_k».proof.Proof.InBlock
public import Idealize.ShloMosaic.Lib.Tactic

@[expose] public section

set_option maxRecDepth 16384

noncomputable section

namespace Cert.Proj

/-- The factor of the first 512 columns: the attention's scale over the logarithm of two. -/
def qa : ℝ := (1 / 8) * (Real.log 2)⁻¹

/-- A column of the projection of one row. -/
def pr (a g : ℕ → EReal) (w : ℕ → EReal) : EReal := ∑ d : Fin 1024, xh a d * g d * w d

end Cert.Proj

namespace Cert.FwdKernelIdeal.Proj

open Cert.FwdKernelIdeal Cert.FwdKernelIdeal.Gen Idealize.ShloMosaic Idealize.ShloMosaic.TcCoe Idealize.SL.Sem Cert.Proj
open Cert.InKernelIdeal.Proj (hz2 sumE addE subE mulE)

variable {F : FTy → Type} [FloatOps F] [Named F]

section
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x2304 .bf16) (harg3 : arg3.IsWhole) (arg4 : Memref sig .tc .vmem S256x768 .bf16) (harg4 : arg4.IsWhole) (arg5 : Memref sig .tc .vmem S256x1536 .f32) (harg5 : arg5.IsWhole)
  (x0 : Vec F S256x1024 .f32) (x1 : Vec F S1x1024 .f32) (x2 : Vec F S1024x2304 .bf16)

theorem out_A4 : out0_A_4 c i arg1 harg1 arg2 harg2 arg3 harg3 arg4 harg4 arg5 harg5 x0 x1 x2 = k0_pay4 x0 x1 x2 := by
  unfold out0_A_4
  rw [View.read_writes_eq_canon _ _ _ (cover0_A_4 c i arg1 harg1 arg2 harg2 arg3 harg3 arg4 harg4 arg5 harg5 x0 x1 x2)]
  unfold kernelRun0_A
  dsimp only
  sl_unfold_words
  rw [View.canon_unit_zero hz2]
  simp only [View.readAt_eq_ld, harg1.read_unread, harg2.read_unread, harg3.read_unread, View.ld_unit_zero (S := S256x1024) hz2, View.ld_unit_zero (S := S1x1024) hz2, View.ld_unit_zero (S := S1024x2304) hz2]

/-- The two stores of the first buffer, the later one first. -/
def stores : Vec F S256x768 .bf16 :=
  View.canon [⟨Rect.unit (s := S256x768) ![0, 512] S256x256.size inb_S256x768_S256x256_0_512, k0_pay3 x0 x1 x2⟩,
    ⟨Rect.unit (s := S256x768) ![0, 0] S256x512.size inb_S256x768_S256x512_0_0, k0_pay2 x0 x1 x2⟩]

theorem out_A3 : out0_A_3 c i arg1 harg1 arg2 harg2 arg3 harg3 arg4 harg4 arg5 harg5 x0 x1 x2 = stores x0 x1 x2 := by
  have e0 : View.readAt (Elt F) arg1.view (Rect.unit (s := S256x1024) ![0, 0] S256x1024.size inb_S256x1024_S256x1024_0_0).toLoadRect (harg1.unread x0) = x0 := by
    rw [View.readAt_eq_ld, harg1.read_unread]; exact View.ld_unit_zero hz2 _ x0
  have e1 : View.readAt (Elt F) arg2.view (Rect.unit (s := S1x1024) ![0, 0] S1x1024.size inb_S1x1024_S1x1024_0_0).toLoadRect (harg2.unread x1) = x1 := by
    rw [View.readAt_eq_ld, harg2.read_unread]; exact View.ld_unit_zero hz2 _ x1
  have e2 : View.readAt (Elt F) arg3.view (Rect.unit (s := S1024x2304) ![0, 0] S1024x2304.size inb_S1024x2304_S1024x2304_0_0).toLoadRect (harg3.unread x2) = x2 := by
    rw [View.readAt_eq_ld, harg3.read_unread]; exact View.ld_unit_zero hz2 _ x2
  unfold out0_A_3
  rw [View.read_writes_eq_canon _ _ _ (cover0_A_3 c i arg1 harg1 arg2 harg2 arg3 harg3 arg4 harg4 arg5 harg5 x0 x1 x2)]
  unfold kernelRun0_A
  show stores (View.readAt (Elt F) arg1.view (Rect.unit (s := S256x1024) ![0, 0] S256x1024.size inb_S256x1024_S256x1024_0_0).toLoadRect (harg1.unread x0))
    (View.readAt (Elt F) arg2.view (Rect.unit (s := S1x1024) ![0, 0] S1x1024.size inb_S1x1024_S1x1024_0_0).toLoadRect (harg2.unread x1))
    (View.readAt (Elt F) arg3.view (Rect.unit (s := S1024x2304) ![0, 0] S1024x2304.size inb_S1024x2304_S1024x2304_0_0).toLoadRect (harg3.unread x2)) = _
  rw [e0, e1, e2]

theorem out_lo (r : Fin 256) (l : Fin 768) (h : l.val < 512) :
    out0_A_3 c i arg1 harg1 arg2 harg2 arg3 harg3 arg4 harg4 arg5 harg5 x0 x1 x2 (ix2 r l) = k0_pay2 x0 x1 x2 (ix2 r ⟨l.val, h⟩) := by
  have hn : (ix2 r l : S256x768.Idx) ∉ (Rect.unit (s := S256x768) ![0, 512] S256x256.size inb_S256x768_S256x256_0_512).set := fun hm => by
    have h1 : 512 ≤ l.val := (Rect.mem_set_unit.mp hm (1 : Fin 2)).1
    omega
  have e : (ix2 r l : S256x768.Idx) = (Rect.unit (s := S256x768) ![0, 0] S256x512.size inb_S256x768_S256x512_0_0).emb (ix2 r ⟨l.val, h⟩) := by
    funext a; apply Fin.ext; rw [Rect.emb_apply]
    match a with
    | ⟨0, _⟩ => show r.val = 0 + 1 * r.val; omega
    | ⟨1, _⟩ => show l.val = 0 + 1 * l.val; omega
  rw [out_A3]
  unfold stores
  rw [View.canon_cons_of_not_mem]
  · rw [e]
    exact View.canon_cons_emb _ _ _ _
  · exact hn

theorem out_hi (r : Fin 256) (l : Fin 768) (h : ¬ l.val < 512) :
    out0_A_3 c i arg1 harg1 arg2 harg2 arg3 harg3 arg4 harg4 arg5 harg5 x0 x1 x2 (ix2 r l) = k0_pay3 x0 x1 x2 (ix2 r ⟨l.val - 512, by omega⟩) := by
  have e : (ix2 r l : S256x768.Idx) = (Rect.unit (s := S256x768) ![0, 512] S256x256.size inb_S256x768_S256x256_0_512).emb (ix2 r ⟨l.val - 512, by omega⟩) := by
    funext a; apply Fin.ext; rw [Rect.emb_apply]
    match a with
    | ⟨0, _⟩ => show r.val = 0 + 1 * r.val; omega
    | ⟨1, _⟩ => show l.val = 512 + 1 * (l.val - 512); omega
  rw [out_A3]
  unfold stores
  rw [e]
  exact View.canon_cons_emb _ _ _ _
end

section
variable {a : ℕ → ℕ → EReal} {g : ℕ → EReal} {w : ℕ → ℕ → EReal} {r0 : ℕ}
variable {x0 : Vec Ideal S256x1024 .f32} {x1 : Vec Ideal S1x1024 .f32} {x2 : Vec Ideal S1024x2304 .bf16}
variable (hx0 : ∀ (r : Fin 256) (d : Fin 1024), x0 (ix2 r d) = a (r0 + r.val) d.val) (hx1 : ∀ d : Fin 1024, x1 (ix2 0 d) = g d.val)
  (hx2 : ∀ (d : Fin 1024) (l : Fin 2304), x2 (ix2 d l) = w d.val l.val)
include hx0 hx1 hx2

omit hx0 hx1 hx2 in
theorem qa_val : (Named.named κ "qa" 0x3E38AA3B#32 : Ideal .f32) = ((qa : ℝ) : EReal) :=
  IdealRules.named_const.ideal_named_scalar _ _ _ _ rfl

/-- A block's rows times the weight. -/
theorem pay1_apply (r : Fin 256) (l : Fin 2304) : k0_pay1 x0 x1 x2 (ix2 r l) = pr (a (r0 + r.val)) g (fun d => w d l) := by
  pointwise [k0_pay1]
  refine sumE fun d => mulE (mulE (mulE (hx0 r d) ?_) (hx1 d)) (hx2 d l)
  rw [sumE fun d => mulE (hx0 r d) (hx0 r d), mean_lit, eps_lit]
  rfl

theorem pay2_apply (r : Fin 256) (l : Fin 512) :
    k0_pay2 x0 x1 x2 (ix2 r l) = pr (a (r0 + r.val)) g (fun d => w d l) * ((qa : ℝ) : EReal) := by
  pointwise [k0_pay2]
  exact mulE (pay1_apply hx0 hx1 hx2 r _) qa_val

theorem pay3_apply (r : Fin 256) (l : Fin 256) : k0_pay3 x0 x1 x2 (ix2 r l) = pr (a (r0 + r.val)) g (fun d => w d (512 + l)) := by
  pointwise [k0_pay3]
  exact pay1_apply hx0 hx1 hx2 r _

theorem pay4_apply (r : Fin 256) (l : Fin 1536) : k0_pay4 x0 x1 x2 (ix2 r l) = pr (a (r0 + r.val)) g (fun d => w d (768 + l)) := by
  pointwise [k0_pay4]
  exact pay1_apply hx0 hx1 hx2 r _
end
end Cert.FwdKernelIdeal.Proj

end
-- ==== Proof.FwdArrays.lean ====
/-
  The two result arrays of `inproj_fwd` at an index, from its arguments: the operands are the host's lines before the
  launch, read at an index.
-/
module

public import proofs.«01_k».proof.Proof.FwdBlock
public import proofs.«01_k».proof.Proof.InPrefix
public import Idealize.ShloMosaic.Lib.Pipeline.ValueKit

@[expose] public section

set_option maxRecDepth 16384

noncomputable section

namespace Cert.FwdKernelIdeal.Proj

open Cert.FwdKernelIdeal Cert.FwdKernelIdeal.Gen Idealize.ShloMosaic Idealize.ShloMosaic.TcCoe Idealize.SL.Sem Cert.Proj
open Idealize.ShloMosaic.Pipeline (Dat)
open Idealize.ShloMosaic.StableHlo

/-- Which block a grid point reads or writes: the block of rows `t`, and the gain and the weight whole. -/
theorem idx : ∀ t : Fin cfg0.N, win0_0.index t = ![t.val, 0] ∧ win0_1.index t = ![0, 0] ∧ win0_2.index t = ![0, 0] ∧
    win0_3.index t = ![t.val, 0] ∧ win0_4.index t = ![t.val, 0] := by
  decide +kernel

theorem lt17 (t : Fin cfg0.N) : t.val < 17 := lt_of_lt_of_eq t.isLt N_0

theorem blk0 (c : Dev nD) (A : Buf (Elt Ideal) ((c : Thread nD τ).loc main_v4)) (t : Fin cfg0.N) (r : Fin 256) (l : Fin 1024) :
    ((cfg0.win 0).blk t).view.read (Elt Ideal) A (ix2 r l) = A (ix2 ⟨t.val * 256 + r.val, by have := lt17 t; omega⟩ l) := by
  have hr := r.isLt
  blk_ext [idx t]

theorem blk1 (c : Dev nD) (A : Buf (Elt Ideal) ((c : Thread nD τ).loc main_v5)) (t : Fin cfg0.N) (l : Fin 1024) :
    ((cfg0.win 1).blk t).view.read (Elt Ideal) A (ix2 0 l) = A (ix2 0 l) := by
  blk_ext [idx t]

theorem blk2 (c : Dev nD) (A : Buf (Elt Ideal) ((c : Thread nD τ).loc main_v34)) (t : Fin cfg0.N) (d : Fin 1024) (l : Fin 2304) :
    ((cfg0.win 2).blk t).view.read (Elt Ideal) A (ix2 d l) = A (ix2 d l) := by
  blk_ext [idx t]

variable (m : (ℓ : Loc nD τ sig) → Buf (Elt Ideal) ℓ) (c : Dev nD)

/-- The buffers after the heads of the weight. -/
def W0 : Valuation τ sig (Elt Ideal) := after (hostOps0.take 28) (fun b => m (c, b))

theorem V_eq (r) : V m c r = after (hostOps0.drop 28) (W0 m c) (Proc.tc.devRef r) := by
  have h : (hostOps0 (F := Ideal)) = hostOps0.take 28 ++ hostOps0.drop 28 := rfl
  unfold V
  rw [h, after_append]
  rfl

theorem W0_arg2 : W0 m c (Proc.tc.devRef main_arg2) = m (c, Proc.tc.devRef main_arg2) := by unfold W0; after_reads_simp
theorem V_v4 : V m c main_v4 = W0 m c (Proc.tc.devRef main_v4) := by rw [V_eq]; after_reads_simp
theorem V_v5 : V m c main_v5 = W0 m c (Proc.tc.devRef main_v5) := by rw [V_eq]; after_reads_simp

/-- The arguments, read by sequence, token and column. -/
structure Args (t : ℕ → ℕ → ℕ → EReal) (g : ℕ → EReal) (w : ℕ → ℕ → EReal) : Prop where
  a0 : ∀ (b : Fin 2) (x : Fin 2064) (d : Fin 1024), m (c, Proc.tc.devRef main_arg0) (ix3 b x d) = t b.val x.val d.val
  a1 : ∀ d : Fin 1024, m (c, Proc.tc.devRef main_arg1) (ix1 d) = g d.val
  a2 : ∀ (d : Fin 1024) (e : Fin 2208), m (c, Proc.tc.devRef main_arg2) (ix2 d e) = w d.val e.val

section
variable {m c}
variable {t : ℕ → ℕ → ℕ → EReal} {g : ℕ → EReal} {w : ℕ → ℕ → EReal} (A : Args m c t g w)
include A

theorem wa_at (d : Fin 1024) (l : Fin 512) : W0 m c (Proc.tc.devRef main_v15) (ix2 d l) = w d (inter l) := by
  have hl := l.isLt
  unfold W0
  after_reads_at
  iterate 7
    refine dite_eq (fun h => ?_) (fun h => ?_)
    · after_reads_at
      exact (A.a2 _ _).trans (congrArg (fun e : ℕ => w d e) (by unfold inter; dsimp only; omega))
  after_reads_at
  exact (A.a2 _ _).trans (congrArg (fun e : ℕ => w d e) (by unfold inter; dsimp only; omega))

theorem wm_at (d : Fin 1024) (l : Fin 256) : W0 m c (Proc.tc.devRef main_v16) (ix2 d l) = w d (512 + l) := by
  unfold W0
  after_reads_at
  exact A.a2 _ _

theorem wg_at (d : Fin 1024) (l : Fin 512) : W0 m c (Proc.tc.devRef main_v26) (ix2 d l) = w d (768 + inter l) := by
  have hl := l.isLt
  unfold W0
  after_reads_at
  iterate 7
    refine dite_eq (fun h => ?_) (fun h => ?_)
    · after_reads_at
      exact (A.a2 _ _).trans (congrArg (fun e : ℕ => w d e) (by unfold inter; dsimp only; omega))
  after_reads_at
  exact (A.a2 _ _).trans (congrArg (fun e : ℕ => w d e) (by unfold inter; dsimp only; omega))

set_option maxHeartbeats 2000000 in
theorem w_at (d : Fin 1024) (l : Fin 2304) : V m c main_v34 (ix2 d l) = atP (w d) l := by
  have hl := l.isLt
  rw [V_eq]
  after_reads_at
  refine dite_eq (fun h1 => ?_) (fun h1 => dite_eq (fun h2 => ?_) (fun h2 => dite_eq (fun h3 => ?_) (fun h3 => ?_)))
  · after_reads_at
    exact (wa_at A _ _).trans (atP_heads _ h1 rfl)
  · after_reads_at
    exact (wm_at A _ _).trans (atP_slice _ (c := l.val) (by dsimp only; omega))
  · after_reads_at
    exact (wg_at A _ _).trans (atP_gate _ (c := l.val) (by omega) (by dsimp only; omega))
  · iterate 3
      refine dite_eq (fun h => ?_) (fun h => ?_)
      · after_reads_at
        exact ((congrFun (W0_arg2 m c) _).trans (A.a2 _ _)).trans (atP_slice _ (c := l.val) (by dsimp only; omega))
    refine dite_eq (fun h4 => ?_) (fun h4 => dite_eq (fun h5 => ?_) (fun h5 => ?_))
    · after_reads_at
      exact (atP_zero _ (c := l.val) (by unfold used; omega)).symm
    · after_reads_at
      exact ((congrFun (W0_arg2 m c) _).trans (A.a2 _ _)).trans (atP_slice _ (c := l.val) (by dsimp only; omega))
    · after_reads_at
      exact (atP_zero _ (c := l.val) (by unfold used; omega)).symm

theorem h_at (R : Fin 4352) (d : Fin 1024) : V m c main_v4 (ix2 R d) = atR t R d := by
  rw [V_v4]
  unfold W0
  after_reads_at
  refine dite_eq (fun h1 => ?_) (fun h1 => dite_eq (fun h2 => ?_) (fun h2 => ?_))
  · after_reads_at
    exact (A.a0 _ _ _).trans (atR_lo t h1)
  · after_reads_at
    exact (atR_pad t h1 h2).symm
  · after_reads_at
    exact (A.a0 _ _ _).trans (atR_hi t h1 h2)

theorem g_at (d : Fin 1024) : V m c main_v5 (ix2 0 d) = g d := by
  rw [V_v5]
  unfold W0
  after_reads_at
  exact A.a1 _

theorem iblk0 (s : Fin cfg0.N) (r : Fin 256) (l : Fin 1024) : iblk m c 0 s (ix2 r l) = atR t (s.val * 256 + r.val) l.val := by
  unfold iblk
  exact (blk0 c (V m c main_v4) s r l).trans (h_at A _ _)

theorem iblk1 (s : Fin cfg0.N) (l : Fin 1024) : iblk m c 1 s (ix2 0 l) = g l.val := by
  unfold iblk
  exact (blk1 c (V m c main_v5) s l).trans (g_at A _)

theorem iblk2 (s : Fin cfg0.N) (d : Fin 1024) (l : Fin 2304) : iblk m c 2 s (ix2 d l) = atP (w d) l.val := by
  unfold iblk
  exact (blk2 c (V m c main_v34) s d l).trans (w_at A _ _)

/-- A block of the scaled columns and the window's keys and values. -/
theorem a_blk (s : Fin cfg0.N) (r : Fin 256) (l : Fin 768) : (outsAt0 m c s).1 (ix2 r l) = if l.val < 512
    then pr (atR t (s.val * 256 + r.val)) g (fun d => atP (w d) l.val) * ((qa : ℝ) : EReal)
    else pr (atR t (s.val * 256 + r.val)) g (fun d => atP (w d) l.val) := by
  unfold outsAt0
  dsimp only
  by_cases h : l.val < 512
  · rw [if_pos h, out_lo (h := h)]
    exact pay2_apply (iblk0 A s) (iblk1 A s) (w := fun d => atP (w d)) (iblk2 A s) r _
  · rw [if_neg h, out_hi (h := h)]
    refine (pay3_apply (iblk0 A s) (iblk1 A s) (w := fun d => atP (w d)) (iblk2 A s) r _).trans ?_
    dsimp only
    rw [show 512 + (l.val - 512) = l.val by omega]

/-- The scaled columns and the window's keys and values. -/
theorem a_arr (j : S4352x768.Idx) : (dats m 0 c).arrAt 3 cfg0.N j = if (j 1).val < 512
    then pr (atR t (j 0).val) g (fun d => atP (w d) (j 1).val) * ((qa : ℝ) : EReal)
    else pr (atR t (j 0).val) g (fun d => atP (w d) (j 1).val) := by
  refine (dats m 0 c).arrAt_forall_of_covers 3 (fun j z => z = if (j 1).val < 512
    then pr (atR t (j 0).val) g (fun d => atP (w d) (j 1).val) * ((qa : ℝ) : EReal)
    else pr (atR t (j 0).val) g (fun d => atP (w d) (j 1).val))
    (by decide +kernel) (fun s hf i => ?_) j
  have hs := lt17 s
  have h0 : (i 0).val < 256 := (i 0).isLt
  have h1 : (i 1).val < 768 := (i 1).isLt
  blk_simp [idx s]
  rw [after0_3, ← ix2_eta i]
  exact a_blk A s (i 0) (i 1)

/-- The columns behind them. -/
theorem f_arr (j : S4352x1536.Idx) : (dats m 0 c).arrAt 4 cfg0.N j = pr (atR t (j 0).val) g (fun d => atP (w d) (768 + (j 1).val)) := by
  refine (dats m 0 c).arrAt_forall_of_covers 4 (fun j z => z = pr (atR t (j 0).val) g (fun d => atP (w d) (768 + (j 1).val)))
    (by decide +kernel) (fun s hf i => ?_) j
  have hs := lt17 s
  have h0 : (i 0).val < 256 := (i 0).isLt
  have h1 : (i 1).val < 1536 := (i 1).isLt
  blk_simp [idx s]
  rw [after0_4, ← ix2_eta i]
  unfold outsAt0
  dsimp only
  rw [out_A4]
  exact pay4_apply (iblk0 A s) (iblk1 A s) (w := fun d => atP (w d)) (iblk2 A s) _ _
end
end Cert.FwdKernelIdeal.Proj

end
-- ==== Proof.FwdRef.lean ====
/-
  The two results of `reference_fwd` at an index.
-/
module

public import proofs.«01_k».proof.Proof.FwdBlock
public import proofs.«01_k».proof.Proof.InRef
public import proofs.«01_k».proof.Proof.Gen.FwdReferenceIdeal.Read

@[expose] public section

set_option maxRecDepth 16384

noncomputable section

namespace Cert.FwdReferenceIdeal.Proj

open Cert.FwdReferenceIdeal Cert.FwdReferenceIdeal.Gen Cert.FwdReferenceIdeal.Read Idealize.ShloMosaic Cert.Proj
open Cert.InKernelIdeal.Proj (sumE addE subE mulE)
open Cert.InReferenceIdeal.Proj (n_lit)
open Cert.KernelIdeal.Mla (two_lit log_real div_real log2_pos)

theorem eighth_lit : Ideal.ofBits FTy.f32 0x3E000000#32 = ((1 / 8 : ℝ) : EReal) := by
  simp [Ideal.ofBits, Ideal.ieee, -EReal.coe_mul]; norm_num

/-- The factor of the window attention's queries. -/
theorem qa_at (i : S_.Idx) : val_main_v32 (F := Ideal) i = ((qa : ℝ) : EReal) := by
  show Ideal.div (Ideal.ofBits FTy.f32 0x3E000000#32) (Ideal.log (Ideal.ofBits FTy.f32 0x40000000#32)) = _
  rw [eighth_lit, two_lit, log_real _ (by norm_num), div_real _ _ log2_pos.ne', div_eq_mul_inv]
  rfl

/-- The arguments, read by sequence, token and column. -/
structure Args (x0 : FVec Ideal S2x2064x1024 .f32) (x1 : FVec Ideal S1024 .f32) (x2 : FVec Ideal S1024x2208 .f32)
    (t : ℕ → ℕ → ℕ → EReal) (g : ℕ → EReal) (w : ℕ → ℕ → EReal) : Prop where
  a0 : ∀ (b : Fin 2) (x : Fin 2064) (d : Fin 1024), x0 (ix3 b x d) = t b.val x.val d.val
  a1 : ∀ d : Fin 1024, x1 (ix1 d) = g d.val
  a2 : ∀ (d : Fin 1024) (e : Fin 2208), x2 (ix2 d e) = w d.val e.val

/-- A column of a token's projection. -/
def tok (t : ℕ → ℕ → ℕ → EReal) (g : ℕ → EReal) (w : ℕ → ℕ → EReal) (b x e : ℕ) : EReal := pr (t b x) g fun d => w d e

variable {x0 : FVec Ideal S2x2064x1024 .f32} {x1 : FVec Ideal S1024 .f32} {x2 : FVec Ideal S1024x2208 .f32}
    {t : ℕ → ℕ → ℕ → EReal} {g : ℕ → EReal} {w : ℕ → ℕ → EReal} (A : Args x0 x1 x2 t g w)
include A

theorem rs_at (b : Fin 2) (x : Fin 2064) : val_main_v7 (F := Ideal) x0 (ix3 b x 0) = rs (t b x) := by
  pointwise [val_main_v7, val_main_v6, val_main_v5, val_main_v4, val_main_v3, val_main_v2, val_main_v1, val_main_v0, val_main_cst, val_main_cst_0, val_main_cst_1]
  rw [sumE fun d : Fin 1024 => mulE (A.a0 b x d) (A.a0 b x d), n_lit, eps_lit, Ideal.div_coe (by norm_num)]
  rfl

theorem tok_at (b : Fin 2) (x : Fin 2064) (e : Fin 2208) : val_main_v13 (F := Ideal) x0 x1 x2 (ix3 b x e) = tok t g w b x e := by
  pointwise [val_main_v13, val_main_v12, val_main_v11, val_main_v10, val_main_v9, val_main_v8]
  exact sumE fun d : Fin 1024 => mulE (mulE (mulE (A.a0 b x d) (rs_at A b x)) (A.a1 d)) (A.a2 d e)

theorem row_at (R : Fin 4352) (e : Fin 2208) : val_main_v18 (F := Ideal) x0 x1 x2 (ix2 R e) = atR (tok t g w) R e := by
  pointwise [val_main_v18, val_main_v17]
  refine dite_eq (fun h1 => ?_) (fun h1 => dite_eq (fun h2 => ?_) (fun h2 => ?_))
  · pointwise [val_main_v15]
    exact (tok_at A _ _ _).trans (atR_lo (tok t g w) h1)
  · pointwise [val_main_v14, val_main_cst_2]
    exact (atR_pad _ h1 h2).symm
  · pointwise [val_main_v16]
    exact (tok_at A _ _ _).trans (atR_hi (tok t g w) h1 h2)

/-- The first result. -/
theorem a_ref (R : Fin 4352) (l : Fin 768) : val_main_v36 (F := Ideal) x0 x1 x2 (ix2 R l) = if l.val < 512
    then atP (atR (tok t g w) R) l * ((qa : ℝ) : EReal) else atP (atR (tok t g w) R) l := by
  have hl := l.isLt
  pointwise [val_main_v36, val_main_v35]
  by_cases h : l.val < 512
  · rw [dif_pos h, if_pos h]
    pointwise [val_main_v34, val_main_v33, val_main_v29, val_main_v28, val_main_v27, val_main_v19]
    refine mulE ((row_at A _ _).trans (Eq.trans (congrArg (atR (tok t g w) R) ?_) (atP_heads _ h rfl))) (qa_at _)
    unfold inter
    dsimp only
    omega
  · rw [dif_neg h, if_neg h]
    pointwise [val_main_v20]
    exact (row_at A _ _).trans (atP_slice _ (c := l.val) (by dsimp only; omega))

/-- The second result. -/
theorem f_ref (R : Fin 4352) (l : Fin 1536) : val_main_v41 (F := Ideal) x0 x1 x2 (ix2 R l) = atP (atR (tok t g w) R) (768 + l) := by
  have hl := l.isLt
  pointwise [val_main_v41]
  refine dite_eq (fun h1 => ?_) (fun h1 => ?_)
  · pointwise [val_main_v39, val_main_v38, val_main_v37, val_main_v21]
    refine (row_at A _ _).trans (Eq.trans (congrArg (atR (tok t g w) R) ?_) (atP_gate _ (c := 768 + l.val) (e := l.val) (by omega) (by omega)))
    unfold inter
    dsimp only
    omega
  · iterate 3
      refine dite_eq (fun h => ?_) (fun h => ?_)
      · pointwise [val_main_v25, val_main_v22, val_main_v23]
        exact (row_at A _ _).trans (atP_slice _ (c := 768 + l.val) (by dsimp only; omega))
    refine dite_eq (fun h4 => ?_) (fun h4 => dite_eq (fun h5 => ?_) (fun h5 => ?_))
    · pointwise [val_main_v26, val_main_cst_3]
      exact (atP_zero _ (c := 768 + l.val) (by unfold used; omega)).symm
    · pointwise [val_main_v24]
      exact (row_at A _ _).trans (atP_slice _ (c := 768 + l.val) (by dsimp only; omega))
    · pointwise [val_main_v40, val_main_v26, val_main_cst_3]
      exact (atP_zero _ (c := 768 + l.val) (by unfold used; omega)).symm

end Cert.FwdReferenceIdeal.Proj

end
-- ==== Proof.FwdAlgebraic.lean ====
/-
  `inproj_fwd` and the reference's `reference_fwd` compute the same projections over the extended reals.
-/
module

public import proofs.«01_k».proof.Defs
public import proofs.«01_k».proof.Proof.FwdArrays
public import proofs.«01_k».proof.Proof.FwdRef
public import proofs.«01_k».proof.Proof.InAlgebraic

@[expose] public section

set_option maxRecDepth 16384

noncomputable section

namespace Cert.FwdAlgebraic

open Idealize.ShloMosaic Idealize.SL.Sem Cert.Proj
open Cert.KernelIdeal.Mla (pad orig)
open Cert.FwdReferenceIdeal.Proj (tok)
open Cert.InAlgebraic (nat1 nat2 nat3 nat1_at nat2_at nat3_at)

/-- A padded row projects to zero: its entries are zero, and so are their normalised values. -/
theorem pr_zero {a : ℕ → EReal} (g w : ℕ → EReal) (h : ∀ d, a d = 0) : pr a g w = 0 := by
  unfold pr xh
  simp only [h, zero_mul, Finset.sum_const_zero]

/-- The call's rows against the call's weight are the tokens' projections, padded and reordered. -/
theorem pr_row (t : ℕ → ℕ → ℕ → EReal) (g : ℕ → EReal) (w : ℕ → ℕ → EReal) (R l : ℕ) :
    pr (atR t R) g (fun d => atP (w d) l) = atP (atR (tok t g w) R) l := by
  by_cases hu : used l
  · rw [atP, if_pos hu]
    simp only [atP, if_pos hu]
    by_cases h : pad (R % 2176)
    · rw [atR_zero _ h]
      exact pr_zero _ _ (atR_zero t h)
    · rw [atR_pos _ h, show atR t R = t (R / 2176) (orig (R % 2176)) from funext (atR_pos t h)]
      rfl
  · rw [atP_zero _ hu]
    unfold pr
    simp only [atP_zero _ hu, mul_zero, Finset.sum_const_zero]

section
variable (m : (ℓ : Loc Cert.FwdKernelIdeal.nD Cert.FwdKernelIdeal.τ Cert.FwdKernelIdeal.sig) → Buf (Elt Ideal) ℓ)
  (c : Dev Cert.FwdKernelIdeal.nD)

def y0 : FVec Ideal Cert.FwdReferenceIdeal.S2x2064x1024 .f32 := m ((c.tc : Thread Cert.FwdKernelIdeal.nD Cert.FwdKernelIdeal.τ).loc Cert.FwdKernelIdeal.main_arg0)
def y1 : FVec Ideal Cert.FwdReferenceIdeal.S1024 .f32 := m ((c.tc : Thread Cert.FwdKernelIdeal.nD Cert.FwdKernelIdeal.τ).loc Cert.FwdKernelIdeal.main_arg1)
def y2 : FVec Ideal Cert.FwdReferenceIdeal.S1024x2208 .f32 := m ((c.tc : Thread Cert.FwdKernelIdeal.nD Cert.FwdKernelIdeal.τ).loc Cert.FwdKernelIdeal.main_arg2)

/-- The reference's arguments as functions of numbers. -/
theorem refArgs : Cert.FwdReferenceIdeal.Proj.Args (y0 m c) (y1 m c) (y2 m c) (nat3 (y0 m c)) (nat1 (y1 m c)) (nat2 (y2 m c)) where
  a0 := nat3_at (y0 m c)
  a1 := nat1_at (y1 m c)
  a2 := nat2_at (y2 m c)

/-- The kernel's arguments as the same functions. -/
theorem kernelArgs : Cert.FwdKernelIdeal.Proj.Args m c (nat3 (y0 m c)) (nat1 (y1 m c)) (nat2 (y2 m c)) where
  a0 := (refArgs m c).a0
  a1 := (refArgs m c).a1
  a2 := (refArgs m c).a2

theorem first (i : Cert.FwdKernelIdeal.S4352x768.Idx) : Cert.FwdReferenceIdeal.Read.val_main_v36 (F := Ideal) (y0 m c) (y1 m c) (y2 m c) i
    = (Cert.FwdKernelIdeal.Gen.dats m 0 c).arrAt 3 Cert.FwdKernelIdeal.cfg0.N i := by
  refine Eq.trans ?_ (FwdKernelIdeal.Proj.a_arr (kernelArgs m c) i).symm
  rw [pr_row]
  exact (congrArg _ (eq_ix2 i)).trans (Cert.FwdReferenceIdeal.Proj.a_ref (refArgs m c) (i 0) (i 1))

theorem second (i : Cert.FwdKernelIdeal.S4352x1536.Idx) : Cert.FwdReferenceIdeal.Read.val_main_v41 (F := Ideal) (y0 m c) (y1 m c) (y2 m c) i
    = (Cert.FwdKernelIdeal.Gen.dats m 0 c).arrAt 4 Cert.FwdKernelIdeal.cfg0.N i := by
  refine Eq.trans ?_ (FwdKernelIdeal.Proj.f_arr (kernelArgs m c) i).symm
  rw [pr_row]
  exact (congrArg _ (eq_ix2 i)).trans (Cert.FwdReferenceIdeal.Proj.f_ref (refArgs m c) (i 0) (i 1))
end

set_option maxHeartbeats 1000000 in
theorem algebraic : Cert.algebraic_FwdKernelIdeal_FwdReferenceIdeal := by
  intro m g m' g' _ hagree
  refine ⟨fun c => (Cert.FwdKernelIdeal.Gen.dats m 0 c).arrAt 3 Cert.FwdKernelIdeal.cfg0.N,
    fun c => (Cert.FwdKernelIdeal.Gen.dats m 0 c).arrAt 4 Cert.FwdKernelIdeal.cfg0.N, ?_, ?_⟩
  · exact Cert.FwdKernelIdeal.Value.run_blocks (F := Ideal) m g
  · refine (θ_run Cert.FwdReferenceIdeal.defs _ _).mono (fun r h c => ?_) (Cert.FwdReferenceIdeal.Value.run (F := Ideal) m' g')
    obtain ⟨e0, e1, e2⟩ := hagree c
    refine ⟨(h c).1.trans (funext fun i => ?_), (h c).2.1.trans (funext fun i => ?_), (h c).2.2⟩
    · refine (congrFun (Cert.FwdReferenceIdeal.Read.val_main_v36_eq m' c) i).trans ?_
      rw [e0, e1, e2]
      exact first m c i
    · refine (congrFun (Cert.FwdReferenceIdeal.Read.val_main_v41_eq m' c) i).trans ?_
      rw [e0, e1, e2]
      exact second m c i

end Cert.FwdAlgebraic

end
-- ==== Proof.OutOuts.lean ====
/-
  What one grid point of `out_bwd` leaves in its six staging buffers, as terms over its input blocks: the gradients of the
  two halves of a block of rows and of its gates, and the three running sums with this block's part added.
-/
module

public import proofs.«01_k».proof.Proof.Gen.OutKernelIdeal.Value
public import proofs.«01_k».proof.Proof.InBlock
public import Idealize.ShloMosaic.Lib.Tactic

@[expose] public section

set_option maxRecDepth 16384

noncomputable section

namespace Cert.OutKernelIdeal.Proj

open Cert.OutKernelIdeal Cert.OutKernelIdeal.Gen Idealize.ShloMosaic Idealize.ShloMosaic.TcCoe Idealize.SL.Sem
open Idealize.ShloMosaic.Pipeline (Dat)
open Cert.InKernelIdeal.Proj (hz2)

variable {F : FTy → Type} [FloatOps F]

section
variable (x0 : Vec F S256x1024 .f32) (x1 x2 x3 x4 : Vec F S256x512 .f32) (x5 x6 : Vec F S1x512 .f32) (x7 : Vec F S1024x1024 .bf16)

/-- The gradient of the first half after its norm and gain. -/
def dnA : FVec F S256x512 .f32 := k0_pay25 (k0_pay7 x3) (k0_pay17 x3) x0 x7

/-- The gradient of the second half after its norm and gain. -/
def dnB : FVec F S256x512 .f32 := k0_pay31 (k0_pay8 x4) (k0_pay19 (k0_pay8 x4)) (k0_pay24 x0 x7)

/-- The gradient of the first half of a block of rows. -/
def bodyA : Vec F S256x512 .f32 := k0_pay30 (k0_pay9 x5) (k0_pay13 x1) (k0_pay14 x1) (dnA x0 x3 x7)

/-- The gradient of the second half of a block of rows. -/
def bodyB : Vec F S256x512 .f32 := k0_pay3 (k0_pay10 x6) (k0_pay15 x2) (k0_pay16 x2) (dnB x0 x4 x7)

/-- The gradient of the first half's gate. -/
def gateA : FVec F S256x512 .bf16 :=
  k0_pay28 (k0_pay7 x3) (k0_pay18 (k0_pay17 x3)) (k0_pay26 (k0_pay9 x5) (k0_pay14 x1) x0 x7) (k0_pay27 (k0_pay17 x3))

/-- The gradient of the second half's gate. -/
def gateB : FVec F S256x512 .bf16 :=
  k0_pay1 (k0_pay32 (k0_pay10 x6) (k0_pay16 x2) (k0_pay24 x0 x7)) (k0_pay33 (k0_pay8 x4) (k0_pay19 (k0_pay8 x4)))

/-- Two stores side by side, the later one first. -/
def stores (hi lo : FVec F S256x512 .bf16) : Vec F S256x1024 .bf16 :=
  View.canon [⟨Rect.unit (s := S256x1024) ![0, 512] S256x512.size inb_S256x1024_S256x512_0_512, hi⟩,
    ⟨Rect.unit (s := S256x1024) ![0, 0] S256x512.size inb_S256x1024_S256x512_0_0, lo⟩]

/-- The gradients of both gates. -/
def bodyG : Vec F S256x1024 .bf16 := stores (gateB x0 x2 x4 x6 x7) (gateA x0 x1 x3 x5 x7)

/-- The running sum of the weight's gradient with one block's part added. -/
def bodyW (xo : Vec F S1024x1024 .f32) : Vec F S1024x1024 .f32 :=
  k0_pay21 (k0_pay7 x3) (k0_pay8 x4) (k0_pay9 x5) (k0_pay10 x6) (k0_pay14 x1) (k0_pay16 x2) (k0_pay17 x3) x0 xo

/-- The running sum of the first gain's gradient with one block's part added. -/
def bodyGa (xo : Vec F S1x512 .f32) : Vec F S1x512 .f32 := k0_pay29 (k0_pay14 x1) (dnA x0 x3 x7) xo

/-- The running sum of the second gain's gradient with one block's part added. -/
def bodyGb (xo : Vec F S1x512 .f32) : Vec F S1x512 .f32 := k0_pay2 (k0_pay16 x2) (dnB x0 x4 x7) xo

theorem stores_lo (hi lo : FVec F S256x512 .bf16) (r : Fin 256) (l : Fin 1024) (h : l.val < 512) :
    stores hi lo (ix2 r l) = lo (ix2 r ⟨l.val, h⟩) := by
  have hn : (ix2 r l : S256x1024.Idx) ∉ (Rect.unit (s := S256x1024) ![0, 512] S256x512.size inb_S256x1024_S256x512_0_512).set := fun hm => by
    have h1 : 512 ≤ l.val := (Rect.mem_set_unit.mp hm (1 : Fin 2)).1
    omega
  have e : (ix2 r l : S256x1024.Idx) = (Rect.unit (s := S256x1024) ![0, 0] S256x512.size inb_S256x1024_S256x512_0_0).emb (ix2 r ⟨l.val, h⟩) := by
    funext a; apply Fin.ext; rw [Rect.emb_apply]
    match a with
    | ⟨0, _⟩ => show r.val = 0 + 1 * r.val; omega
    | ⟨1, _⟩ => show l.val = 0 + 1 * l.val; omega
  unfold stores
  rw [View.canon_cons_of_not_mem]
  · rw [e]
    exact View.canon_cons_emb _ _ _ _
  · exact hn

theorem stores_hi (hi lo : FVec F S256x512 .bf16) (r : Fin 256) (l : Fin 1024) (h : ¬ l.val < 512) :
    stores hi lo (ix2 r l) = hi (ix2 r ⟨l.val - 512, by omega⟩) := by
  have e : (ix2 r l : S256x1024.Idx) = (Rect.unit (s := S256x1024) ![0, 512] S256x512.size inb_S256x1024_S256x512_0_512).emb (ix2 r ⟨l.val - 512, by omega⟩) := by
    funext a; apply Fin.ext; rw [Rect.emb_apply]
    match a with
    | ⟨0, _⟩ => show r.val = 0 + 1 * r.val; omega
    | ⟨1, _⟩ => show l.val = 512 + 1 * (l.val - 512); omega
  unfold stores
  rw [e]
  exact View.canon_cons_emb _ _ _ _
end

section
variable (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S256x512 .f32) (harg9 : arg9.IsWhole) (arg10 : Memref sig .tc .vmem S256x512 .f32) (harg10 : arg10.IsWhole) (arg11 : Memref sig .tc .vmem S256x1024 .bf16) (harg11 : arg11.IsWhole) (arg12 : Memref sig .tc .vmem S1024x1024 .f32) (harg12 : arg12.IsWhole) (arg13 : Memref sig .tc .vmem S1x512 .f32) (harg13 : arg13.IsWhole) (arg14 : Memref sig .tc .vmem S1x512 .f32) (harg14 : arg14.IsWhole)
  (x0 : Vec F S256x1024 .f32) (x1 x2 x3 x4 : Vec F S256x512 .f32) (x5 x6 : Vec F S1x512 .f32) (x7 : Vec F S1024x1024 .bf16) (xo11 : Vec F S1024x1024 .f32) (xo12 xo13 : Vec F S1x512 .f32)

theorem out_B (hc : ¬cond0_0 i) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo11 xo12 xo13 = bodyA x0 x1 x3 x5 x7 ∧
    out0_B_9 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo11 xo12 xo13 = bodyB x0 x2 x4 x6 x7 ∧
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo11 xo12 xo13 = bodyG x0 x1 x2 x3 x4 x5 x6 x7 ∧
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo11 xo12 xo13 = bodyW x0 x1 x2 x3 x4 x5 x6 xo11 ∧
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo11 xo12 xo13 = bodyGa x0 x1 x3 x7 xo12 ∧
    out0_B_13 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo11 xo12 xo13 = bodyGb x0 x2 x4 x7 xo13 := by
  refine ⟨?_, ?_, ?_, ?_, ?_, ?_⟩
  · unfold out0_B_8
    rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo11 xo12 xo13)]
    unfold kernelRun0_B
    dsimp only
    sl_unfold_words
    rw [View.canon_unit_zero hz2]
    simp only [View.readAt_eq_ld, harg1.read_unread, harg2.read_unread, harg3.read_unread, harg4.read_unread, harg5.read_unread, harg6.read_unread, harg7.read_unread, harg8.read_unread, harg12.read_unread, harg13.read_unread, harg14.read_unread,
      View.ld_unit_zero (S := S256x1024) hz2, View.ld_unit_zero (S := S256x512) hz2, View.ld_unit_zero (S := S1x512) hz2, View.ld_unit_zero (S := S1024x1024) hz2]
    rfl
  · unfold out0_B_9
    rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo11 xo12 xo13)]
    unfold kernelRun0_B
    dsimp only
    sl_unfold_words
    rw [View.canon_unit_zero hz2]
    simp only [View.readAt_eq_ld, harg1.read_unread, harg2.read_unread, harg3.read_unread, harg4.read_unread, harg5.read_unread, harg6.read_unread, harg7.read_unread, harg8.read_unread, harg12.read_unread, harg13.read_unread, harg14.read_unread,
      View.ld_unit_zero (S := S256x1024) hz2, View.ld_unit_zero (S := S256x512) hz2, View.ld_unit_zero (S := S1x512) hz2, View.ld_unit_zero (S := S1024x1024) hz2]
    rfl
  · unfold out0_B_10
    rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo11 xo12 xo13)]
    unfold kernelRun0_B
    show stores _ _ = _
    sl_unfold_words
    simp only [View.readAt_eq_ld, harg1.read_unread, harg2.read_unread, harg3.read_unread, harg4.read_unread, harg5.read_unread, harg6.read_unread, harg7.read_unread, harg8.read_unread, harg12.read_unread, harg13.read_unread, harg14.read_unread,
      View.ld_unit_zero (S := S256x1024) hz2, View.ld_unit_zero (S := S256x512) hz2, View.ld_unit_zero (S := S1x512) hz2, View.ld_unit_zero (S := S1024x1024) hz2]
    rfl
  · unfold out0_B_11
    rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo11 xo12 xo13)]
    unfold kernelRun0_B
    dsimp only
    sl_unfold_words
    rw [View.canon_unit_zero hz2]
    simp only [View.readAt_eq_ld, harg1.read_unread, harg2.read_unread, harg3.read_unread, harg4.read_unread, harg5.read_unread, harg6.read_unread, harg7.read_unread, harg8.read_unread, harg12.read_unread, harg13.read_unread, harg14.read_unread,
      View.ld_unit_zero (S := S256x1024) hz2, View.ld_unit_zero (S := S256x512) hz2, View.ld_unit_zero (S := S1x512) hz2, View.ld_unit_zero (S := S1024x1024) hz2]
    rfl
  · unfold out0_B_12
    rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo11 xo12 xo13)]
    unfold kernelRun0_B
    dsimp only
    sl_unfold_words
    rw [View.canon_unit_zero hz2]
    simp only [View.readAt_eq_ld, harg1.read_unread, harg2.read_unread, harg3.read_unread, harg4.read_unread, harg5.read_unread, harg6.read_unread, harg7.read_unread, harg8.read_unread, harg12.read_unread, harg13.read_unread, harg14.read_unread,
      View.ld_unit_zero (S := S256x1024) hz2, View.ld_unit_zero (S := S256x512) hz2, View.ld_unit_zero (S := S1x512) hz2, View.ld_unit_zero (S := S1024x1024) hz2]
    rfl
  · unfold out0_B_13
    rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo11 xo12 xo13)]
    unfold kernelRun0_B
    dsimp only
    sl_unfold_words
    rw [View.canon_unit_zero hz2]
    simp only [View.readAt_eq_ld, harg1.read_unread, harg2.read_unread, harg3.read_unread, harg4.read_unread, harg5.read_unread, harg6.read_unread, harg7.read_unread, harg8.read_unread, harg12.read_unread, harg13.read_unread, harg14.read_unread,
      View.ld_unit_zero (S := S256x1024) hz2, View.ld_unit_zero (S := S256x512) hz2, View.ld_unit_zero (S := S1x512) hz2, View.ld_unit_zero (S := S1024x1024) hz2]
    rfl

theorem out_A (hc : cond0_0 i) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 = bodyA x0 x1 x3 x5 x7 ∧
    out0_A_9 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 = bodyB x0 x2 x4 x6 x7 ∧
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 = bodyG x0 x1 x2 x3 x4 x5 x6 x7 ∧
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 = bodyW x0 x1 x2 x3 x4 x5 x6 k0_pay4 ∧
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 = bodyGa x0 x1 x3 x7 k0_pay5 ∧
    out0_A_13 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 = bodyGb x0 x2 x4 x7 k0_pay6 := by
  refine ⟨?_, ?_, ?_, ?_, ?_, ?_⟩
  · unfold out0_A_8
    rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
    unfold kernelRun0_A
    dsimp only
    sl_unfold_words
    rw [View.canon_unit_zero hz2]
    simp only [View.readAt_eq_ld, harg1.read_unread, harg2.read_unread, harg3.read_unread, harg4.read_unread, harg5.read_unread, harg6.read_unread, harg7.read_unread, harg8.read_unread,
      View.ld_unit_zero (S := S256x1024) hz2, View.ld_unit_zero (S := S256x512) hz2, View.ld_unit_zero (S := S1x512) hz2, View.ld_unit_zero (S := S1024x1024) hz2]
    rfl
  · unfold out0_A_9
    rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
    unfold kernelRun0_A
    dsimp only
    sl_unfold_words
    rw [View.canon_unit_zero hz2]
    simp only [View.readAt_eq_ld, harg1.read_unread, harg2.read_unread, harg3.read_unread, harg4.read_unread, harg5.read_unread, harg6.read_unread, harg7.read_unread, harg8.read_unread,
      View.ld_unit_zero (S := S256x1024) hz2, View.ld_unit_zero (S := S256x512) hz2, View.ld_unit_zero (S := S1x512) hz2, View.ld_unit_zero (S := S1024x1024) hz2]
    rfl
  · unfold out0_A_10
    rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
    unfold kernelRun0_A
    show stores _ _ = _
    sl_unfold_words
    simp only [View.readAt_eq_ld, harg1.read_unread, harg2.read_unread, harg3.read_unread, harg4.read_unread, harg5.read_unread, harg6.read_unread, harg7.read_unread, harg8.read_unread,
      View.ld_unit_zero (S := S256x1024) hz2, View.ld_unit_zero (S := S256x512) hz2, View.ld_unit_zero (S := S1x512) hz2, View.ld_unit_zero (S := S1024x1024) hz2]
    rfl
  · unfold out0_A_11
    rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
    unfold kernelRun0_A
    dsimp only
    sl_unfold_words
    rw [View.canon_cons_unit_zero (S := S1024x1024) hz2, View.readCov_unit_zero (S := S1024x1024) _ hz2]
    simp only [View.readAt_eq_ld, harg1.read_unread, harg2.read_unread, harg3.read_unread, harg4.read_unread, harg5.read_unread, harg6.read_unread, harg7.read_unread, harg8.read_unread,
      View.ld_unit_zero (S := S256x1024) hz2, View.ld_unit_zero (S := S256x512) hz2, View.ld_unit_zero (S := S1x512) hz2, View.ld_unit_zero (S := S1024x1024) hz2]
    rfl
  · unfold out0_A_12
    rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
    unfold kernelRun0_A
    dsimp only
    sl_unfold_words
    rw [View.canon_cons_unit_zero (S := S1x512) hz2, View.readCov_unit_zero (S := S1x512) _ hz2]
    simp only [View.readAt_eq_ld, harg1.read_unread, harg2.read_unread, harg3.read_unread, harg4.read_unread, harg5.read_unread, harg6.read_unread, harg7.read_unread, harg8.read_unread,
      View.ld_unit_zero (S := S256x1024) hz2, View.ld_unit_zero (S := S256x512) hz2, View.ld_unit_zero (S := S1x512) hz2, View.ld_unit_zero (S := S1024x1024) hz2]
    rfl
  · unfold out0_A_13
    rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
    unfold kernelRun0_A
    dsimp only
    sl_unfold_words
    rw [View.canon_cons_unit_zero (S := S1x512) hz2, View.readCov_unit_zero (S := S1x512) _ hz2]
    simp only [View.readAt_eq_ld, harg1.read_unread, harg2.read_unread, harg3.read_unread, harg4.read_unread, harg5.read_unread, harg6.read_unread, harg7.read_unread, harg8.read_unread,
      View.ld_unit_zero (S := S256x1024) hz2, View.ld_unit_zero (S := S256x512) hz2, View.ld_unit_zero (S := S1x512) hz2, View.ld_unit_zero (S := S1024x1024) hz2]
    rfl
end

variable (m : (ℓ : Loc nD τ sig) → Buf (Elt F) ℓ)

/-- What the first point leaves. -/
theorem outs_first (c : Dev nD) (t : Fin cfg0.N) (h0 : t.val % 17 = 0) : outsAt0 m c t.val t.isLt =
    (bodyA (iblk m c 0 t) (iblk m c 1 t) (iblk m c 3 t) (iblk m c 5 t) (iblk m c 7 t),
     bodyB (iblk m c 0 t) (iblk m c 2 t) (iblk m c 4 t) (iblk m c 6 t) (iblk m c 7 t),
     bodyG (iblk m c 0 t) (iblk m c 1 t) (iblk m c 2 t) (iblk m c 3 t) (iblk m c 4 t) (iblk m c 5 t) (iblk m c 6 t) (iblk m c 7 t),
     bodyW (iblk m c 0 t) (iblk m c 1 t) (iblk m c 2 t) (iblk m c 3 t) (iblk m c 4 t) (iblk m c 5 t) (iblk m c 6 t) k0_pay4,
     bodyGa (iblk m c 0 t) (iblk m c 1 t) (iblk m c 3 t) (iblk m c 7 t) k0_pay5,
     bodyGb (iblk m c 0 t) (iblk m c 2 t) (iblk m c 4 t) (iblk m c 7 t) k0_pay6) := by
  obtain ⟨h8, h9, h10, h11, h12, h13⟩ := out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (iblk m c 0 t) (iblk m c 1 t) (iblk m c 2 t) (iblk m c 3 t) (iblk m c 4 t) (iblk m c 5 t) (iblk m c 6 t) (iblk m c 7 t) ((hcond0_0 t).mpr h0)
  exact (outsAt0_A m c t h0).trans (congrArg₂ Prod.mk h8 (congrArg₂ Prod.mk h9 (congrArg₂ Prod.mk h10 (congrArg₂ Prod.mk h11 (congrArg₂ Prod.mk h12 h13)))))

/-- What a later point leaves. -/
theorem outs_next (c : Dev nD) (t : Fin cfg0.N) (h0 : ¬t.val % 17 = 0) : outsAt0 m c t.val t.isLt =
    (bodyA (iblk m c 0 t) (iblk m c 1 t) (iblk m c 3 t) (iblk m c 5 t) (iblk m c 7 t),
     bodyB (iblk m c 0 t) (iblk m c 2 t) (iblk m c 4 t) (iblk m c 6 t) (iblk m c 7 t),
     bodyG (iblk m c 0 t) (iblk m c 1 t) (iblk m c 2 t) (iblk m c 3 t) (iblk m c 4 t) (iblk m c 5 t) (iblk m c 6 t) (iblk m c 7 t),
     bodyW (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1,
     bodyGa (iblk m c 0 t) (iblk m c 1 t) (iblk m c 3 t) (iblk m c 7 t) (outsAt0 m c (t.val - 1) (Nat.lt_of_le_of_lt (Nat.sub_le _ _) t.isLt)).2.2.2.2.1,
     bodyGb (iblk m c 0 t) (iblk m c 2 t) (iblk m c 4 t) (iblk m c 7 t) (outsAt0 m c (t.val - 1) (Nat.lt_of_le_of_lt (Nat.sub_le _ _) t.isLt)).2.2.2.2.2) := by
  obtain ⟨h8, h9, h10, h11, h12, h13⟩ := out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (iblk m c 0 t) (iblk m c 1 t) (iblk m c 2 t) (iblk m c 3 t) (iblk m c 4 t) (iblk m c 5 t) (iblk m c 6 t) (iblk m c 7 t)
    (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    (fun h => h0 ((hcond0_0 t).mp h))
  exact (outsAt0_B m c t h0).trans (congrArg₂ Prod.mk h8 (congrArg₂ Prod.mk h9 (congrArg₂ Prod.mk h10 (congrArg₂ Prod.mk h11 (congrArg₂ Prod.mk h12 h13)))))

/-- What every point leaves of the gradients that are not sums over the points. -/
theorem outs_rows (c : Dev nD) (t : Fin cfg0.N) :
    (outsAt0 m c t.val t.isLt).1 = bodyA (iblk m c 0 t) (iblk m c 1 t) (iblk m c 3 t) (iblk m c 5 t) (iblk m c 7 t) ∧
    (outsAt0 m c t.val t.isLt).2.1 = bodyB (iblk m c 0 t) (iblk m c 2 t) (iblk m c 4 t) (iblk m c 6 t) (iblk m c 7 t) ∧
    (outsAt0 m c t.val t.isLt).2.2.1 = bodyG (iblk m c 0 t) (iblk m c 1 t) (iblk m c 2 t) (iblk m c 3 t) (iblk m c 4 t) (iblk m c 5 t) (iblk m c 6 t) (iblk m c 7 t) := by
  by_cases h0 : t.val % 17 = 0
  · simp only [outs_first m c t h0, and_self]
  · simp only [outs_next m c t h0, and_self]

end Cert.OutKernelIdeal.Proj

end
-- ==== Proof.OutNorm.lean ====
/-
  One half of a row of `out_bwd` over the extended reals: the norm of 512 columns, its gate, and their gradients.
-/
module

public import proofs.«01_k».proof.Proof.InNorm

@[expose] public section

set_option maxRecDepth 16384

noncomputable section

namespace Cert.Gated

open Idealize.ShloMosaic Cert.Proj Cert.KernelIdeal.Mla

/-- The logistic function. -/
def sgm (x : EReal) : EReal := Ideal.div 1 (1 + Ideal.exp (-x))

section
variable (a g o p : ℕ → EReal) (d : ℕ)

/-- The mean of a row's squares and `eps`. -/
def ms : EReal := (∑ d : Fin 512, a d * a d) * ((1 / 512 : ℝ) : EReal) + ((eps : ℝ) : EReal)

/-- The row's factor. -/
def rs : EReal := Ideal.rsqrt (ms a)

/-- The row after the norm, before its gain. -/
def xh : EReal := a d * rs a

/-- The row after the norm, its gain and its gate. -/
def yv : EReal := xh a d * o d * (g d * sgm (g d))

/-- The gradient of the row after its gain, from the gradient `p` of the row after its gate. -/
def dn : EReal := p d * (g d * sgm (g d))

/-- The gradient of the gate. -/
def dG : EReal := p d * (xh a d * o d) * (sgm (g d) * (1 + g d * (1 - sgm (g d))))

/-- The gradient of the row. -/
def dA : EReal :=
  rs a * (dn g p d * o d - xh a d * ((∑ e : Fin 512, dn g p e * o e * xh a e) * ((1 / 512 : ℝ) : EReal)))
end

theorem ms_real (α : ℕ → ℝ) : ∃ M : ℝ, 0 < M ∧ ms (fun d => ((α d : ℝ) : EReal)) = ((M : ℝ) : EReal) := by
  refine ⟨(∑ d : Fin 512, α d * α d) * (1 / 512) + eps, ?_, ?_⟩
  · have h : 0 ≤ ∑ d : Fin 512, α d * α d := Finset.sum_nonneg fun d _ => mul_self_nonneg _
    have e : 0 < eps := by unfold eps; norm_num
    linarith [mul_nonneg h (by norm_num : (0 : ℝ) ≤ 1 / 512)]
  · simp only [ms, ← EReal.coe_mul, ← coe_sum, ← EReal.coe_add]

theorem ms_congr {a b : ℕ → EReal} (h : ∀ d : Fin 512, a d = b d) : ms a = ms b := by
  simp only [ms, h]

/-- The row's gradient as the derivative of the norm's lines one by one, on real numbers. -/
theorem dA_lines (a g o p : ℕ → EReal) (d : Fin 512) (c : EReal) (hf : ∀ e : Fin 512, a e = (((a e).toReal : ℝ) : EReal))
    (hc : c = Ideal.div ((∑ e : Fin 512, a e * (dn g p e * o e)) * (((-(1 / 2) : ℝ) : EReal) * Ideal.div (rs a) (ms a))) ((512 : ℝ) : EReal)) :
    dn g p d * o d * rs a + a d * c + c * a d = dA a g o p d := by
  rw [Ideal.div_coe (by norm_num)] at hc
  obtain ⟨M, hM, hm⟩ := ms_real fun e => (a e).toReal
  have hm : ms a = ((M : ℝ) : EReal) := (ms_congr hf).trans hm
  have hr : rs a = (((√M)⁻¹ : ℝ) : EReal) := by
    rw [rs, hm, Ideal.rsqrt_coe, if_neg (not_lt.mpr hM.le), if_neg hM.ne']
  have hq : (√M)⁻¹ * (√M)⁻¹ = M⁻¹ := by rw [← mul_inv, Real.mul_self_sqrt hM.le]
  have h0 : 0 ≤ (√M)⁻¹ := inv_nonneg.mpr (Real.sqrt_nonneg M)
  generalize (√M)⁻¹ = ρ at hr hq h0
  have hs : ∑ e : Fin 512, dn g p e * o e * xh a e = (∑ e : Fin 512, a e * (dn g p e * o e)) * ((ρ : ℝ) : EReal) := by
    rw [sum_mul_pos _ _ h0]
    refine Finset.sum_congr rfl fun e _ => ?_
    rw [xh, hr, ← mul_assoc, mul_comm (dn g p e * o e)]
  rw [dA, hs, xh, hr, EReal.mul_sub_of_nonneg_of_ne_top (EReal.coe_nonneg.mpr h0) (EReal.coe_ne_top _), sub_eq_add_neg]
  generalize ∑ e : Fin 512, a e * (dn g p e * o e) = T at hc
  rw [hm, hr, Ideal.div_coe hM.ne', ← EReal.coe_mul, ← EReal.coe_mul, mul_assoc, ← EReal.coe_mul] at hc
  rw [hf d, hc, add_assoc]
  generalize (a d).toReal = η
  rw [mul_comm (T * _) ((η : ℝ) : EReal), pull1, pull3, twice, mul_comm (dn g p d * o d)]
  congr 3
  rw [one_div M, ← hq]
  ring

/-- The gate's gradient by the product rule, on real numbers. -/
theorem dG_lines (z g s : ℝ) : ((z : ℝ) : EReal) * ((s : ℝ) : EReal) + ((g : ℝ) : EReal) * ((z : ℝ) : EReal) * (((s : ℝ) : EReal) * (1 - ((s : ℝ) : EReal))) =
    ((z : ℝ) : EReal) * (((s : ℝ) : EReal) * (1 + ((g : ℝ) : EReal) * (1 - ((s : ℝ) : EReal)))) := by
  rw [← EReal.coe_one]
  simp only [← EReal.coe_mul, ← EReal.coe_add, ← EReal.coe_sub]
  congr 1
  ring

theorem sgm_real (x : ℝ) : ∃ s : ℝ, sgm ((x : ℝ) : EReal) = ((s : ℝ) : EReal) := by
  refine ⟨1 * (1 / (1 + Real.exp (-x))), ?_⟩
  have e : Ideal.exp (-((x : ℝ) : EReal)) = ((Real.exp (-x) : ℝ) : EReal) := by
    rw [← EReal.coe_neg, Ideal.exp_coe]
  rw [sgm, e, ← EReal.coe_one, ← EReal.coe_add, Ideal.div_coe (by positivity), ← EReal.coe_mul]

theorem xh_real {a : ℕ → EReal} (hf : ∀ e : Fin 512, a e = (((a e).toReal : ℝ) : EReal)) (d : Fin 512) : ∃ x : ℝ, xh a d = ((x : ℝ) : EReal) := by
  obtain ⟨M, hM, hm⟩ := ms_real fun e => (a e).toReal
  have hm : ms a = ((M : ℝ) : EReal) := (ms_congr hf).trans hm
  refine ⟨(a d).toReal * (√M)⁻¹, ?_⟩
  rw [xh, rs, hm, Ideal.rsqrt_coe, if_neg (not_lt.mpr hM.le), if_neg hM.ne', EReal.coe_mul, ← hf d]

/-- The gate's gradient as the reference adds it up. -/
theorem dG_of (a g o p : ℕ → EReal) (d : Fin 512) (hf : ∀ e : Fin 512, a e = (((a e).toReal : ℝ) : EReal))
    (hg : g d = (((g d).toReal : ℝ) : EReal)) (ho : o d = (((o d).toReal : ℝ) : EReal)) (hp : ∃ x : ℝ, p d = ((x : ℝ) : EReal)) :
    xh a d * o d * p d * sgm (g d) + g d * (xh a d * o d * p d) * (sgm (g d) * (1 - sgm (g d))) = dG a g o p d := by
  obtain ⟨x, hx⟩ := xh_real hf d
  obtain ⟨π, hp⟩ := hp
  obtain ⟨s, hs⟩ := sgm_real (g d).toReal
  rw [← hg] at hs
  rw [dG, hs, mul_comm (p d), hx, ho, hp, hg, ← EReal.coe_mul, ← EReal.coe_mul]
  exact dG_lines _ _ _

theorem dn_zero (g p : ℕ → EReal) (d : ℕ) (hp : p d = 0) : dn g p d = 0 := by rw [dn, hp, zero_mul]

theorem dG_zero (a g o p : ℕ → EReal) (d : ℕ) (hp : p d = 0) : dG a g o p d = 0 := by rw [dG, hp, zero_mul, zero_mul]

theorem dA_zero (a g o p : ℕ → EReal) (d : ℕ) (ha : a d = 0) (hp : p d = 0) : dA a g o p d = 0 := by
  rw [dA, xh, ha, dn_zero g p d hp]
  simp

/-! ### The order of the heads -/

theorem inter_ok : ∀ c : Fin 512, inter c < 512 ∧ back (inter c) = c := by decide +kernel
theorem back_ok : ∀ e : Fin 512, back e < 512 ∧ inter (back e) = e := by decide +kernel

/-- A sum over the columns does not depend on the order of the heads. -/
theorem sum_inter (f : ℕ → EReal) : ∑ c : Fin 512, f (inter c) = ∑ e : Fin 512, f e :=
  Finset.sum_bij' (fun c _ => (⟨inter c, (inter_ok c).1⟩ : Fin 512)) (fun e _ => (⟨back e, (back_ok e).1⟩ : Fin 512))
    (fun _ _ => Finset.mem_univ _) (fun _ _ => Finset.mem_univ _) (fun c _ => Fin.ext (inter_ok c).2) (fun e _ => Fin.ext (back_ok e).2)
    (fun _ _ => rfl)

theorem rs_inter (a : ℕ → EReal) : rs (fun d => a (inter d)) = rs a := by
  unfold rs ms
  rw [sum_inter fun d => a d * a d]

theorem xh_inter (a : ℕ → EReal) (d : ℕ) : xh (fun d => a (inter d)) d = xh a (inter d) := by
  unfold xh
  rw [rs_inter]

theorem yv_inter (a g o : ℕ → EReal) (d : ℕ) :
    yv (fun d => a (inter d)) (fun d => g (inter d)) (fun d => o (inter d)) d = yv a g o (inter d) := by
  unfold yv
  rw [xh_inter]

theorem dG_inter (a g o p : ℕ → EReal) (d : ℕ) :
    dG (fun d => a (inter d)) (fun d => g (inter d)) (fun d => o (inter d)) (fun d => p (inter d)) d = dG a g o p (inter d) := by
  unfold dG
  rw [xh_inter]

theorem dA_inter (a g o p : ℕ → EReal) (d : ℕ) :
    dA (fun d => a (inter d)) (fun d => g (inter d)) (fun d => o (inter d)) (fun d => p (inter d)) d = dA a g o p (inter d) := by
  have h := sum_inter fun e => dn g p e * o e * xh a e
  unfold dA
  simp only [xh_inter, rs_inter]
  rw [← h]
  rfl

end Cert.Gated

end
-- ==== Proof.OutBlock.lean ====
/-
  One grid point's parts of `out_bwd` at an index.
-/
module

public import proofs.«01_k».proof.Proof.OutOuts
public import proofs.«01_k».proof.Proof.OutNorm

@[expose] public section

set_option maxRecDepth 16384

noncomputable section

namespace Cert.Gated

open Idealize.ShloMosaic

theorem mean_lit : Ideal.ofBits FTy.f32 0x3B000000#32 = ((1 / 512 : ℝ) : EReal) := by
  simp [Ideal.ofBits, Ideal.ieee, -EReal.coe_mul]; norm_num

theorem one_lit : Ideal.ofBits FTy.f32 0x3F800000#32 = (1 : EReal) := by
  simp [Ideal.ofBits, Ideal.ieee, -EReal.coe_mul]; norm_num

theorem zero_lit : Ideal.ofBits FTy.f32 0x00000000#32 = (0 : EReal) := by
  simp [Ideal.ofBits, Ideal.ieee, -EReal.coe_mul]

/-- The gradient of the two halves of a row, from the gradient `h` of its projection. -/
def dy (h : ℕ → EReal) (w : ℕ → ℕ → EReal) (d : ℕ) : EReal := ∑ j : Fin 1024, h j * w d j

/-- The two halves of a row side by side. -/
def both (f g : ℕ → EReal) (l : ℕ) : EReal := if l < 512 then f l else g (l - 512)

end Cert.Gated

namespace Cert.OutKernelIdeal.Proj

open Cert.OutKernelIdeal Cert.OutKernelIdeal.Gen Idealize.ShloMosaic Idealize.ShloMosaic.TcCoe Idealize.SL.Sem Cert.Gated
open Cert.InKernelIdeal.Proj (sumE addE subE mulE)
open Cert.Proj (eps_lit)

section
variable {h a b ga gb : ℕ → ℕ → EReal} {oa ob : ℕ → EReal} {w : ℕ → ℕ → EReal} {r0 : ℕ}
variable {x0 : Vec Ideal S256x1024 .f32} {x1 x2 x3 x4 : Vec Ideal S256x512 .f32} {x5 x6 : Vec Ideal S1x512 .f32} {x7 : Vec Ideal S1024x1024 .bf16}

theorem sigA_apply (r : Fin 256) (d : Fin 512) : k0_pay18 (k0_pay17 x3) (ix2 r d) = sgm (x3 (ix2 r d)) := by
  pointwise [k0_pay18, k0_pay17, k0_pay7]
  simp only [one_lit, zero_lit, zero_sub]
  rfl

theorem sigB_apply (r : Fin 256) (d : Fin 512) : k0_pay19 (F := Ideal) x4 (ix2 r d) = sgm (x4 (ix2 r d)) := by
  pointwise [k0_pay19]
  simp only [one_lit, zero_lit, zero_sub]
  rfl

theorem rsA_apply (hx1 : ∀ (r : Fin 256) (d : Fin 512), x1 (ix2 r d) = a (r0 + r.val) d.val) (r : Fin 256) :
    k0_pay13 x1 (ix2 r 0) = rs (a (r0 + r.val)) := by
  pointwise [k0_pay13, k0_pay11]
  rw [sumE fun d => mulE (hx1 r d) (hx1 r d), mean_lit, eps_lit]
  rfl

theorem xhA_apply (hx1 : ∀ (r : Fin 256) (d : Fin 512), x1 (ix2 r d) = a (r0 + r.val) d.val) (r : Fin 256) (d : Fin 512) :
    k0_pay14 x1 (ix2 r d) = xh (a (r0 + r.val)) d.val := by
  pointwise [k0_pay14, k0_pay11]
  exact mulE (hx1 r d) (rsA_apply hx1 r)

theorem rsB_apply (hx2 : ∀ (r : Fin 256) (d : Fin 512), x2 (ix2 r d) = b (r0 + r.val) d.val) (r : Fin 256) :
    k0_pay15 x2 (ix2 r 0) = rs (b (r0 + r.val)) := by
  pointwise [k0_pay15, k0_pay12]
  rw [sumE fun d => mulE (hx2 r d) (hx2 r d), mean_lit, eps_lit]
  rfl

theorem xhB_apply (hx2 : ∀ (r : Fin 256) (d : Fin 512), x2 (ix2 r d) = b (r0 + r.val) d.val) (r : Fin 256) (d : Fin 512) :
    k0_pay16 x2 (ix2 r d) = xh (b (r0 + r.val)) d.val := by
  pointwise [k0_pay16, k0_pay12]
  exact mulE (hx2 r d) (rsB_apply hx2 r)

section
variable (hx0 : ∀ (r : Fin 256) (j : Fin 1024), x0 (ix2 r j) = h (r0 + r.val) j.val)
  (hx7 : ∀ (d j : Fin 1024), x7 (ix2 d j) = w d.val j.val)
include hx0 hx7

theorem dyA_apply (r : Fin 256) (d : Fin 512) : k0_pay23 x0 x7 (ix2 r d) = dy (h (r0 + r.val)) w d.val := by
  pointwise [k0_pay23, k0_pay22, k0_pay20]
  exact sumE fun j => mulE (hx0 r j) (hx7 _ j)

theorem dyB_apply (r : Fin 256) (d : Fin 512) : k0_pay24 x0 x7 (ix2 r d) = dy (h (r0 + r.val)) w (512 + d.val) := by
  pointwise [k0_pay24, k0_pay22, k0_pay20]
  exact sumE fun j => mulE (hx0 r j) (hx7 _ j)

section
variable (hx3 : ∀ (r : Fin 256) (d : Fin 512), x3 (ix2 r d) = ga (r0 + r.val) d.val)
include hx3

theorem dnA_apply (r : Fin 256) (d : Fin 512) : dnA x0 x3 x7 (ix2 r d) = dn (ga (r0 + r.val)) (dy (h (r0 + r.val)) w) d.val := by
  pointwise [dnA, k0_pay25, k0_pay7]
  rw [dyA_apply hx0 hx7, sigA_apply, hx3]
  rfl

variable (hx1 : ∀ (r : Fin 256) (d : Fin 512), x1 (ix2 r d) = a (r0 + r.val) d.val)
include hx1

theorem bodyGa_apply (xo : Vec Ideal S1x512 .f32) (d : Fin 512) : bodyGa x0 x1 x3 x7 xo (ix2 0 d) = xo (ix2 0 d) +
    (∑ r : Fin 256, dn (ga (r0 + r.val)) (dy (h (r0 + r.val)) w) d.val * xh (a (r0 + r.val)) d.val) := by
  pointwise [bodyGa, k0_pay29]
  exact congrArg _ (sumE fun r => mulE (dnA_apply hx0 hx7 hx3 r d) (xhA_apply hx1 r d))

variable (hx5 : ∀ d : Fin 512, x5 (ix2 0 d) = oa d.val)
include hx5

theorem bodyA_apply (r : Fin 256) (d : Fin 512) : bodyA x0 x1 x3 x5 x7 (ix2 r d) =
    dA (a (r0 + r.val)) (ga (r0 + r.val)) oa (dy (h (r0 + r.val)) w) d.val := by
  pointwise [bodyA, k0_pay30, k0_pay9]
  rw [mean_lit]
  exact mulE (rsA_apply hx1 r) (subE (mulE (dnA_apply hx0 hx7 hx3 r d) (hx5 d))
    (mulE (xhA_apply hx1 r d) (mulE (sumE fun e => mulE (mulE (dnA_apply hx0 hx7 hx3 r e) (hx5 e)) (xhA_apply hx1 r e)) rfl)))

theorem gateA_apply (r : Fin 256) (d : Fin 512) : gateA x0 x1 x3 x5 x7 (ix2 r d) =
    dG (a (r0 + r.val)) (ga (r0 + r.val)) oa (dy (h (r0 + r.val)) w) d.val := by
  pointwise [gateA, k0_pay28, k0_pay26, k0_pay27, k0_pay7, k0_pay9]
  rw [dyA_apply hx0 hx7, sigA_apply, hx3, xhA_apply hx1, hx5]
  rfl
end

section
variable (hx4 : ∀ (r : Fin 256) (d : Fin 512), x4 (ix2 r d) = gb (r0 + r.val) d.val)
include hx4

theorem dnB_apply (r : Fin 256) (d : Fin 512) :
    dnB x0 x4 x7 (ix2 r d) = dn (gb (r0 + r.val)) (fun e => dy (h (r0 + r.val)) w (512 + e)) d.val := by
  pointwise [dnB, k0_pay31, k0_pay8]
  rw [dyB_apply hx0 hx7, sigB_apply, hx4]
  rfl

variable (hx2 : ∀ (r : Fin 256) (d : Fin 512), x2 (ix2 r d) = b (r0 + r.val) d.val)
include hx2

theorem bodyGb_apply (xo : Vec Ideal S1x512 .f32) (d : Fin 512) : bodyGb x0 x2 x4 x7 xo (ix2 0 d) = xo (ix2 0 d) +
    (∑ r : Fin 256, dn (gb (r0 + r.val)) (fun e => dy (h (r0 + r.val)) w (512 + e)) d.val * xh (b (r0 + r.val)) d.val) := by
  pointwise [bodyGb, k0_pay2]
  exact congrArg _ (sumE fun r => mulE (dnB_apply hx0 hx7 hx4 r d) (xhB_apply hx2 r d))

variable (hx6 : ∀ d : Fin 512, x6 (ix2 0 d) = ob d.val)
include hx6

theorem bodyB_apply (r : Fin 256) (d : Fin 512) : bodyB x0 x2 x4 x6 x7 (ix2 r d) =
    dA (b (r0 + r.val)) (gb (r0 + r.val)) ob (fun e => dy (h (r0 + r.val)) w (512 + e)) d.val := by
  pointwise [bodyB, k0_pay3, k0_pay10]
  rw [mean_lit]
  exact mulE (rsB_apply hx2 r) (subE (mulE (dnB_apply hx0 hx7 hx4 r d) (hx6 d))
    (mulE (xhB_apply hx2 r d) (mulE (sumE fun e => mulE (mulE (dnB_apply hx0 hx7 hx4 r e) (hx6 e)) (xhB_apply hx2 r e)) rfl)))

theorem gateB_apply (r : Fin 256) (d : Fin 512) : gateB x0 x2 x4 x6 x7 (ix2 r d) =
    dG (b (r0 + r.val)) (gb (r0 + r.val)) ob (fun e => dy (h (r0 + r.val)) w (512 + e)) d.val := by
  pointwise [gateB, k0_pay1, k0_pay32, k0_pay33, k0_pay8, k0_pay10]
  rw [dyB_apply hx0 hx7, sigB_apply, hx4, xhB_apply hx2, hx6]
  rfl
end
end

section
variable (hx0 : ∀ (r : Fin 256) (j : Fin 1024), x0 (ix2 r j) = h (r0 + r.val) j.val)
  (hx1 : ∀ (r : Fin 256) (d : Fin 512), x1 (ix2 r d) = a (r0 + r.val) d.val)
  (hx2 : ∀ (r : Fin 256) (d : Fin 512), x2 (ix2 r d) = b (r0 + r.val) d.val)
  (hx3 : ∀ (r : Fin 256) (d : Fin 512), x3 (ix2 r d) = ga (r0 + r.val) d.val)
  (hx4 : ∀ (r : Fin 256) (d : Fin 512), x4 (ix2 r d) = gb (r0 + r.val) d.val)
  (hx5 : ∀ d : Fin 512, x5 (ix2 0 d) = oa d.val) (hx6 : ∀ d : Fin 512, x6 (ix2 0 d) = ob d.val)
include hx0 hx1 hx2 hx3 hx4 hx5 hx6

theorem bodyW_apply (xo : Vec Ideal S1024x1024 .f32) (k j : Fin 1024) : bodyW x0 x1 x2 x3 x4 x5 x6 xo (ix2 k j) = xo (ix2 k j) +
    (∑ r : Fin 256, both (yv (a (r0 + r.val)) (ga (r0 + r.val)) oa) (yv (b (r0 + r.val)) (gb (r0 + r.val)) ob) k.val * h (r0 + r.val) j.val) := by
  pointwise [bodyW, k0_pay21, k0_pay20]
  refine congrArg _ (sumE fun r => mulE ?_ (hx0 r j))
  unfold both
  by_cases hk : k.val < 512
  · rw [dif_pos hk, if_pos hk]
    pointwise [k0_pay7, k0_pay9]
    rw [xhA_apply hx1, hx5, hx3, sigA_apply, hx3]
    rfl
  · rw [dif_neg hk, if_neg hk]
    pointwise [k0_pay10, k0_pay8]
    rw [xhB_apply hx2, hx6, hx4, sigB_apply, hx4]
    rfl

variable (hx7 : ∀ (d j : Fin 1024), x7 (ix2 d j) = w d.val j.val)
include hx7

theorem bodyG_apply (r : Fin 256) (l : Fin 1024) : bodyG x0 x1 x2 x3 x4 x5 x6 x7 (ix2 r l) =
    both (dG (a (r0 + r.val)) (ga (r0 + r.val)) oa (dy (h (r0 + r.val)) w))
      (dG (b (r0 + r.val)) (gb (r0 + r.val)) ob (fun e => dy (h (r0 + r.val)) w (512 + e))) l.val := by
  unfold bodyG both
  by_cases hl : l.val < 512
  · rw [stores_lo _ _ r l hl, if_pos hl]
    exact gateA_apply hx0 hx7 hx3 hx1 hx5 r _
  · rw [stores_hi _ _ r l hl, if_neg hl]
    exact gateB_apply hx0 hx7 hx4 hx2 hx6 r _
end

theorem zeroW (i : S1024x1024.Idx) : (k0_pay4 : FVec Ideal S1024x1024 .f32) i = 0 := by
  pointwise [k0_pay4]

theorem zeroGa (i : S1x512.Idx) : (k0_pay5 : FVec Ideal S1x512 .f32) i = 0 := by
  pointwise [k0_pay5]

theorem zeroGb (i : S1x512.Idx) : (k0_pay6 : FVec Ideal S1x512 .f32) i = 0 := by
  pointwise [k0_pay6]
end
end Cert.OutKernelIdeal.Proj

end
-- ==== Proof.OutArrays.lean ====
/-
  The six result arrays of `out_bwd` at an index, from its eight operands at an index.
-/
module

public import proofs.«01_k».proof.Proof.OutBlock
public import proofs.«01_k».proof.Proof.InArrays
public import Idealize.ShloMosaic.Lib.Pipeline.ValueKit

@[expose] public section

set_option maxRecDepth 16384

noncomputable section

namespace Cert.OutKernelIdeal.Proj

open Cert.OutKernelIdeal Cert.OutKernelIdeal.Gen Idealize.ShloMosaic Idealize.ShloMosaic.TcCoe Idealize.SL.Sem Cert.Gated
open Idealize.ShloMosaic.Pipeline (Dat)
open Cert.InKernelIdeal.Proj (sum_blocks)

/-- Which block of each operand a grid point reads: the block of rows `t`, the gates side by side, the gains and the weight whole. -/
theorem idx : ∀ t : Fin cfg0.N,
    (win0_0.index t = ![t.val, 0] ∧ win0_1.index t = ![t.val, 0] ∧ win0_2.index t = ![t.val, 0] ∧ win0_3.index t = ![t.val, 0] ∧
    win0_4.index t = ![t.val, 1] ∧ win0_5.index t = ![0, 0] ∧ win0_6.index t = ![0, 0]) ∧
    (win0_7.index t = ![0, 0] ∧ win0_8.index t = ![t.val, 0] ∧ win0_9.index t = ![t.val, 0] ∧ win0_10.index t = ![t.val, 0] ∧
    win0_11.index t = ![0, 0] ∧ win0_12.index t = ![0, 0] ∧ win0_13.index t = ![0, 0]) := by
  decide +kernel

theorem lt17 (t : Fin cfg0.N) : t.val < 17 := lt_of_lt_of_eq t.isLt N_0

theorem blk0 (c : Dev nD) (A : Buf (Elt Ideal) ((c : Thread nD τ).loc main_v25)) (t : Fin cfg0.N) (r : Fin 256) (l : Fin 1024) :
    ((cfg0.win 0).blk t).view.read (Elt Ideal) A (ix2 r l) = A (ix2 ⟨t.val * 256 + r.val, by have := lt17 t; omega⟩ l) := by
  have hr := r.isLt
  blk_ext [idx t]

theorem blk1 (c : Dev nD) (A : Buf (Elt Ideal) ((c : Thread nD τ).loc main_v39)) (t : Fin cfg0.N) (r : Fin 256) (l : Fin 512) :
    ((cfg0.win 1).blk t).view.read (Elt Ideal) A (ix2 r l) = A (ix2 ⟨t.val * 256 + r.val, by have := lt17 t; omega⟩ l) := by
  have hr := r.isLt
  blk_ext [idx t]

theorem blk2 (c : Dev nD) (A : Buf (Elt Ideal) ((c : Thread nD τ).loc main_v44)) (t : Fin cfg0.N) (r : Fin 256) (l : Fin 512) :
    ((cfg0.win 2).blk t).view.read (Elt Ideal) A (ix2 r l) = A (ix2 ⟨t.val * 256 + r.val, by have := lt17 t; omega⟩ l) := by
  have hr := r.isLt
  blk_ext [idx t]

theorem blk3 (c : Dev nD) (A : Buf (Elt Ideal) ((c : Thread nD τ).loc main_v20)) (t : Fin cfg0.N) (r : Fin 256) (l : Fin 512) :
    ((cfg0.win 3).blk t).view.read (Elt Ideal) A (ix2 r l) = A (ix2 ⟨t.val * 256 + r.val, by have := lt17 t; omega⟩ ⟨l.val, by omega⟩) := by
  have hr := r.isLt
  blk_ext [idx t]

theorem blk4 (c : Dev nD) (A : Buf (Elt Ideal) ((c : Thread nD τ).loc main_v20)) (t : Fin cfg0.N) (r : Fin 256) (l : Fin 512) :
    ((cfg0.win 4).blk t).view.read (Elt Ideal) A (ix2 r l) = A (ix2 ⟨t.val * 256 + r.val, by have := lt17 t; omega⟩ ⟨512 + l.val, by omega⟩) := by
  have hr := r.isLt
  blk_ext [idx t]

theorem blk5 (c : Dev nD) (A : Buf (Elt Ideal) ((c : Thread nD τ).loc main_v54)) (t : Fin cfg0.N) (l : Fin 512) :
    ((cfg0.win 5).blk t).view.read (Elt Ideal) A (ix2 0 l) = A (ix2 0 l) := by
  blk_ext [idx t]

theorem blk6 (c : Dev nD) (A : Buf (Elt Ideal) ((c : Thread nD τ).loc main_v55)) (t : Fin cfg0.N) (l : Fin 512) :
    ((cfg0.win 6).blk t).view.read (Elt Ideal) A (ix2 0 l) = A (ix2 0 l) := by
  blk_ext [idx t]

theorem blk7 (c : Dev nD) (A : Buf (Elt Ideal) ((c : Thread nD τ).loc main_v68)) (t : Fin cfg0.N) (d : Fin 1024) (l : Fin 1024) :
    ((cfg0.win 7).blk t).view.read (Elt Ideal) A (ix2 d l) = A (ix2 d l) := by
  blk_ext [idx t]

section
variable (m : (ℓ : Loc nD τ sig) → Buf (Elt Ideal) ℓ) (c : Dev nD)
variable (h a b ga gb : ℕ → ℕ → EReal) (oa ob : ℕ → EReal) (w : ℕ → ℕ → EReal)

/-- The call's operands, read by padded row and column. -/
structure Operands : Prop where
  hh : ∀ (R : Fin 4352) (j : Fin 1024), V m c main_v25 (ix2 R j) = h R.val j.val
  ha : ∀ (R : Fin 4352) (d : Fin 512), V m c main_v39 (ix2 R d) = a R.val d.val
  hb : ∀ (R : Fin 4352) (d : Fin 512), V m c main_v44 (ix2 R d) = b R.val d.val
  hga : ∀ (R : Fin 4352) (d : Fin 512), V m c main_v20 (ix2 R ⟨d.val, by omega⟩) = ga R.val d.val
  hgb : ∀ (R : Fin 4352) (d : Fin 512), V m c main_v20 (ix2 R ⟨512 + d.val, by omega⟩) = gb R.val d.val
  hoa : ∀ d : Fin 512, V m c main_v54 (ix2 0 d) = oa d.val
  hob : ∀ d : Fin 512, V m c main_v55 (ix2 0 d) = ob d.val
  hw : ∀ d j : Fin 1024, V m c main_v68 (ix2 d j) = w d.val j.val

variable {m c h a b ga gb oa ob w}
variable (H : Operands m c h a b ga gb oa ob w)
include H

theorem iblk0 (t : Fin cfg0.N) (r : Fin 256) (l : Fin 1024) : iblk m c 0 t (ix2 r l) = h (t.val * 256 + r.val) l.val := by
  unfold iblk
  exact (blk0 c (V m c main_v25) t r l).trans (H.hh _ _)

theorem iblk1 (t : Fin cfg0.N) (r : Fin 256) (l : Fin 512) : iblk m c 1 t (ix2 r l) = a (t.val * 256 + r.val) l.val := by
  unfold iblk
  exact (blk1 c (V m c main_v39) t r l).trans (H.ha _ _)

theorem iblk2 (t : Fin cfg0.N) (r : Fin 256) (l : Fin 512) : iblk m c 2 t (ix2 r l) = b (t.val * 256 + r.val) l.val := by
  unfold iblk
  exact (blk2 c (V m c main_v44) t r l).trans (H.hb _ _)

theorem iblk3 (t : Fin cfg0.N) (r : Fin 256) (l : Fin 512) : iblk m c 3 t (ix2 r l) = ga (t.val * 256 + r.val) l.val := by
  unfold iblk
  exact (blk3 c (V m c main_v20) t r l).trans (H.hga _ _)

theorem iblk4 (t : Fin cfg0.N) (r : Fin 256) (l : Fin 512) : iblk m c 4 t (ix2 r l) = gb (t.val * 256 + r.val) l.val := by
  unfold iblk
  exact (blk4 c (V m c main_v20) t r l).trans (H.hgb _ _)

theorem iblk5 (t : Fin cfg0.N) (l : Fin 512) : iblk m c 5 t (ix2 0 l) = oa l.val := by
  unfold iblk
  exact (blk5 c (V m c main_v54) t l).trans (H.hoa _)

theorem iblk6 (t : Fin cfg0.N) (l : Fin 512) : iblk m c 6 t (ix2 0 l) = ob l.val := by
  unfold iblk
  exact (blk6 c (V m c main_v55) t l).trans (H.hob _)

theorem iblk7 (t : Fin cfg0.N) (d l : Fin 1024) : iblk m c 7 t (ix2 d l) = w d.val l.val := by
  unfold iblk
  exact (blk7 c (V m c main_v68) t d l).trans (H.hw _ _)

/-- One row's part in the weight's gradient. -/
def rowW (h a b ga gb : ℕ → ℕ → EReal) (oa ob : ℕ → EReal) (k j R : ℕ) : EReal :=
  both (yv (a R) (ga R) oa) (yv (b R) (gb R) ob) k * h R j

/-- One row's part in the first gain's gradient. -/
def rowGa (h a ga w : ℕ → ℕ → EReal) (d R : ℕ) : EReal := dn (ga R) (dy (h R) w) d * xh (a R) d

/-- One row's part in the second gain's gradient. -/
def rowGb (h b gb w : ℕ → ℕ → EReal) (d R : ℕ) : EReal := dn (gb R) (fun e => dy (h R) w (512 + e)) d * xh (b R) d

theorem stepW (t : Fin cfg0.N) (xo : Vec Ideal S1024x1024 .f32) (j : S1024x1024.Idx) :
    bodyW (iblk m c 0 t) (iblk m c 1 t) (iblk m c 2 t) (iblk m c 3 t) (iblk m c 4 t) (iblk m c 5 t) (iblk m c 6 t) xo j =
      xo j + (∑ r : Fin 256, rowW h a b ga gb oa ob (j 0).val (j 1).val (t.val * 256 + r.val) : EReal) := by
  idx_vars j
  exact bodyW_apply (iblk0 H t) (iblk1 H t) (iblk2 H t) (iblk3 H t) (iblk4 H t) (iblk5 H t) (iblk6 H t) xo _ _

theorem stepGa (t : Fin cfg0.N) (xo : Vec Ideal S1x512 .f32) (j : S1x512.Idx) :
    bodyGa (iblk m c 0 t) (iblk m c 1 t) (iblk m c 3 t) (iblk m c 7 t) xo j =
      xo j + (∑ r : Fin 256, rowGa h a ga w (j 1).val (t.val * 256 + r.val) : EReal) := by
  have h0 : j 0 = (0 : Fin 1) := Fin.ext (Nat.lt_one_iff.mp (j 0).isLt)
  rw [eq_ix2 j, h0]
  exact bodyGa_apply (iblk0 H t) (iblk7 H t) (iblk3 H t) (iblk1 H t) xo _

theorem stepGb (t : Fin cfg0.N) (xo : Vec Ideal S1x512 .f32) (j : S1x512.Idx) :
    bodyGb (iblk m c 0 t) (iblk m c 2 t) (iblk m c 4 t) (iblk m c 7 t) xo j =
      xo j + (∑ r : Fin 256, rowGb h b gb w (j 1).val (t.val * 256 + r.val) : EReal) := by
  have h0 : j 0 = (0 : Fin 1) := Fin.ext (Nat.lt_one_iff.mp (j 0).isLt)
  rw [eq_ix2 j, h0]
  exact bodyGb_apply (iblk0 H t) (iblk7 H t) (iblk4 H t) (iblk2 H t) xo _

omit H in
/-- A running sum that the first point starts at zero is, at the last point, the sum over all rows. -/
theorem last {S : Shape} (f : (n : ℕ) → n < cfg0.N → S.Idx → EReal) (g : S.Idx → ℕ → EReal)
    (h1 : ∀ (t : Fin cfg0.N), t.val % 17 = 0 → ∀ j, f t.val t.isLt j = 0 + ∑ r : Fin 256, g j (t.val * 256 + r.val))
    (h2 : ∀ (t : Fin cfg0.N), ¬t.val % 17 = 0 → ∀ j, f t.val t.isLt j =
      f (t.val - 1) (Nat.lt_of_le_of_lt (Nat.sub_le _ _) t.isLt) j + ∑ r : Fin 256, g j (t.val * 256 + r.val))
    (t : Fin cfg0.N) (hr : t.val % 17 = 16) (j : S.Idx) : f t.val t.isLt j = ∑ R : Fin 4352, g j R := by
  have ht := lt17 t
  refine (Pipeline.eq_sum_fin_of_reset_step_apply_of_flush (f := f) 17 (fun _ => (0 : EReal))
    (fun t j => ∑ r : Fin 256, g j (t.val * 256 + r.val)) h1 h2 t hr j).trans ?_
  rw [zero_add, ← sum_blocks (g j)]
  refine Finset.sum_congr rfl fun s _ => ?_
  have hs := s.isLt
  dsimp only
  rw [show 17 * (t.val / 17) + s.val = s.val by omega]

theorem lastW (t : Fin cfg0.N) (hr : t.val % 17 = 16) (j : S1024x1024.Idx) :
    (outsAt0 m c t.val t.isLt).2.2.2.1 j = ∑ R : Fin 4352, rowW h a b ga gb oa ob (j 0).val (j 1).val R :=
  last (fun n hn (j : S1024x1024.Idx) => ((outsAt0 m c n hn).2.2.2.1 j : EReal)) (fun j => rowW h a b ga gb oa ob (j 0).val (j 1).val)
    (fun t h0 j => by
      show (outsAt0 m c t.val t.isLt).2.2.2.1 j = _
      rw [outs_first m c t h0]
      dsimp only
      rw [stepW H, zeroW])
    (fun t h0 j => by
      show (outsAt0 m c t.val t.isLt).2.2.2.1 j = _
      rw [outs_next m c t h0]
      dsimp only
      rw [stepW H]) t hr j

theorem lastGa (t : Fin cfg0.N) (hr : t.val % 17 = 16) (j : S1x512.Idx) :
    (outsAt0 m c t.val t.isLt).2.2.2.2.1 j = ∑ R : Fin 4352, rowGa h a ga w (j 1).val R :=
  last (fun n hn (j : S1x512.Idx) => ((outsAt0 m c n hn).2.2.2.2.1 j : EReal)) (fun j => rowGa h a ga w (j 1).val)
    (fun t h0 j => by
      show (outsAt0 m c t.val t.isLt).2.2.2.2.1 j = _
      rw [outs_first m c t h0]
      dsimp only
      rw [stepGa H, zeroGa])
    (fun t h0 j => by
      show (outsAt0 m c t.val t.isLt).2.2.2.2.1 j = _
      rw [outs_next m c t h0]
      dsimp only
      rw [stepGa H]) t hr j

theorem lastGb (t : Fin cfg0.N) (hr : t.val % 17 = 16) (j : S1x512.Idx) :
    (outsAt0 m c t.val t.isLt).2.2.2.2.2 j = ∑ R : Fin 4352, rowGb h b gb w (j 1).val R :=
  last (fun n hn (j : S1x512.Idx) => ((outsAt0 m c n hn).2.2.2.2.2 j : EReal)) (fun j => rowGb h b gb w (j 1).val)
    (fun t h0 j => by
      show (outsAt0 m c t.val t.isLt).2.2.2.2.2 j = _
      rw [outs_first m c t h0]
      dsimp only
      rw [stepGb H, zeroGb])
    (fun t h0 j => by
      show (outsAt0 m c t.val t.isLt).2.2.2.2.2 j = _
      rw [outs_next m c t h0]
      dsimp only
      rw [stepGb H]) t hr j

/-- The gradient of the first half. -/
theorem a_arr (j : S4352x512.Idx) : (dats m 0 c).arrAt 8 cfg0.N j = dA (a (j 0).val) (ga (j 0).val) oa (dy (h (j 0).val) w) (j 1).val := by
  refine (dats m 0 c).arrAt_forall_of_covers 8 (fun j z => z = dA (a (j 0).val) (ga (j 0).val) oa (dy (h (j 0).val) w) (j 1).val)
    (by decide +kernel) (fun t hf i => ?_) j
  have ht := lt17 t
  have h0 : (i 0).val < 256 := (i 0).isLt
  have h1 : (i 1).val < 512 := (i 1).isLt
  blk_simp [idx t]
  rw [after0_8, ← ix2_eta i, (outs_rows m c t).1]
  exact bodyA_apply (iblk0 H t) (iblk7 H t) (iblk3 H t) (iblk1 H t) (iblk5 H t) (i 0) (i 1)

/-- The gradient of the second half. -/
theorem b_arr (j : S4352x512.Idx) : (dats m 0 c).arrAt 9 cfg0.N j =
    dA (b (j 0).val) (gb (j 0).val) ob (fun e => dy (h (j 0).val) w (512 + e)) (j 1).val := by
  refine (dats m 0 c).arrAt_forall_of_covers 9
    (fun j z => z = dA (b (j 0).val) (gb (j 0).val) ob (fun e => dy (h (j 0).val) w (512 + e)) (j 1).val)
    (by decide +kernel) (fun t hf i => ?_) j
  have ht := lt17 t
  have h0 : (i 0).val < 256 := (i 0).isLt
  have h1 : (i 1).val < 512 := (i 1).isLt
  blk_simp [idx t]
  rw [after0_9, ← ix2_eta i, (outs_rows m c t).2.1]
  exact bodyB_apply (iblk0 H t) (iblk7 H t) (iblk4 H t) (iblk2 H t) (iblk6 H t) (i 0) (i 1)

/-- The gradients of both gates of one row. -/
def rowG (h a b ga gb : ℕ → ℕ → EReal) (oa ob : ℕ → EReal) (w : ℕ → ℕ → EReal) (R l : ℕ) : EReal :=
  both (dG (a R) (ga R) oa (dy (h R) w)) (dG (b R) (gb R) ob (fun e => dy (h R) w (512 + e))) l

/-- The gradients of the gates. -/
theorem g_arr (j : S4352x1024.Idx) : (dats m 0 c).arrAt 10 cfg0.N j = rowG h a b ga gb oa ob w (j 0).val (j 1).val := by
  refine (dats m 0 c).arrAt_forall_of_covers 10 (fun j z => z = rowG h a b ga gb oa ob w (j 0).val (j 1).val)
    (by decide +kernel) (fun t hf i => ?_) j
  have ht := lt17 t
  have h0 : (i 0).val < 256 := (i 0).isLt
  have h1 : (i 1).val < 1024 := (i 1).isLt
  blk_simp [idx t]
  rw [after0_10, ← ix2_eta i, (outs_rows m c t).2.2]
  exact bodyG_apply (iblk0 H t) (iblk1 H t) (iblk2 H t) (iblk3 H t) (iblk4 H t) (iblk5 H t) (iblk6 H t) (iblk7 H t) (i 0) (i 1)

/-- The weight's gradient. -/
theorem w_arr (j : S1024x1024.Idx) : (dats m 0 c).arrAt 11 cfg0.N j = ∑ R : Fin 4352, rowW h a b ga gb oa ob (j 0).val (j 1).val R := by
  refine (dats m 0 c).arrAt_forall_of_covers 11 (fun j z => z = ∑ R : Fin 4352, rowW h a b ga gb oa ob (j 0).val (j 1).val R)
    (by decide +kernel) (fun t hf i => ?_) j
  have hm := (flush0_11 t).mp hf
  have h0 : (i 0).val < 1024 := (i 0).isLt
  have h1 : (i 1).val < 1024 := (i 1).isLt
  blk_simp [idx t]
  rw [after0_11]
  exact lastW H t hm i

/-- The first gain's gradient. -/
theorem ga_arr (j : S1x512.Idx) : (dats m 0 c).arrAt 12 cfg0.N j = ∑ R : Fin 4352, rowGa h a ga w (j 1).val R := by
  refine (dats m 0 c).arrAt_forall_of_covers 12 (fun j z => z = ∑ R : Fin 4352, rowGa h a ga w (j 1).val R)
    (by decide +kernel) (fun t hf i => ?_) j
  have hm := (flush0_12 t).mp hf
  have h1 : (i 1).val < 512 := (i 1).isLt
  blk_simp [idx t]
  rw [after0_12]
  exact lastGa H t hm i

/-- The second gain's gradient. -/
theorem gb_arr (j : S1x512.Idx) : (dats m 0 c).arrAt 13 cfg0.N j = ∑ R : Fin 4352, rowGb h b gb w (j 1).val R := by
  refine (dats m 0 c).arrAt_forall_of_covers 13 (fun j z => z = ∑ R : Fin 4352, rowGb h b gb w (j 1).val R)
    (by decide +kernel) (fun t hf i => ?_) j
  have hm := (flush0_13 t).mp hf
  have h1 : (i 1).val < 512 := (i 1).isLt
  blk_simp [idx t]
  rw [after0_13]
  exact lastGb H t hm i
end
end Cert.OutKernelIdeal.Proj

end
-- ==== Proof.OutPrefix.lean ====
/-
  The operands of `out_bwd` from the arguments: the host's lines before the launch, read at an index.
-/
module

public import proofs.«01_k».proof.Proof.OutArrays
public import proofs.«01_k».proof.Proof.InPrefix

@[expose] public section

set_option maxRecDepth 16384

noncomputable section

namespace Cert.OutKernelIdeal.Proj

open Cert.OutKernelIdeal Cert.OutKernelIdeal.Gen Idealize.ShloMosaic Idealize.ShloMosaic.TcCoe Idealize.SL.Sem Cert.Proj
open Idealize.ShloMosaic.StableHlo

variable (m : (ℓ : Loc nD τ sig) → Buf (Elt Ideal) ℓ) (c : Dev nD)

/-- The buffers after the first gate by padded row. -/
def W0 : Valuation τ sig (Elt Ideal) := after (hostOps0.take 6) (fun b => m (c, b))

/-- The buffers after the heads of the first gate. -/
def W1 : Valuation τ sig (Elt Ideal) := after ((hostOps0.take 15).drop 6) (W0 m c)

/-- The buffers after the second gate by padded row. -/
def Wb : Valuation τ sig (Elt Ideal) := after ((hostOps0.take 21).drop 15) (W1 m c)

/-- The buffers after the first half by padded row. -/
def W2 : Valuation τ sig (Elt Ideal) := after ((hostOps0.take 36).drop 21) (Wb m c)

/-- The buffers after both halves. -/
def W3 : Valuation τ sig (Elt Ideal) := after ((hostOps0.take 51).drop 36) (W2 m c)

theorem V_eq (r) : V m c r = after (hostOps0.drop 51) (W3 m c) (Proc.tc.devRef r) := by
  have h : (hostOps0 (F := Ideal)) = hostOps0.take 6 ++ (hostOps0.take 15).drop 6 ++ (hostOps0.take 21).drop 15 ++ (hostOps0.take 36).drop 21 ++ (hostOps0.take 51).drop 36 ++ hostOps0.drop 51 := rfl
  unfold V
  rw [h, after_append, after_append, after_append, after_append, after_append]
  rfl

/-- A weight whose first rows are taken by head. -/
def rowsW (w : ℕ → ℕ → EReal) (k j : ℕ) : EReal := if k < 512 then w (inter k) j else w k j

/-- The arguments, read by sequence, token and column. -/
structure Args (t a b ga gb : ℕ → ℕ → ℕ → EReal) (oa ob : ℕ → EReal) (w : ℕ → ℕ → EReal) : Prop where
  a0 : ∀ (s : Fin 2) (x : Fin 2064) (d : Fin 1024), m (c, Proc.tc.devRef main_arg0) (ix3 s x d) = t s.val x.val d.val
  a1 : ∀ (s : Fin 2) (x : Fin 2064) (d : Fin 512), m (c, Proc.tc.devRef main_arg1) (ix3 s x d) = a s.val x.val d.val
  a2 : ∀ (s : Fin 2) (x : Fin 2064) (d : Fin 512), m (c, Proc.tc.devRef main_arg2) (ix3 s x d) = b s.val x.val d.val
  a3 : ∀ (s : Fin 2) (x : Fin 2064) (d : Fin 512), m (c, Proc.tc.devRef main_arg3) (ix3 s x d) = ga s.val x.val d.val
  a4 : ∀ (s : Fin 2) (x : Fin 2064) (d : Fin 512), m (c, Proc.tc.devRef main_arg4) (ix3 s x d) = gb s.val x.val d.val
  a5 : ∀ d : Fin 512, m (c, Proc.tc.devRef main_arg5) (ix1 d) = oa d.val
  a6 : ∀ d : Fin 512, m (c, Proc.tc.devRef main_arg6) (ix1 d) = ob d.val
  a7 : ∀ d j : Fin 1024, m (c, Proc.tc.devRef main_arg7) (ix2 d j) = w d.val j.val

theorem Wb_arg0 : Wb m c (Proc.tc.devRef main_arg0) = m (c, Proc.tc.devRef main_arg0) := by unfold Wb W1 W0; after_reads_simp
theorem Wb_arg1 : Wb m c (Proc.tc.devRef main_arg1) = m (c, Proc.tc.devRef main_arg1) := by unfold Wb W1 W0; after_reads_simp
theorem W1_arg4 : W1 m c (Proc.tc.devRef main_arg4) = m (c, Proc.tc.devRef main_arg4) := by unfold W1 W0; after_reads_simp
theorem W2_arg2 : W2 m c (Proc.tc.devRef main_arg2) = m (c, Proc.tc.devRef main_arg2) := by unfold W2 Wb W1 W0; after_reads_simp
theorem W3_arg5 : W3 m c (Proc.tc.devRef main_arg5) = m (c, Proc.tc.devRef main_arg5) := by unfold W3 W2 Wb W1 W0; after_reads_simp
theorem W3_arg6 : W3 m c (Proc.tc.devRef main_arg6) = m (c, Proc.tc.devRef main_arg6) := by unfold W3 W2 Wb W1 W0; after_reads_simp
theorem W3_arg7 : W3 m c (Proc.tc.devRef main_arg7) = m (c, Proc.tc.devRef main_arg7) := by unfold W3 W2 Wb W1 W0; after_reads_simp
theorem Wb_v13 : Wb m c (Proc.tc.devRef main_v13) = W1 m c (Proc.tc.devRef main_v13) := by unfold Wb; after_reads_simp
theorem V_v20 : V m c main_v20 = W2 m c (Proc.tc.devRef main_v20) := by rw [V_eq]; unfold W3; after_reads_simp
theorem V_v25 : V m c main_v25 = W2 m c (Proc.tc.devRef main_v25) := by rw [V_eq]; unfold W3; after_reads_simp
theorem V_v39 : V m c main_v39 = W3 m c (Proc.tc.devRef main_v39) := by rw [V_eq]; after_reads_simp
theorem V_v44 : V m c main_v44 = W3 m c (Proc.tc.devRef main_v44) := by rw [V_eq]; after_reads_simp

section
variable {m c}
variable {t a b ga gb : ℕ → ℕ → ℕ → EReal} {oa ob : ℕ → EReal} {w : ℕ → ℕ → EReal} (A : Args m c t a b ga gb oa ob w)
include A

theorem p_at (R : Fin 4352) (e : Fin 512) : W0 m c (Proc.tc.devRef main_v4) (ix2 R e) = atR ga R e := by
  unfold W0
  after_reads_at
  refine dite_eq (fun h1 => ?_) (fun h1 => dite_eq (fun h2 => ?_) (fun h2 => ?_))
  · after_reads_at
    exact (A.a3 _ _ _).trans (atR_lo ga h1)
  · after_reads_at
    exact (atR_pad ga h1 h2).symm
  · after_reads_at
    exact (A.a3 _ _ _).trans (atR_hi ga h1 h2)

theorem pa_at (R : Fin 4352) (l : Fin 512) : W1 m c (Proc.tc.devRef main_v13) (ix2 R l) = atR ga R (inter l) := by
  have hl := l.isLt
  unfold W1
  after_reads_at
  iterate 7
    refine dite_eq (fun h => ?_) (fun h => ?_)
    · after_reads_at
      exact (p_at A _ _).trans (congrArg (fun e : ℕ => atR ga R e) (by unfold inter; (try dsimp only); omega))
  after_reads_at
  exact (p_at A _ _).trans (congrArg (fun e : ℕ => atR ga R e) (by unfold inter; (try dsimp only); omega))

theorem pb_at (R : Fin 4352) (e : Fin 512) : Wb m c (Proc.tc.devRef main_v18) (ix2 R e) = atR gb R e := by
  unfold Wb
  after_reads_at
  refine dite_eq (fun h1 => ?_) (fun h1 => dite_eq (fun h2 => ?_) (fun h2 => ?_))
  · after_reads_at
    exact ((congrFun (W1_arg4 m c) _).trans (A.a4 _ _ _)).trans (atR_lo gb h1)
  · after_reads_at
    exact (atR_pad gb h1 h2).symm
  · after_reads_at
    exact ((congrFun (W1_arg4 m c) _).trans (A.a4 _ _ _)).trans (atR_hi gb h1 h2)

theorem h_at (R : Fin 4352) (e : Fin 1024) : W2 m c (Proc.tc.devRef main_v25) (ix2 R e) = atR t R e := by
  unfold W2
  after_reads_at
  refine dite_eq (fun h1 => ?_) (fun h1 => dite_eq (fun h2 => ?_) (fun h2 => ?_))
  · after_reads_at
    exact ((congrFun (Wb_arg0 m c) _).trans (A.a0 _ _ _)).trans (atR_lo t h1)
  · after_reads_at
    exact (atR_pad t h1 h2).symm
  · after_reads_at
    exact ((congrFun (Wb_arg0 m c) _).trans (A.a0 _ _ _)).trans (atR_hi t h1 h2)

theorem y_at (R : Fin 4352) (e : Fin 512) : W2 m c (Proc.tc.devRef main_v30) (ix2 R e) = atR a R e := by
  unfold W2
  after_reads_at
  refine dite_eq (fun h1 => ?_) (fun h1 => dite_eq (fun h2 => ?_) (fun h2 => ?_))
  · after_reads_at
    exact ((congrFun (Wb_arg1 m c) _).trans (A.a1 _ _ _)).trans (atR_lo a h1)
  · after_reads_at
    exact (atR_pad a h1 h2).symm
  · after_reads_at
    exact ((congrFun (Wb_arg1 m c) _).trans (A.a1 _ _ _)).trans (atR_hi a h1 h2)

theorem ya_at (R : Fin 4352) (l : Fin 512) : W3 m c (Proc.tc.devRef main_v39) (ix2 R l) = atR a R (inter l) := by
  have hl := l.isLt
  unfold W3
  after_reads_at
  iterate 7
    refine dite_eq (fun h => ?_) (fun h => ?_)
    · after_reads_at
      exact (y_at A _ _).trans (congrArg (fun e : ℕ => atR a R e) (by unfold inter; (try dsimp only); omega))
  after_reads_at
  exact (y_at A _ _).trans (congrArg (fun e : ℕ => atR a R e) (by unfold inter; (try dsimp only); omega))

theorem yb_at (R : Fin 4352) (e : Fin 512) : W3 m c (Proc.tc.devRef main_v44) (ix2 R e) = atR b R e := by
  unfold W3
  after_reads_at
  refine dite_eq (fun h1 => ?_) (fun h1 => dite_eq (fun h2 => ?_) (fun h2 => ?_))
  · after_reads_at
    exact ((congrFun (W2_arg2 m c) _).trans (A.a2 _ _ _)).trans (atR_lo b h1)
  · after_reads_at
    exact (atR_pad b h1 h2).symm
  · after_reads_at
    exact ((congrFun (W2_arg2 m c) _).trans (A.a2 _ _ _)).trans (atR_hi b h1 h2)

theorem ga_at (R : Fin 4352) (d : Fin 512) : W2 m c (Proc.tc.devRef main_v20) (ix2 R ⟨d.val, by omega⟩) = atR ga R (inter d) := by
  have hd := d.isLt
  unfold W2
  after_reads_at
  exact (congrFun (Wb_v13 m c) _).trans (pa_at A _ _)

theorem gb_at (R : Fin 4352) (d : Fin 512) : W2 m c (Proc.tc.devRef main_v20) (ix2 R ⟨512 + d.val, by omega⟩) = atR gb R d := by
  have hd := d.isLt
  unfold W2
  after_reads_at
  exact (pb_at A _ _).trans (congrArg (fun e : ℕ => atR gb R e) (by dsimp only))

theorem oa_at (d : Fin 512) : V m c main_v54 (ix2 0 d) = oa (inter d) := by
  have hd := d.isLt
  rw [V_eq]
  after_reads_at
  iterate 7
    refine dite_eq (fun h => ?_) (fun h => ?_)
    · after_reads_at
      exact ((congrFun (W3_arg5 m c) _).trans (A.a5 _)).trans (congrArg oa (by unfold inter; (try dsimp only); omega))
  after_reads_at
  exact ((congrFun (W3_arg5 m c) _).trans (A.a5 _)).trans (congrArg oa (by unfold inter; (try dsimp only); omega))

theorem ob_at (d : Fin 512) : V m c main_v55 (ix2 0 d) = ob d := by
  rw [V_eq]
  after_reads_at
  exact (congrFun (W3_arg6 m c) _).trans (A.a6 _)

set_option maxHeartbeats 2000000 in
theorem w_at (d j : Fin 1024) : V m c main_v68 (ix2 d j) = rowsW w d j := by
  have hd := d.isLt
  rw [V_eq]
  after_reads_at
  refine dite_eq (fun h1 => ?_) (fun h1 => ?_)
  · rw [rowsW, if_pos h1]
    after_reads_at
    iterate 7
      refine dite_eq (fun h => ?_) (fun h => ?_)
      · after_reads_at
        exact ((congrFun (W3_arg7 m c) _).trans (A.a7 _ _)).trans (congrArg (fun e : ℕ => w e j) (by unfold inter; (try dsimp only); omega))
    after_reads_at
    exact ((congrFun (W3_arg7 m c) _).trans (A.a7 _ _)).trans (congrArg (fun e : ℕ => w e j) (by unfold inter; (try dsimp only); omega))
  · rw [rowsW, if_neg h1]
    after_reads_at
    exact ((congrFun (W3_arg7 m c) _).trans (A.a7 _ _)).trans (congrArg (fun e : ℕ => w e j) (by dsimp only; omega))

/-- The call's operands. -/
theorem operands : Operands m c (atR t) (fun R d => atR a R (inter d)) (atR b) (fun R d => atR ga R (inter d)) (atR gb)
    (fun d => oa (inter d)) ob (rowsW w) where
  hh := fun R j => (congrFun (V_v25 m c) _).trans (h_at A R j)
  ha := fun R d => (congrFun (V_v39 m c) _).trans (ya_at A R d)
  hb := fun R d => (congrFun (V_v44 m c) _).trans (yb_at A R d)
  hga := fun R d => (congrFun (V_v20 m c) _).trans (ga_at A R d)
  hgb := fun R d => (congrFun (V_v20 m c) _).trans (gb_at A R d)
  hoa := oa_at A
  hob := ob_at A
  hw := w_at A
end
end Cert.OutKernelIdeal.Proj

end
-- ==== Proof.OutRef.lean ====
/-
  The six results of `out_projection_bwd` at an index.
-/
module

public import proofs.«01_k».proof.Proof.OutBlock
public import proofs.«01_k».proof.Proof.InRef
public import proofs.«01_k».proof.Proof.Gen.OutReferenceIdeal.Read
public import Idealize.ShloMosaic.Lib.Pointwise
public import Idealize.ShloMosaic.Lib.TwoAxisContraction

@[expose] public section

set_option maxRecDepth 16384

noncomputable section

namespace Cert.Gated

open Idealize.ShloMosaic Cert.KernelIdeal.Mla

theorem n_lit : Ideal.ofBits FTy.f32 0x44000000#32 = ((512 : ℝ) : EReal) := by
  simp [Ideal.ofBits, Ideal.ieee, -EReal.coe_mul]; norm_num

/-- The gradient of a half is real when the projection's gradient and the weight are. -/
theorem dy_real {h : ℕ → EReal} {w : ℕ → ℕ → EReal} {d : ℕ} (hh : ∀ j : Fin 1024, h j = (((h j).toReal : ℝ) : EReal))
    (hw : ∀ j : Fin 1024, w d j = (((w d j).toReal : ℝ) : EReal)) : ∃ x : ℝ, dy h w d = ((x : ℝ) : EReal) := by
  refine ⟨∑ j : Fin 1024, (h j).toReal * (w d j).toReal, ?_⟩
  rw [dy, coe_sum]
  refine Finset.sum_congr rfl fun j _ => ?_
  rw [EReal.coe_mul, ← hh j, ← hw j]

end Cert.Gated

namespace Cert.OutReferenceIdeal.Proj

open Cert.OutReferenceIdeal Cert.OutReferenceIdeal.Gen Cert.OutReferenceIdeal.Read Idealize.ShloMosaic Cert.Gated
open Cert.Proj (eps_lit atR atR_lo atR_pad atR_hi inter dite_eq)
open Cert.InKernelIdeal.Proj (sumE addE subE mulE)
open Cert.InReferenceIdeal.Proj (sum01 half_lit)

/-- The arguments, read by sequence, token and column, every element a real number. -/
structure Args (x0 : FVec Ideal S2x2064x1024 .f32) (x1 x2 x3 x4 : FVec Ideal S2x2064x512 .f32) (x5 x6 : FVec Ideal S512 .f32)
    (x7 : FVec Ideal S1024x1024 .f32) (t a b ga gb : ℕ → ℕ → ℕ → EReal) (oa ob : ℕ → EReal) (w : ℕ → ℕ → EReal) : Prop where
  a0 : ∀ (s : Fin 2) (x : Fin 2064) (d : Fin 1024), x0 (ix3 s x d) = t s.val x.val d.val
  a1 : ∀ (s : Fin 2) (x : Fin 2064) (d : Fin 512), x1 (ix3 s x d) = a s.val x.val d.val
  a2 : ∀ (s : Fin 2) (x : Fin 2064) (d : Fin 512), x2 (ix3 s x d) = b s.val x.val d.val
  a3 : ∀ (s : Fin 2) (x : Fin 2064) (d : Fin 512), x3 (ix3 s x d) = ga s.val x.val d.val
  a4 : ∀ (s : Fin 2) (x : Fin 2064) (d : Fin 512), x4 (ix3 s x d) = gb s.val x.val d.val
  a5 : ∀ d : Fin 512, x5 (ix1 d) = oa d.val
  a6 : ∀ d : Fin 512, x6 (ix1 d) = ob d.val
  a7 : ∀ d j : Fin 1024, x7 (ix2 d j) = w d.val j.val
  f0 : ∀ i, x0 i = (((x0 i : EReal).toReal : ℝ) : EReal)
  f1 : ∀ i, x1 i = (((x1 i : EReal).toReal : ℝ) : EReal)
  f2 : ∀ i, x2 i = (((x2 i : EReal).toReal : ℝ) : EReal)
  f3 : ∀ i, x3 i = (((x3 i : EReal).toReal : ℝ) : EReal)
  f4 : ∀ i, x4 i = (((x4 i : EReal).toReal : ℝ) : EReal)
  f5 : ∀ i, x5 i = (((x5 i : EReal).toReal : ℝ) : EReal)
  f6 : ∀ i, x6 i = (((x6 i : EReal).toReal : ℝ) : EReal)
  f7 : ∀ i, x7 i = (((x7 i : EReal).toReal : ℝ) : EReal)

variable {x0 : FVec Ideal S2x2064x1024 .f32} {x1 x2 x3 x4 : FVec Ideal S2x2064x512 .f32} {x5 x6 : FVec Ideal S512 .f32}
    {x7 : FVec Ideal S1024x1024 .f32} {t a b ga gb : ℕ → ℕ → ℕ → EReal} {oa ob : ℕ → EReal} {w : ℕ → ℕ → EReal}

omit x0 x1 x2 x3 x4 x5 x6 x7 t a b ga gb oa ob w in
/-- A read element of a real array is real. -/
theorem realE {S : Shape} {v : S.Idx → EReal} (f : ∀ i, v i = (((v i).toReal : ℝ) : EReal)) {i : S.Idx} {z : EReal} (h : v i = z) :
    z = ((z.toReal : ℝ) : EReal) := h ▸ f i

variable (A : Args x0 x1 x2 x3 x4 x5 x6 x7 t a b ga gb oa ob w)
include A

theorem dy_at (s : Fin 2) (x : Fin 2064) (e : Fin 1024) : val_main_v40 (F := Ideal) x0 x7 (ix3 s x e) = dy (t s x) w e := by
  pointwise [val_main_v40]
  exact sumE fun j : Fin 1024 => mulE (A.a0 s x j) (A.a7 e j)

theorem dy_fin (s : Fin 2) (x : Fin 2064) (e : Fin 1024) : ∃ r : ℝ, dy (t s x) w e = ((r : ℝ) : EReal) :=
  dy_real (fun j => realE A.f0 (A.a0 s x j)) (fun j => realE A.f7 (A.a7 e j))

/-! ### The first half -/

theorem msA_at (s : Fin 2) (x : Fin 2064) : val_main_v6 (F := Ideal) x1 (ix3 s x 0) = ms (a s x) := by
  pointwise [val_main_v6, val_main_v5, val_main_v4, val_main_v3, val_main_v2, val_main_v1, val_main_v0, val_main_cst, val_main_cst_0, val_main_cst_1]
  rw [sumE fun d : Fin 512 => mulE (A.a1 s x d) (A.a1 s x d), n_lit, eps_lit, Ideal.div_coe (by norm_num), ms]

theorem rsA_at (s : Fin 2) (x : Fin 2064) : val_main_v7 (F := Ideal) x1 (ix3 s x 0) = rs (a s x) :=
  congrArg Ideal.rsqrt (msA_at A s x)

theorem xhA_at (s : Fin 2) (x : Fin 2064) (d : Fin 512) : val_main_v12 (F := Ideal) x1 (ix3 s x d) = xh (a s x) d := by
  pointwise [val_main_v12, val_main_v11]
  exact mulE (A.a1 s x d) (rsA_at A s x)

theorem xoA_at (s : Fin 2) (x : Fin 2064) (d : Fin 512) : val_main_v15 (F := Ideal) x1 x5 (ix3 s x d) = xh (a s x) d * oa d := by
  pointwise [val_main_v15, val_main_v14, val_main_v13]
  exact mulE (xhA_at A s x d) (A.a5 d)

theorem sgA_at (s : Fin 2) (x : Fin 2064) (d : Fin 512) : val_main_v16_2 (F := Ideal) x3 (ix3 s x d) = sgm (ga s x d) := by
  pointwise [val_main_v16_2, val_main_call0_v4, val_main_call0_cst_0, val_main_call0_v3, val_main_call0_v2, val_main_call0_cst, val_main_call0_v1, val_main_call0_v0]
  rw [A.a3 s x d]
  rfl

theorem slA_at (s : Fin 2) (x : Fin 2064) (d : Fin 512) : val_main_v16_0 (F := Ideal) x3 (ix3 s x d) = ga s x d * sgm (ga s x d) := by
  pointwise [val_main_v16_0]
  exact mulE (A.a3 s x d) (sgA_at A s x d)

theorem sdA_at (s : Fin 2) (x : Fin 2064) (d : Fin 512) : val_main_v16_1 (F := Ideal) x3 (ix3 s x d)
    = sgm (ga s x d) * (1 - sgm (ga s x d)) := by
  pointwise [val_main_v16_1, val_main_call0_v7, val_main_call0_v6, val_main_call0_cst_1]
  rw [sgA_at A s x d]

theorem yA_at (s : Fin 2) (x : Fin 2064) (d : Fin 512) : val_main_v17 (F := Ideal) x1 x3 x5 (ix3 s x d) = yv (a s x) (ga s x) oa d := by
  pointwise [val_main_v17]
  exact mulE (xoA_at A s x d) (slA_at A s x d)

theorem dnA_at (s : Fin 2) (x : Fin 2064) (d : Fin 512) : val_main_v67 (F := Ideal) x0 x3 x7 (ix3 s x d) = dn (ga s x) (dy (t s x) w) d := by
  have hd := d.isLt
  pointwise [val_main_v67, val_main_v41]
  exact mulE (dy_at A s x ⟨d.val, by omega⟩) (slA_at A s x d)

theorem zA_at (s : Fin 2) (x : Fin 2064) (d : Fin 512) : val_main_v66 (F := Ideal) x0 x1 x5 x7 (ix3 s x d)
    = xh (a s x) d * oa d * dy (t s x) w d := by
  have hd := d.isLt
  pointwise [val_main_v66, val_main_v41]
  exact mulE (xoA_at A s x d) (dy_at A s x ⟨d.val, by omega⟩)

theorem dGA_at (s : Fin 2) (x : Fin 2064) (d : Fin 512) : val_main_v68 (F := Ideal) x0 x1 x3 x5 x7 (ix3 s x d)
    = dG (a s x) (ga s x) oa (dy (t s x) w) d := by
  have hd := d.isLt
  pointwise [val_main_v68, val_main_call3_v1, val_main_call3_v2, val_main_call3_v0]
  refine (addE (mulE (zA_at A s x d) (sgA_at A s x d))
    (mulE (mulE (A.a3 s x d) (zA_at A s x d)) (sdA_at A s x d))).trans ?_
  exact dG_of (a s x) (ga s x) oa (dy (t s x) w) d (fun e => realE A.f1 (A.a1 s x e)) (realE A.f3 (A.a3 s x d))
    (realE A.f5 (A.a5 d)) (dy_fin A s x ⟨d.val, by omega⟩)

theorem doA_at (s : Fin 2) (x : Fin 2064) (d : Fin 512) : val_main_v73 (F := Ideal) x0 x3 x5 x7 (ix3 s x d)
    = dn (ga s x) (dy (t s x) w) d * oa d := by
  pointwise [val_main_v73, val_main_v72, val_main_v13]
  exact mulE (dnA_at A s x d) (A.a5 d)

theorem rowA_at (s : Fin 2) (x : Fin 2064) : val_main_v77 (F := Ideal) x0 x1 x3 x5 x7 (ix3 s x 0)
    = ∑ e : Fin 512, a s x e * (dn (ga s x) (dy (t s x) w) e * oa e) := by
  pointwise [val_main_v77, val_main_v76, val_main_v75, val_main_cst_14]
  exact sumE fun e : Fin 512 => mulE (A.a1 s x e) (doA_at A s x e)

theorem halfA_at (s : Fin 2) (x : Fin 2064) : val_main_v10 (F := Ideal) x1 (ix3 s x 0)
    = ((-(1 / 2) : ℝ) : EReal) * Ideal.div (rs (a s x)) (ms (a s x)) := by
  pointwise [val_main_v10, val_main_v9, val_main_v8, val_main_cst_2]
  rw [rsA_at A, msA_at A, half_lit]

theorem corrA_at (s : Fin 2) (x : Fin 2064) (d : Fin 512) : val_main_v84 (F := Ideal) x0 x1 x3 x5 x7 (ix3 s x d)
    = Ideal.div ((∑ e : Fin 512, a s x e * (dn (ga s x) (dy (t s x) w) e * oa e))
      * (((-(1 / 2) : ℝ) : EReal) * Ideal.div (rs (a s x)) (ms (a s x)))) ((512 : ℝ) : EReal) := by
  pointwise [val_main_v84, val_main_v83, val_main_v82, val_main_v81, val_main_v80, val_main_cst_15, val_main_cst_16]
  simp only [Finset.univ_unique, Finset.sum_singleton, Fin.default_eq_zero]
  rw [mulE (rowA_at A s x) (halfA_at A s x), n_lit]

theorem dAA_at (s : Fin 2) (x : Fin 2064) (d : Fin 512) : val_main_v88 (F := Ideal) x0 x1 x3 x5 x7 (ix3 s x d)
    = dA (a s x) (ga s x) oa (dy (t s x) w) d := by
  pointwise [val_main_v88, val_main_v87, val_main_v86, val_main_v85, val_main_v79, val_main_v78]
  refine (addE (addE (mulE (doA_at A s x d) (rsA_at A s x)) (mulE (A.a1 s x d) (corrA_at A s x d)))
    (mulE (corrA_at A s x d) (A.a1 s x d))).trans ?_
  exact dA_lines (a s x) (ga s x) oa (dy (t s x) w) d _ (fun e => realE A.f1 (A.a1 s x e)) rfl

theorem gainA_at (d : Fin 512) : val_main_v74 (F := Ideal) x0 x1 x3 x7 (ix1 d)
    = ∑ s : Fin 2, ∑ x : Fin 2064, xh (a s x) d * dn (ga s x) (dy (t s x) w) d := by
  pointwise [val_main_v74]
  simp only [sum01 reducesTo_S1x1x512_S512_d0_1 (by decide) rfl rfl]
  pointwise [val_main_v71, val_main_v70, val_main_cst_13]
  simp only [Finset.univ_unique, Finset.sum_singleton, Fin.default_eq_zero]
  simp only [sum01 reducesTo_S2x2064x512_S512_d0_1 (by decide) rfl rfl]
  pointwise [val_main_v69, val_main_cst_12]
  exact sumE fun s : Fin 2 => sumE fun x : Fin 2064 => mulE (xhA_at A s x d) (dnA_at A s x d)

/-! ### The second half -/

/-- The same arguments, the halves exchanged: up to the gradient of the halves the reference has the same lines for both. -/
theorem swap : Args x0 x2 x1 x4 x3 x6 x5 x7 t b a gb ga ob oa w :=
  ⟨A.a0, A.a2, A.a1, A.a4, A.a3, A.a6, A.a5, A.a7, A.f0, A.f2, A.f1, A.f4, A.f3, A.f6, A.f5, A.f7⟩

theorem rsB_at (s : Fin 2) (x : Fin 2064) : val_main_v25 (F := Ideal) x2 (ix3 s x 0) = rs (b s x) := rsA_at (swap A) s x

theorem xhB_at (s : Fin 2) (x : Fin 2064) (d : Fin 512) : val_main_v30 (F := Ideal) x2 (ix3 s x d) = xh (b s x) d := xhA_at (swap A) s x d

theorem xoB_at (s : Fin 2) (x : Fin 2064) (d : Fin 512) : val_main_v33 (F := Ideal) x2 x6 (ix3 s x d) = xh (b s x) d * ob d :=
  xoA_at (swap A) s x d

theorem sgB_at (s : Fin 2) (x : Fin 2064) (d : Fin 512) : val_main_v34_2 (F := Ideal) x4 (ix3 s x d) = sgm (gb s x d) := sgA_at (swap A) s x d

theorem slB_at (s : Fin 2) (x : Fin 2064) (d : Fin 512) : val_main_v34_0 (F := Ideal) x4 (ix3 s x d) = gb s x d * sgm (gb s x d) :=
  slA_at (swap A) s x d

theorem sdB_at (s : Fin 2) (x : Fin 2064) (d : Fin 512) : val_main_v34_1 (F := Ideal) x4 (ix3 s x d)
    = sgm (gb s x d) * (1 - sgm (gb s x d)) := sdA_at (swap A) s x d

theorem yB_at (s : Fin 2) (x : Fin 2064) (d : Fin 512) : val_main_v35 (F := Ideal) x2 x4 x6 (ix3 s x d) = yv (b s x) (gb s x) ob d :=
  yA_at (swap A) s x d

theorem halfB_at (s : Fin 2) (x : Fin 2064) : val_main_v28 (F := Ideal) x2 (ix3 s x 0)
    = ((-(1 / 2) : ℝ) : EReal) * Ideal.div (rs (b s x)) (ms (b s x)) := halfA_at (swap A) s x

theorem dnB_at (s : Fin 2) (x : Fin 2064) (d : Fin 512) : val_main_v44 (F := Ideal) x0 x4 x7 (ix3 s x d) = dn (gb s x) (fun e => dy (t s x) w (512 + e)) d := by
  have hd := d.isLt
  pointwise [val_main_v44, val_main_v42]
  exact mulE (dy_at A s x ⟨512 + d.val, by omega⟩) (slB_at A s x d)

theorem zB_at (s : Fin 2) (x : Fin 2064) (d : Fin 512) : val_main_v43 (F := Ideal) x0 x2 x6 x7 (ix3 s x d)
    = xh (b s x) d * ob d * dy (t s x) w (512 + d) := by
  have hd := d.isLt
  pointwise [val_main_v43, val_main_v42]
  exact mulE (xoB_at A s x d) (dy_at A s x ⟨512 + d.val, by omega⟩)

theorem dGB_at (s : Fin 2) (x : Fin 2064) (d : Fin 512) : val_main_v45 (F := Ideal) x0 x2 x4 x6 x7 (ix3 s x d)
    = dG (b s x) (gb s x) ob (fun e => dy (t s x) w (512 + e)) d := by
  have hd := d.isLt
  pointwise [val_main_v45, val_main_call2_v1, val_main_call2_v2, val_main_call2_v0]
  refine (addE (mulE (zB_at A s x d) (sgB_at A s x d))
    (mulE (mulE (A.a4 s x d) (zB_at A s x d)) (sdB_at A s x d))).trans ?_
  exact dG_of (b s x) (gb s x) ob (fun e => dy (t s x) w (512 + e)) d (fun e => realE A.f2 (A.a2 s x e)) (realE A.f4 (A.a4 s x d))
    (realE A.f6 (A.a6 d)) (dy_fin A s x ⟨512 + d.val, by omega⟩)

theorem doB_at (s : Fin 2) (x : Fin 2064) (d : Fin 512) : val_main_v50 (F := Ideal) x0 x4 x6 x7 (ix3 s x d)
    = dn (gb s x) (fun e => dy (t s x) w (512 + e)) d * ob d := by
  pointwise [val_main_v50, val_main_v49, val_main_v31]
  exact mulE (dnB_at A s x d) (A.a6 d)

theorem rowB_at (s : Fin 2) (x : Fin 2064) : val_main_v54 (F := Ideal) x0 x2 x4 x6 x7 (ix3 s x 0)
    = ∑ e : Fin 512, b s x e * (dn (gb s x) (fun e => dy (t s x) w (512 + e)) e * ob e) := by
  pointwise [val_main_v54, val_main_v53, val_main_v52, val_main_cst_9]
  exact sumE fun e : Fin 512 => mulE (A.a2 s x e) (doB_at A s x e)

theorem corrB_at (s : Fin 2) (x : Fin 2064) (d : Fin 512) : val_main_v61 (F := Ideal) x0 x2 x4 x6 x7 (ix3 s x d)
    = Ideal.div ((∑ e : Fin 512, b s x e * (dn (gb s x) (fun e => dy (t s x) w (512 + e)) e * ob e))
      * (((-(1 / 2) : ℝ) : EReal) * Ideal.div (rs (b s x)) (ms (b s x)))) ((512 : ℝ) : EReal) := by
  pointwise [val_main_v61, val_main_v60, val_main_v59, val_main_v58, val_main_v57, val_main_cst_10, val_main_cst_11]
  simp only [Finset.univ_unique, Finset.sum_singleton, Fin.default_eq_zero]
  rw [mulE (rowB_at A s x) (halfB_at A s x), n_lit]

theorem dAB_at (s : Fin 2) (x : Fin 2064) (d : Fin 512) : val_main_v65 (F := Ideal) x0 x2 x4 x6 x7 (ix3 s x d)
    = dA (b s x) (gb s x) ob (fun e => dy (t s x) w (512 + e)) d := by
  pointwise [val_main_v65, val_main_v64, val_main_v63, val_main_v62, val_main_v56, val_main_v55]
  refine (addE (addE (mulE (doB_at A s x d) (rsB_at A s x)) (mulE (A.a2 s x d) (corrB_at A s x d)))
    (mulE (corrB_at A s x d) (A.a2 s x d))).trans ?_
  exact dA_lines (b s x) (gb s x) ob (fun e => dy (t s x) w (512 + e)) d _ (fun e => realE A.f2 (A.a2 s x e)) rfl

theorem gainB_at (d : Fin 512) : val_main_v51 (F := Ideal) x0 x2 x4 x7 (ix1 d)
    = ∑ s : Fin 2, ∑ x : Fin 2064, xh (b s x) d * dn (gb s x) (fun e => dy (t s x) w (512 + e)) d := by
  pointwise [val_main_v51]
  simp only [sum01 reducesTo_S1x1x512_S512_d0_1 (by decide) rfl rfl]
  pointwise [val_main_v48, val_main_v47, val_main_cst_8]
  simp only [Finset.univ_unique, Finset.sum_singleton, Fin.default_eq_zero]
  simp only [sum01 reducesTo_S2x2064x512_S512_d0_1 (by decide) rfl rfl]
  pointwise [val_main_v46, val_main_cst_7]
  exact sumE fun s : Fin 2 => sumE fun x : Fin 2064 => mulE (xhB_at A s x d) (dnB_at A s x d)

end Cert.OutReferenceIdeal.Proj

end
-- ==== Proof.OutResults.lean ====
/-
  The six results of `out_projection_bwd` in the call's layout.
-/
module

public import proofs.«01_k».proof.Proof.OutRef

@[expose] public section

set_option maxRecDepth 16384

noncomputable section

namespace Cert.OutReferenceIdeal.Proj

open Cert.OutReferenceIdeal Cert.OutReferenceIdeal.Gen Cert.OutReferenceIdeal.Read Idealize.ShloMosaic Cert.Gated
open Cert.Proj (eps_lit atR atR_lo atR_pad atR_hi inter dite_eq)
open Cert.InKernelIdeal.Proj (sumE addE subE mulE)

variable {x0 : FVec Ideal S2x2064x1024 .f32} {x1 x2 x3 x4 : FVec Ideal S2x2064x512 .f32} {x5 x6 : FVec Ideal S512 .f32}
    {x7 : FVec Ideal S1024x1024 .f32} {t a b ga gb : ℕ → ℕ → ℕ → EReal} {oa ob : ℕ → EReal} {w : ℕ → ℕ → EReal}
variable (A : Args x0 x1 x2 x3 x4 x5 x6 x7 t a b ga gb oa ob w)

section
include A

theorem headsA_at (s : Fin 2) (x : Fin 2064) (d : Fin 512) : val_main_v95 (F := Ideal) x0 x1 x3 x5 x7 (ix3 s x d)
    = dA (a s x) (ga s x) oa (dy (t s x) w) (inter d) := by
  have hd := d.isLt
  pointwise [val_main_v95, val_main_v94, val_main_v93]
  refine (dAA_at A _ _ _).trans (congrArg (dA (a s x) (ga s x) oa (dy (t s x) w)) ?_)
  unfold inter
  dsimp only
  omega

theorem headsG_at (s : Fin 2) (x : Fin 2064) (d : Fin 512) : val_main_v108 (F := Ideal) x0 x1 x3 x5 x7 (ix3 s x d)
    = dG (a s x) (ga s x) oa (dy (t s x) w) (inter d) := by
  have hd := d.isLt
  pointwise [val_main_v108, val_main_v107, val_main_v106]
  refine (dGA_at A _ _ _).trans (congrArg (dG (a s x) (ga s x) oa (dy (t s x) w)) ?_)
  unfold inter
  dsimp only
  omega

/-- The gradient of the first half, by padded row. -/
theorem a_ref (R : Fin 4352) (d : Fin 512) : val_main_v100 (F := Ideal) x0 x1 x3 x5 x7 (ix2 R d)
    = atR (fun s x d => dA (a s x) (ga s x) oa (dy (t s x) w) (inter d)) R d := by
  pointwise [val_main_v100, val_main_v99]
  refine dite_eq (fun h1 => ?_) (fun h1 => dite_eq (fun h2 => ?_) (fun h2 => ?_))
  · pointwise [val_main_v96]
    exact (headsA_at A _ _ _).trans (atR_lo (fun s x d => dA (a s x) (ga s x) oa (dy (t s x) w) (inter d)) h1)
  · pointwise [val_main_v97, val_main_cst_17]
    exact (atR_pad _ h1 h2).symm
  · pointwise [val_main_v98]
    exact (headsA_at A _ _ _).trans (atR_hi (fun s x d => dA (a s x) (ga s x) oa (dy (t s x) w) (inter d)) h1 h2)

/-- The gradient of the second half, by padded row. -/
theorem b_ref (R : Fin 4352) (d : Fin 512) : val_main_v105 (F := Ideal) x0 x2 x4 x6 x7 (ix2 R d)
    = atR (fun s x d => dA (b s x) (gb s x) ob (fun e => dy (t s x) w (512 + e)) d) R d := by
  pointwise [val_main_v105, val_main_v104]
  refine dite_eq (fun h1 => ?_) (fun h1 => dite_eq (fun h2 => ?_) (fun h2 => ?_))
  · pointwise [val_main_v101]
    exact (dAB_at A _ _ _).trans (atR_lo (fun s x d => dA (b s x) (gb s x) ob (fun e => dy (t s x) w (512 + e)) d) h1)
  · pointwise [val_main_v102, val_main_cst_18]
    exact (atR_pad _ h1 h2).symm
  · pointwise [val_main_v103]
    exact (dAB_at A _ _ _).trans (atR_hi (fun s x d => dA (b s x) (gb s x) ob (fun e => dy (t s x) w (512 + e)) d) h1 h2)

theorem gates_at (s : Fin 2) (x : Fin 2064) (l : Fin 1024) : val_main_v109 (F := Ideal) x0 x1 x2 x3 x4 x5 x6 x7 (ix3 s x l)
    = both (fun d => dG (a s x) (ga s x) oa (dy (t s x) w) (inter d)) (dG (b s x) (gb s x) ob fun e => dy (t s x) w (512 + e)) l := by
  have hl := l.isLt
  unfold both
  pointwise [val_main_v109]
  refine dite_eq (fun h => ?_) (fun h => ?_)
  · rw [if_pos h]
    exact headsG_at A s x ⟨l, h⟩
  · rw [if_neg h]
    exact dGB_at A s x ⟨l - 512, by omega⟩

/-- The gradients of the gates, by padded row. -/
theorem g_ref (R : Fin 4352) (l : Fin 1024) : val_main_v115 (F := Ideal) x0 x1 x2 x3 x4 x5 x6 x7 (ix2 R l)
    = atR (fun s x l => both (fun d => dG (a s x) (ga s x) oa (dy (t s x) w) (inter d))
        (dG (b s x) (gb s x) ob fun e => dy (t s x) w (512 + e)) l) R l := by
  pointwise [val_main_v115, val_main_v114, val_main_v113]
  refine dite_eq (fun h1 => ?_) (fun h1 => dite_eq (fun h2 => ?_) (fun h2 => ?_))
  · pointwise [val_main_v110]
    exact (gates_at A _ _ _).trans (atR_lo (fun s x l => both (fun d => dG (a s x) (ga s x) oa (dy (t s x) w) (inter d))
        (dG (b s x) (gb s x) ob fun e => dy (t s x) w (512 + e)) l) h1)
  · pointwise [val_main_v111, val_main_cst_19]
    exact (atR_pad _ h1 h2).symm
  · pointwise [val_main_v112]
    exact (gates_at A _ _ _).trans (atR_hi (fun s x l => both (fun d => dG (a s x) (ga s x) oa (dy (t s x) w) (inter d))
        (dG (b s x) (gb s x) ob fun e => dy (t s x) w (512 + e)) l) h1 h2)

theorem y_at (s : Fin 2) (x : Fin 2064) (k : Fin 1024) : val_main_v36 (F := Ideal) x1 x2 x3 x4 x5 x6 (ix3 s x k)
    = both (yv (a s x) (ga s x) oa) (yv (b s x) (gb s x) ob) k := by
  have hk := k.isLt
  unfold both
  pointwise [val_main_v36]
  refine dite_eq (fun h => ?_) (fun h => ?_)
  · rw [if_pos h]
    exact yA_at A s x ⟨k, h⟩
  · rw [if_neg h]
    exact yB_at A s x ⟨k - 512, by omega⟩

theorem wcol_at (j k : Fin 1024) : val_main_v38 (F := Ideal) x0 x1 x2 x3 x4 x5 x6 (ix2 j k)
    = ∑ s : Fin 2, ∑ x : Fin 2064, t s x j * both (yv (a s x) (ga s x) oa) (yv (b s x) (gb s x) ob) k := by
  unfold val_main_v38
  simp only [Host.dotGeneral]
  rw [Ideal.dotGeneral_apply, ValueIdx.sum_contr2 _ 2 2064 rfl rfl rfl]
  refine sumE fun s : Fin 2 => sumE fun x : Fin 2064 => ?_
  have h0 := ValueIdx.contrEquiv2_symm_val0 dot_S2x2064x1024_S2x2064x1024_S1024x1024_01_01_2_2_n_n 2 2064 rfl rfl rfl (s, x)
  have h1 := ValueIdx.contrEquiv2_symm_val1 dot_S2x2064x1024_S2x2064x1024_S1024x1024_01_01_2_2_n_n 2 2064 rfl rfl rfl (s, x)
  have el : dot_S2x2064x1024_S2x2064x1024_S1024x1024_01_01_2_2_n_n.lhsIdx (ix2 j k)
      ((ValueIdx.contrEquiv2 dot_S2x2064x1024_S2x2064x1024_S1024x1024_01_01_2_2_n_n 2 2064 rfl rfl rfl).symm (s, x)) = ix3 s x j := by
    funext a; apply Fin.ext
    match a with
    | ⟨0, _⟩ => exact h0
    | ⟨1, _⟩ => exact h1
    | ⟨2, _⟩ => rfl
  have er : dot_S2x2064x1024_S2x2064x1024_S1024x1024_01_01_2_2_n_n.rhsIdx (ix2 j k)
      ((ValueIdx.contrEquiv2 dot_S2x2064x1024_S2x2064x1024_S1024x1024_01_01_2_2_n_n 2 2064 rfl rfl rfl).symm (s, x)) = ix3 s x k := by
    funext a; apply Fin.ext
    match a with
    | ⟨0, _⟩ => exact h0
    | ⟨1, _⟩ => exact h1
    | ⟨2, _⟩ => rfl
  rw [el, er]
  exact mulE (A.a0 s x j) (y_at A s x k)

end

theorem rows_at (f : ℕ → EReal) (j : Fin 1024) (key : ∀ k : Fin 1024, val_main_v38 (F := Ideal) x0 x1 x2 x3 x4 x5 x6 (ix2 j k) = f k)
    (k : Fin 1024) : val_main_v117 (F := Ideal) x0 x1 x2 x3 x4 x5 x6 (ix2 k j) = f (if k.val < 512 then inter k else k.val) := by
  have hk := k.isLt
  have hj := j.isLt
  pointwise [val_main_v117]
  refine dite_eq (fun h => ?_) (fun h => ?_)
  · rw [if_pos h]
    pointwise [val_main_v92, val_main_v91, val_main_v90, val_main_v89, val_main_v39]
    refine (key _).trans (congrArg f ?_)
    unfold inter
    dsimp only
    omega
  · rw [if_neg h]
    pointwise [val_main_v116, val_main_v39]
    refine (key _).trans (congrArg f ?_)
    dsimp only
    omega

include A

/-- The gradient of the weight. -/
theorem w_ref (k j : Fin 1024) : val_main_v117 (F := Ideal) x0 x1 x2 x3 x4 x5 x6 (ix2 k j)
    = ∑ s : Fin 2, ∑ x : Fin 2064, t s x j * both (yv (a s x) (ga s x) oa) (yv (b s x) (gb s x) ob) (if k.val < 512 then inter k else k.val) :=
  rows_at (fun k => ∑ s : Fin 2, ∑ x : Fin 2064, t s x j * both (yv (a s x) (ga s x) oa) (yv (b s x) (gb s x) ob) k) j (wcol_at A j) k

/-- The gradient of the first gain. -/
theorem ga_ref (d : Fin 512) : val_main_v120 (F := Ideal) x0 x1 x3 x7 (ix2 0 d)
    = ∑ s : Fin 2, ∑ x : Fin 2064, xh (a s x) (inter d) * dn (ga s x) (dy (t s x) w) (inter d) := by
  have hd := d.isLt
  pointwise [val_main_v120, val_main_v119, val_main_v118]
  refine (gainA_at A _).trans (congrArg (fun e : ℕ => ∑ s : Fin 2, ∑ x : Fin 2064, xh (a s x) e * dn (ga s x) (dy (t s x) w) e) ?_)
  unfold inter
  dsimp only
  omega

/-- The gradient of the second gain. -/
theorem gb_ref (d : Fin 512) : val_main_v121 (F := Ideal) x0 x2 x4 x7 (ix2 0 d)
    = ∑ s : Fin 2, ∑ x : Fin 2064, xh (b s x) d * dn (gb s x) (fun e => dy (t s x) w (512 + e)) d := by
  pointwise [val_main_v121]
  exact gainB_at A d

end Cert.OutReferenceIdeal.Proj

end
-- ==== Proof.OutAlgebraic.lean ====
/-
  `out_bwd` and the reference's `out_projection_bwd` compute the same gradients over the extended reals, for real arguments.
-/
module

public import proofs.«01_k».proof.Defs
public import proofs.«01_k».proof.Proof.Inputs
public import proofs.«01_k».proof.Proof.InAlgebraic
public import proofs.«01_k».proof.Proof.OutPrefix
public import proofs.«01_k».proof.Proof.OutResults
public import proofs.«01_k».proof.Proof.Gen.Pre_finite_out

@[expose] public section

set_option maxRecDepth 16384

noncomputable section

namespace Cert.Gated

open Cert.KernelIdeal.Mla (pad orig)
open Cert.Proj (atR atR_pos atR_zero inter sum_all)
open Cert.OutKernelIdeal.Proj (rowsW rowW rowG rowGa rowGb)

theorem dA_congr {a g o p q : ℕ → EReal} (h : ∀ e : Fin 512, p e = q e) (d : Fin 512) : dA a g o p d = dA a g o q d := by
  simp only [dA, dn, h]

theorem dG_congr {a g o p q : ℕ → EReal} {d : ℕ} (h : p d = q d) : dG a g o p d = dG a g o q d := by
  simp only [dG, h]

theorem dn_congr {g p q : ℕ → EReal} {d : ℕ} (h : p d = q d) : dn g p d = dn g q d := by
  simp only [dn, h]

theorem both_congr {f g f' g' : ℕ → EReal} (l : Fin 1024) (hf : ∀ d : Fin 512, f d = f' d) (hg : ∀ d : Fin 512, g d = g' d) :
    both f g l = both f' g' l := by
  have hl := l.isLt
  unfold both
  by_cases h : l.val < 512
  · rw [if_pos h, if_pos h]
    exact hf ⟨l, h⟩
  · rw [if_neg h, if_neg h]
    exact hg ⟨l - 512, by omega⟩

theorem dy_lo (h : ℕ → EReal) (w : ℕ → ℕ → EReal) (d : Fin 512) : dy h (rowsW w) d = dy h w (inter d) := by
  simp only [dy, rowsW, if_pos d.isLt]

theorem dy_hi (h : ℕ → EReal) (w : ℕ → ℕ → EReal) (e : ℕ) : dy h (rowsW w) (512 + e) = dy h w (512 + e) := by
  simp only [dy, rowsW, if_neg (show ¬ 512 + e < 512 by omega)]

section
variable (t a b ga gb : ℕ → ℕ → ℕ → EReal) (oa ob : ℕ → EReal) (w : ℕ → ℕ → EReal)

theorem dy_pad {R : ℕ} (h : pad (R % 2176)) (w : ℕ → ℕ → EReal) (d : ℕ) : dy (atR t R) w d = 0 := by
  simp only [dy, atR_zero t h, zero_mul, Finset.sum_const_zero]

theorem row_of (f : ℕ → ℕ → ℕ → EReal) {R : ℕ} (h : ¬ pad (R % 2176)) : atR f R = f (R / 2176) (orig (R % 2176)) := funext (atR_pos f h)

/-- The first half's gradient at a padded row. -/
theorem dA_lo (R : ℕ) (d : Fin 512) : dA (fun d => atR a R (inter d)) (fun d => atR ga R (inter d)) (fun d => oa (inter d)) (dy (atR t R) (rowsW w)) d
    = atR (fun s x d => dA (a s x) (ga s x) oa (dy (t s x) w) (inter d)) R d := by
  by_cases h : pad (R % 2176)
  · rw [atR_zero _ h]
    exact dA_zero _ _ _ _ _ (atR_zero a h _) (dy_pad t h _ _)
  · rw [atR_pos _ h, row_of a h, row_of ga h, row_of t h]
    exact (dA_congr (dy_lo _ w) d).trans (dA_inter _ _ _ _ _)

/-- The second half's gradient at a padded row. -/
theorem dA_hi (R : ℕ) (d : Fin 512) : dA (atR b R) (atR gb R) ob (fun e => dy (atR t R) (rowsW w) (512 + e)) d
    = atR (fun s x d => dA (b s x) (gb s x) ob (fun e => dy (t s x) w (512 + e)) d) R d := by
  by_cases h : pad (R % 2176)
  · rw [atR_zero _ h]
    exact dA_zero _ _ _ _ _ (atR_zero b h _) (dy_pad t h _ _)
  · rw [atR_pos _ h, row_of b h, row_of gb h, row_of t h]
    exact dA_congr (fun e => dy_hi _ w e) d

/-- The gates' gradients at a padded row. -/
theorem dG_row (R : ℕ) (l : Fin 1024) : rowG (atR t) (fun R d => atR a R (inter d)) (atR b) (fun R d => atR ga R (inter d)) (atR gb)
      (fun d => oa (inter d)) ob (rowsW w) R l
    = atR (fun s x l => both (fun d => dG (a s x) (ga s x) oa (dy (t s x) w) (inter d))
        (dG (b s x) (gb s x) ob fun e => dy (t s x) w (512 + e)) l) R l := by
  unfold rowG
  beta_reduce
  by_cases h : pad (R % 2176)
  · rw [atR_zero _ h]
    refine (both_congr (f' := fun _ => 0) (g' := fun _ => 0) l (fun d => dG_zero _ _ _ _ _ (dy_pad t h _ _))
      (fun d => dG_zero _ _ _ (fun e => dy (atR t R) (rowsW w) (512 + e)) _ (dy_pad t h _ _))).trans ?_
    exact ite_self _
  · rw [atR_pos _ h, row_of a h, row_of ga h, row_of b h, row_of gb h, row_of t h]
    exact both_congr l (fun d => (dG_congr (dy_lo _ w d)).trans (dG_inter _ _ _ (dy _ w) _)) (fun d => dG_congr (dy_hi _ w d))

/-- A row's halves in the call's order. -/
theorem y_row (a b ga gb : ℕ → EReal) (k : ℕ) :
    both (yv (fun d => a (inter d)) (fun d => ga (inter d)) fun d => oa (inter d)) (yv b gb ob) k
      = both (yv a ga oa) (yv b gb ob) (if k < 512 then inter k else k) := by
  by_cases h : k < 512
  · rw [if_pos h, both, if_pos h, both, if_pos (inter_ok ⟨k, h⟩).1]
    exact yv_inter _ _ _ _
  · rw [if_neg h, both, if_neg h, both, if_neg h]

/-- The weight's gradient: rows of the call against tokens. -/
theorem sum_weight (k j : ℕ) : ∑ R : Fin 4352, rowW (atR t) (fun R d => atR a R (inter d)) (atR b) (fun R d => atR ga R (inter d)) (atR gb)
      (fun d => oa (inter d)) ob k j R
    = ∑ s : Fin 2, ∑ x : Fin 2064, t s x j * both (yv (a s x) (ga s x) oa) (yv (b s x) (gb s x) ob) (if k < 512 then inter k else k) := by
  refine sum_all _ (fun s x => t s x j * both (yv (a s x) (ga s x) oa) (yv (b s x) (gb s x) ob) (if k < 512 then inter k else k))
    (fun R h => ?_) (fun R h => ?_)
  · rw [rowW, atR_zero t h, mul_zero]
  · rw [rowW, row_of a h, row_of ga h, row_of b h, row_of gb h, row_of t h, mul_comm, y_row]

/-- The first gain's gradient. -/
theorem sum_ga (d : Fin 512) : ∑ R : Fin 4352, rowGa (atR t) (fun R d => atR a R (inter d)) (fun R d => atR ga R (inter d)) (rowsW w) d R
    = ∑ s : Fin 2, ∑ x : Fin 2064, xh (a s x) (inter d) * dn (ga s x) (dy (t s x) w) (inter d) := by
  refine sum_all _ (fun s x => xh (a s x) (inter d) * dn (ga s x) (dy (t s x) w) (inter d)) (fun R h => ?_) (fun R h => ?_)
  · rw [rowGa, dn_zero _ _ _ (dy_pad t h _ _), zero_mul]
  · rw [rowGa, row_of a h, row_of ga h, row_of t h, mul_comm, xh_inter]
    exact congrArg (xh (a (R / 2176) (orig (R % 2176))) (inter d) * ·) (congrArg (· * _) (dy_lo _ w d))

/-- The second gain's gradient. -/
theorem sum_gb (d : Fin 512) : ∑ R : Fin 4352, rowGb (atR t) (atR b) (atR gb) (rowsW w) d R
    = ∑ s : Fin 2, ∑ x : Fin 2064, xh (b s x) d * dn (gb s x) (fun e => dy (t s x) w (512 + e)) d := by
  refine sum_all _ (fun s x => xh (b s x) d * dn (gb s x) (fun e => dy (t s x) w (512 + e)) d) (fun R h => ?_) (fun R h => ?_)
  · rw [rowGb, dn_zero _ (fun e => dy (atR t R) (rowsW w) (512 + e)) _ (dy_pad t h _ _), zero_mul]
  · rw [rowGb, row_of b h, row_of gb h, row_of t h, mul_comm]
    exact congrArg (xh (b (R / 2176) (orig (R % 2176))) d * ·) (congrArg (· * _) (dy_hi _ w d))
end

end Cert.Gated

namespace Cert.OutAlgebraic

open Idealize.ShloMosaic Idealize.SL.Sem Cert.Gated
open Cert.InAlgebraic (nat1 nat2 nat3 nat1_at nat2_at nat3_at)
open Cert.OutReferenceIdeal.Read

section
variable (m : (ℓ : Loc Cert.OutKernelIdeal.nD Cert.OutKernelIdeal.τ Cert.OutKernelIdeal.sig) → Buf (Elt Ideal) ℓ)
  (hp : Cert.Pre_OutKernelIdeal_finite_out m) (c : Dev Cert.OutKernelIdeal.nD)

def y0 : FVec Ideal Cert.OutReferenceIdeal.S2x2064x1024 .f32 := m ((c.tc : Thread Cert.OutKernelIdeal.nD Cert.OutKernelIdeal.τ).loc Cert.OutKernelIdeal.main_arg0)
def y1 : FVec Ideal Cert.OutReferenceIdeal.S2x2064x512 .f32 := m ((c.tc : Thread Cert.OutKernelIdeal.nD Cert.OutKernelIdeal.τ).loc Cert.OutKernelIdeal.main_arg1)
def y2 : FVec Ideal Cert.OutReferenceIdeal.S2x2064x512 .f32 := m ((c.tc : Thread Cert.OutKernelIdeal.nD Cert.OutKernelIdeal.τ).loc Cert.OutKernelIdeal.main_arg2)
def y3 : FVec Ideal Cert.OutReferenceIdeal.S2x2064x512 .f32 := m ((c.tc : Thread Cert.OutKernelIdeal.nD Cert.OutKernelIdeal.τ).loc Cert.OutKernelIdeal.main_arg3)
def y4 : FVec Ideal Cert.OutReferenceIdeal.S2x2064x512 .f32 := m ((c.tc : Thread Cert.OutKernelIdeal.nD Cert.OutKernelIdeal.τ).loc Cert.OutKernelIdeal.main_arg4)
def y5 : FVec Ideal Cert.OutReferenceIdeal.S512 .f32 := m ((c.tc : Thread Cert.OutKernelIdeal.nD Cert.OutKernelIdeal.τ).loc Cert.OutKernelIdeal.main_arg5)
def y6 : FVec Ideal Cert.OutReferenceIdeal.S512 .f32 := m ((c.tc : Thread Cert.OutKernelIdeal.nD Cert.OutKernelIdeal.τ).loc Cert.OutKernelIdeal.main_arg6)
def y7 : FVec Ideal Cert.OutReferenceIdeal.S1024x1024 .f32 := m ((c.tc : Thread Cert.OutKernelIdeal.nD Cert.OutKernelIdeal.τ).loc Cert.OutKernelIdeal.main_arg7)

include hp in
/-- The reference's arguments as functions of numbers, real by the precondition. -/
theorem refArgs : Cert.OutReferenceIdeal.Proj.Args (y0 m c) (y1 m c) (y2 m c) (y3 m c) (y4 m c) (y5 m c) (y6 m c) (y7 m c)
    (nat3 (y0 m c)) (nat3 (y1 m c)) (nat3 (y2 m c)) (nat3 (y3 m c)) (nat3 (y4 m c)) (nat1 (y5 m c)) (nat1 (y6 m c)) (nat2 (y7 m c)) := by
  have h := hp c
  dsimp only [Pre_finite_out.fn, Pre_finite_out.fn_part1] at h
  obtain ⟨h0, h1, h2, h3, h4, h5, h6, h7⟩ := h
  exact {
    a0 := nat3_at (y0 m c)
    a1 := nat3_at (y1 m c)
    a2 := nat3_at (y2 m c)
    a3 := nat3_at (y3 m c)
    a4 := nat3_at (y4 m c)
    a5 := nat1_at (y5 m c)
    a6 := nat1_at (y6 m c)
    a7 := nat2_at (y7 m c)
    f0 := Inputs.fin_of _ _ _ _ h0
    f1 := Inputs.fin_of _ _ _ _ h1
    f2 := Inputs.fin_of _ _ _ _ h2
    f3 := Inputs.fin_of _ _ _ _ h3
    f4 := Inputs.fin_of _ _ _ _ h4
    f5 := Inputs.fin_of _ _ _ _ h5
    f6 := Inputs.fin_of _ _ _ _ h6
    f7 := Inputs.fin_of _ _ _ _ h7 }

/-- The kernel's arguments as the same functions. -/
theorem kernelArgs : Cert.OutKernelIdeal.Proj.Args m c
    (nat3 (y0 m c)) (nat3 (y1 m c)) (nat3 (y2 m c)) (nat3 (y3 m c)) (nat3 (y4 m c)) (nat1 (y5 m c)) (nat1 (y6 m c)) (nat2 (y7 m c)) where
  a0 := nat3_at (y0 m c)
  a1 := nat3_at (y1 m c)
  a2 := nat3_at (y2 m c)
  a3 := nat3_at (y3 m c)
  a4 := nat3_at (y4 m c)
  a5 := nat1_at (y5 m c)
  a6 := nat1_at (y6 m c)
  a7 := nat2_at (y7 m c)

include hp

theorem da (i : Cert.OutKernelIdeal.S4352x512.Idx) : val_main_v100 (F := Ideal) (y0 m c) (y1 m c) (y3 m c) (y5 m c) (y7 m c) i
    = (Cert.OutKernelIdeal.Gen.dats m 0 c).arrAt 8 Cert.OutKernelIdeal.cfg0.N i := by
  refine Eq.trans ?_ (OutKernelIdeal.Proj.a_arr (OutKernelIdeal.Proj.operands (kernelArgs m c)) i).symm
  refine Eq.trans ?_ (dA_lo _ _ _ _ _ _ (i 1)).symm
  exact (congrArg _ (eq_ix2 i)).trans (Cert.OutReferenceIdeal.Proj.a_ref (refArgs m hp c) (i 0) (i 1))

theorem db (i : Cert.OutKernelIdeal.S4352x512.Idx) : val_main_v105 (F := Ideal) (y0 m c) (y2 m c) (y4 m c) (y6 m c) (y7 m c) i
    = (Cert.OutKernelIdeal.Gen.dats m 0 c).arrAt 9 Cert.OutKernelIdeal.cfg0.N i := by
  refine Eq.trans ?_ (OutKernelIdeal.Proj.b_arr (OutKernelIdeal.Proj.operands (kernelArgs m c)) i).symm
  refine Eq.trans ?_ (dA_hi _ _ _ _ _ _ (i 1)).symm
  exact (congrArg _ (eq_ix2 i)).trans (Cert.OutReferenceIdeal.Proj.b_ref (refArgs m hp c) (i 0) (i 1))

theorem dgate (i : Cert.OutKernelIdeal.S4352x1024.Idx) : val_main_v115 (F := Ideal) (y0 m c) (y1 m c) (y2 m c) (y3 m c) (y4 m c) (y5 m c) (y6 m c) (y7 m c) i
    = (Cert.OutKernelIdeal.Gen.dats m 0 c).arrAt 10 Cert.OutKernelIdeal.cfg0.N i := by
  refine Eq.trans ?_ (OutKernelIdeal.Proj.g_arr (OutKernelIdeal.Proj.operands (kernelArgs m c)) i).symm
  refine Eq.trans ?_ (dG_row _ _ _ _ _ _ _ _ _ (i 1)).symm
  exact (congrArg _ (eq_ix2 i)).trans (Cert.OutReferenceIdeal.Proj.g_ref (refArgs m hp c) (i 0) (i 1))

theorem dw (i : Cert.OutKernelIdeal.S1024x1024.Idx) : val_main_v117 (F := Ideal) (y0 m c) (y1 m c) (y2 m c) (y3 m c) (y4 m c) (y5 m c) (y6 m c) i
    = (Cert.OutKernelIdeal.Gen.dats m 0 c).arrAt 11 Cert.OutKernelIdeal.cfg0.N i := by
  refine Eq.trans ?_ (OutKernelIdeal.Proj.w_arr (OutKernelIdeal.Proj.operands (kernelArgs m c)) i).symm
  refine Eq.trans ?_ (sum_weight _ _ _ _ _ _ _ _ _).symm
  exact (congrArg _ (eq_ix2 i)).trans (Cert.OutReferenceIdeal.Proj.w_ref (refArgs m hp c) (i 0) (i 1))

theorem dga (i : Cert.OutKernelIdeal.S1x512.Idx) : val_main_v120 (F := Ideal) (y0 m c) (y1 m c) (y3 m c) (y7 m c) i
    = (Cert.OutKernelIdeal.Gen.dats m 0 c).arrAt 12 Cert.OutKernelIdeal.cfg0.N i := by
  refine Eq.trans ?_ (OutKernelIdeal.Proj.ga_arr (OutKernelIdeal.Proj.operands (kernelArgs m c)) i).symm
  refine Eq.trans ?_ (sum_ga _ _ _ _ (i 1)).symm
  have h0 : i 0 = (0 : Fin 1) := Fin.ext (Nat.lt_one_iff.mp (i 0).isLt)
  refine (congrArg _ ((eq_ix2 i).trans ?_)).trans (Cert.OutReferenceIdeal.Proj.ga_ref (refArgs m hp c) (i 1))
  rw [h0]

theorem dgb (i : Cert.OutKernelIdeal.S1x512.Idx) : val_main_v121 (F := Ideal) (y0 m c) (y2 m c) (y4 m c) (y7 m c) i
    = (Cert.OutKernelIdeal.Gen.dats m 0 c).arrAt 13 Cert.OutKernelIdeal.cfg0.N i := by
  refine Eq.trans ?_ (OutKernelIdeal.Proj.gb_arr (OutKernelIdeal.Proj.operands (kernelArgs m c)) i).symm
  refine Eq.trans ?_ (sum_gb _ _ _ _ (i 1)).symm
  have h0 : i 0 = (0 : Fin 1) := Fin.ext (Nat.lt_one_iff.mp (i 0).isLt)
  refine (congrArg _ ((eq_ix2 i).trans ?_)).trans (Cert.OutReferenceIdeal.Proj.gb_ref (refArgs m hp c) (i 1))
  rw [h0]

end

set_option maxHeartbeats 1000000 in
theorem algebraic : Cert.algebraic_OutKernelIdeal_OutReferenceIdeal_pre_finite_out := by
  intro m g m' g' hp hagree
  refine ⟨fun c => (Cert.OutKernelIdeal.Gen.dats m 0 c).arrAt 8 Cert.OutKernelIdeal.cfg0.N,
    fun c => (Cert.OutKernelIdeal.Gen.dats m 0 c).arrAt 9 Cert.OutKernelIdeal.cfg0.N,
    fun c => (Cert.OutKernelIdeal.Gen.dats m 0 c).arrAt 10 Cert.OutKernelIdeal.cfg0.N,
    fun c => (Cert.OutKernelIdeal.Gen.dats m 0 c).arrAt 11 Cert.OutKernelIdeal.cfg0.N,
    fun c => (Cert.OutKernelIdeal.Gen.dats m 0 c).arrAt 12 Cert.OutKernelIdeal.cfg0.N,
    fun c => (Cert.OutKernelIdeal.Gen.dats m 0 c).arrAt 13 Cert.OutKernelIdeal.cfg0.N,
    ?_, ?_⟩
  · exact Cert.OutKernelIdeal.Value.run_blocks (F := Ideal) m g
  · refine (θ_run Cert.OutReferenceIdeal.defs _ _).mono (fun r h c => ?_) (Cert.OutReferenceIdeal.Value.run (F := Ideal) m' g')
    obtain ⟨e0, e1, e2, e3, e4, e5, e6, e7⟩ := hagree c
    refine ⟨(h c).1.trans (funext fun i => ?_), (h c).2.1.trans (funext fun i => ?_), (h c).2.2.1.trans (funext fun i => ?_),
      (h c).2.2.2.1.trans (funext fun i => ?_), (h c).2.2.2.2.1.trans (funext fun i => ?_), (h c).2.2.2.2.2.1.trans (funext fun i => ?_),
      (h c).2.2.2.2.2.2⟩
    · refine (congrFun (Cert.OutReferenceIdeal.Read.val_main_v100_eq m' c) i).trans ?_
      rw [e0, e1, e3, e5, e7]
      exact da m hp c i
    · refine (congrFun (Cert.OutReferenceIdeal.Read.val_main_v105_eq m' c) i).trans ?_
      rw [e0, e2, e4, e6, e7]
      exact db m hp c i
    · refine (congrFun (Cert.OutReferenceIdeal.Read.val_main_v115_eq m' c) i).trans ?_
      rw [e0, e1, e2, e3, e4, e5, e6, e7]
      exact dgate m hp c i
    · refine (congrFun (Cert.OutReferenceIdeal.Read.val_main_v117_eq m' c) i).trans ?_
      rw [e0, e1, e2, e3, e4, e5, e6]
      exact dw m hp c i
    · refine (congrFun (Cert.OutReferenceIdeal.Read.val_main_v120_eq _ _ _ _) i).trans ?_
      rw [e0, e1, e3, e7]
      exact dga m hp c i
    · refine (congrFun (Cert.OutReferenceIdeal.Read.val_main_v121_eq _ _ _ _) i).trans ?_
      rw [e0, e2, e4, e7]
      exact dgb m hp c i

end Cert.OutAlgebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Pre_finite
public import proofs.«01_k».proof.Proof.Gen.On_used_lanes
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.InReference
public import proofs.«01_k».proof.Proof.Gen.FwdKernel
public import proofs.«01_k».proof.Proof.Gen.FwdKernel.Skeleton
public import proofs.«01_k».proof.Proof.Gen.FwdKernel.Launch
public import proofs.«01_k».proof.Proof.Gen.FwdKernel.Points
public import proofs.«01_k».proof.Proof.Gen.FwdKernel.Frame
public import proofs.«01_k».proof.Proof.Gen.FwdKernelIdeal
public import proofs.«01_k».proof.Proof.Gen.FwdKernelIdeal.Skeleton
public import proofs.«01_k».proof.Proof.Gen.FwdKernelIdeal.Launch
public import proofs.«01_k».proof.Proof.Gen.FwdKernelIdeal.Points
public import proofs.«01_k».proof.Proof.Gen.FwdKernelIdeal.Frame
public import proofs.«01_k».proof.Proof.Gen.FwdKernelIdeal.Value
public import proofs.«01_k».proof.Proof.Gen.FwdReferenceIdeal
public import proofs.«01_k».proof.Proof.Gen.FwdReferenceIdeal.Run
public import proofs.«01_k».proof.Proof.Gen.FwdReferenceIdeal.Read
public import proofs.«01_k».proof.Proof.Gen.FwdReference
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.OutReference
public import proofs.«01_k».proof.Proof.Gen.Pre_finite_out
public import proofs.«01_k».proof.Proof.Algebraic
public import proofs.«01_k».proof.Proof.Frames
public import proofs.«01_k».proof.Proof.InAlgebraic
public import proofs.«01_k».proof.Proof.FwdAlgebraic
public import proofs.«01_k».proof.Proof.OutAlgebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts,
  Cert.InKernel.Gen.facts, Cert.InKernelIdeal.Gen.facts, Cert.InReferenceIdeal.Gen.facts, Cert.InReference.Gen.facts,
  Cert.FwdKernel.Gen.facts, Cert.FwdKernelIdeal.Gen.facts, Cert.FwdReferenceIdeal.Gen.facts, Cert.FwdReference.Gen.facts,
  Cert.OutKernel.Gen.facts, Cert.OutKernelIdeal.Gen.facts, Cert.OutReferenceIdeal.Gen.facts, Cert.OutReference.Gen.facts,
  Cert.Pre_finite.Gen.facts, Cert.Pre_finite_out.Gen.facts, Cert.On_used_lanes.Gen.facts,
  fun m ρ _ => Cert.Kernel.Gen.frame m ρ,
  fun m ρ _ => Cert.KernelIdeal.Gen.frame m ρ,
  fun m ρ _ => Cert.KernelIdeal.Gen.frame m ρ,
  Cert.Frames.referenceIdeal,
  fun m ρ _ => Cert.Frames.referenceIdeal m ρ trivial,
  Cert.Frames.reference,
  fun m ρ _ => Cert.InKernel.Gen.frame m ρ,
  fun m ρ _ => Cert.InKernelIdeal.Gen.frame m ρ,
  Cert.Frames.inReferenceIdeal,
  Cert.Frames.inReference,
  fun m ρ _ => Cert.FwdKernel.Gen.frame m ρ,
  fun m ρ _ => Cert.FwdKernelIdeal.Gen.frame m ρ,
  Cert.Frames.fwdReferenceIdeal,
  Cert.Frames.fwdReference,
  fun m ρ _ => Cert.OutKernel.Gen.frame m ρ,
  fun m ρ _ => Cert.OutKernelIdeal.Gen.frame m ρ,
  fun m ρ _ => Cert.OutKernelIdeal.Gen.frame m ρ,
  Cert.Frames.outReferenceIdeal,
  fun m ρ _ => Cert.Frames.outReferenceIdeal m ρ trivial,
  Cert.Frames.outReference,
  ⟨IdealRules.named_const.statement Cert.KernelIdeal.κ "mask" .f32 0xF149F2CA#32 ⊥ rfl,
    IdealRules.named_const.statement Cert.KernelIdeal.κ "ln2" .f32 0x3F317218#32 _ rfl,
    IdealRules.named_const.statement Cert.KernelIdeal.κ "qs" .f32 0x3E16C740#32 _ rfl⟩,
  trivial,
  Cert.Algebraic.algebraic,
  trivial,
  trivial,
  Cert.InAlgebraic.algebraic,
  IdealRules.named_const.statement Cert.FwdKernelIdeal.κ "qa" .f32 0x3E38AA3B#32 _ rfl,
  trivial,
  Cert.FwdAlgebraic.algebraic,
  trivial,
  trivial,
  Cert.OutAlgebraic.algebraic⟩

end Cert.Proof

end
